-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padding_is_zero [hPre_padding_is_zero : Cert.Pre_padding_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_padding_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padding_is_zero [hPre_padding_is_zero : Cert.Pre_padding_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padding_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_padding_is_zero [hKernelIdeal : Cert.KernelIdeal.Facts] [hPre_padding_is_zero : Cert.Pre_padding_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padding_is_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_padding_is_zero [hReferenceIdeal : Cert.ReferenceIdeal.Facts] [hPre_padding_is_zero : Cert.Pre_padding_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padding_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.Statement Cert.KernelIdeal.S64x256 Cert.KernelIdeal.S32x256

def algebraic_KernelIdeal_ReferenceIdeal_pre_padding_is_zero [hKernelIdeal : Cert.KernelIdeal.Facts] [hReferenceIdeal : Cert.ReferenceIdeal.Facts] [hPre_padding_is_zero : Cert.Pre_padding_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padding_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v207) = v3 c
          ∧ r.2.mem ((c.tc : Thread Cert.ReferenceIdeal.nD Cert.ReferenceIdeal.τ).loc Cert.ReferenceIdeal.main_v210) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_padding_is_zero : Cert.Pre_padding_is_zero.Facts),
    quiescent_Kernel (hKernel := hKernel)
    ∧ quiescent_KernelIdeal (hKernelIdeal := hKernelIdeal)
    ∧ quiescent_KernelIdeal_pre_padding_is_zero (hKernelIdeal := hKernelIdeal) (hPre_padding_is_zero := hPre_padding_is_zero)
    ∧ quiescent_ReferenceIdeal (hReferenceIdeal := hReferenceIdeal)
    ∧ quiescent_ReferenceIdeal_pre_padding_is_zero (hReferenceIdeal := hReferenceIdeal) (hPre_padding_is_zero := hPre_padding_is_zero)
    ∧ preserves_Kernel_KernelIdeal
    ∧ algebraic_KernelIdeal_ReferenceIdeal_pre_padding_is_zero (hKernelIdeal := hKernelIdeal) (hReferenceIdeal := hReferenceIdeal) (hPre_padding_is_zero := hPre_padding_is_zero)
-- ==== Pre_padding_is_zero.lean ====
abbrev S3744x8x128 : Shape := ⟨3, ![3744, 8, 128]⟩
abbrev S4x3x3x64x64 : Shape := ⟨5, ![4, 3, 3, 64, 64]⟩
abbrev S4x64 : Shape := ⟨2, ![4, 64]⟩
abbrev S1 : Shape := ⟨1, ![1]⟩
abbrev S4 : Shape := ⟨1, ![4]⟩
abbrev S1872x8x20 : Shape := ⟨3, ![1872, 8, 20]⟩
abbrev S1x1872x8x20 : Shape := ⟨4, ![1, 1872, 8, 20]⟩
abbrev S5x1872x8x20 : Shape := ⟨4, ![5, 1872, 8, 20]⟩
abbrev S_ : Shape := ⟨0, ![]⟩

class Facts : Prop where
  slicesBy_S3744x8x128_S1872x8x20_1s2_0s1_108s1 : S3744x8x128.SlicesBy (![1, 0, 108] : Fin 3 → Nat) ![2, 1, 1] S1872x8x20
  bcast_S1872x8x20_S1x1872x8x20_1_2_3 : S1872x8x20.BroadcastsInDim S1x1872x8x20 (![1, 2, 3] : Fin 3 → Fin S1x1872x8x20.rank)
  concatenates_S1x1872x8x20_S1x1872x8x20_S1x1872x8x20_S1x1872x8x20_S1x1872x8x20_S5x1872x8x20_d0 : Shape.Concatenates [S1x1872x8x20, S1x1872x8x20, S1x1872x8x20, S1x1872x8x20, S1x1872x8x20] S5x1872x8x20 0
  bcast_S_S5x1872x8x20 : S_.BroadcastsInDim S5x1872x8x20 (![] : Fin 0 → Fin S5x1872x8x20.rank)

variable [Facts]

def fn {F : FTy → Type} [FloatOps F] (main_arg0 : IVec S3744x8x128 32) (main_arg1 : IVec S3744x8x128 32) (main_arg2 : IVec S3744x8x128 32) (main_arg3 : IVec S3744x8x128 32) (main_arg4 : IVec S3744x8x128 32) (main_arg5 : IVec S4x3x3x64x64 8) (main_arg6 : FVec F S4x64 .f32) (main_arg7 : FVec F S4x64 .f32) (main_arg8 : FVec F S1 .f32) (main_arg9 : FVec F S4 .f32) : IVec S5x1872x8x20 1 :=
  let main_v0 : IVec S1872x8x20 32 := (Host.slice S1872x8x20 ![1, 0, 108] ![2, 1, 1] · slicesBy_S3744x8x128_S1872x8x20_1s2_0s1_108s1) main_arg0
  let main_v1 : IVec S1872x8x20 32 := (Host.slice S1872x8x20 ![1, 0, 108] ![2, 1, 1] · slicesBy_S3744x8x128_S1872x8x20_1s2_0s1_108s1) main_arg1
  let main_v2 : IVec S1872x8x20 32 := (Host.slice S1872x8x20 ![1, 0, 108] ![2, 1, 1] · slicesBy_S3744x8x128_S1872x8x20_1s2_0s1_108s1) main_arg2
  let main_v3 : IVec S1872x8x20 32 := (Host.slice S1872x8x20 ![1, 0, 108] ![2, 1, 1] · slicesBy_S3744x8x128_S1872x8x20_1s2_0s1_108s1) main_arg3
  let main_v4 : IVec S1872x8x20 32 := (Host.slice S1872x8x20 ![1, 0, 108] ![2, 1, 1] · slicesBy_S3744x8x128_S1872x8x20_1s2_0s1_108s1) main_arg4
  let main_v5 : IVec S1x1872x8x20 32 := broadcastInDim S1x1872x8x20 ![1, 2, 3] bcast_S1872x8x20_S1x1872x8x20_1_2_3 main_v0
  let main_v6 : IVec S1x1872x8x20 32 := broadcastInDim S1x1872x8x20 ![1, 2, 3] bcast_S1872x8x20_S1x1872x8x20_1_2_3 main_v1
  let main_v7 : IVec S1x1872x8x20 32 := broadcastInDim S1x1872x8x20 ![1, 2, 3] bcast_S1872x8x20_S1x1872x8x20_1_2_3 main_v2
  let main_v8 : IVec S1x1872x8x20 32 := broadcastInDim S1x1872x8x20 ![1, 2, 3] bcast_S1872x8x20_S1x1872x8x20_1_2_3 main_v3
  let main_v9 : IVec S1x1872x8x20 32 := broadcastInDim S1x1872x8x20 ![1, 2, 3] bcast_S1872x8x20_S1x1872x8x20_1_2_3 main_v4
  let main_v10 : IVec S5x1872x8x20 32 := concatenate S5x1872x8x20 0 [⟨S1x1872x8x20, main_v5⟩, ⟨S1x1872x8x20, main_v6⟩, ⟨S1x1872x8x20, main_v7⟩, ⟨S1x1872x8x20, main_v8⟩, ⟨S1x1872x8x20, main_v9⟩] concatenates_S1x1872x8x20_S1x1872x8x20_S1x1872x8x20_S1x1872x8x20_S1x1872x8x20_S5x1872x8x20_d0
  let main_c : IVec S_ 32 := constantI S_ 32 0#32
  let main_v11 : IVec S5x1872x8x20 32 := broadcastInDim S5x1872x8x20 ![] bcast_S_S5x1872x8x20 main_c
  let main_v12 : IVec S5x1872x8x20 1 := cmpi .eq main_v10 main_v11
  main_v12
-- ==== Kernel.lean ====
abbrev S3744x8x128 : Shape := ⟨3, ![3744, 8, 128]⟩
abbrev S4x3x3x64x64 : Shape := ⟨5, ![4, 3, 3, 64, 64]⟩
abbrev S4x64 : Shape := ⟨2, ![4, 64]⟩
abbrev S1 : Shape := ⟨1, ![1]⟩
abbrev S4 : Shape := ⟨1, ![4]⟩
abbrev S4x64x3x3x64 : Shape := ⟨5, ![4, 64, 3, 3, 64]⟩
abbrev S4x64x3x192 : Shape := ⟨4, ![4, 64, 3, 192]⟩
abbrev S_ : Shape := ⟨0, ![]⟩
abbrev S4x64x1x192 : Shape := ⟨4, ![4, 64, 1, 192]⟩
abbrev S4x64x5x192 : Shape := ⟨4, ![4, 64, 5, 192]⟩
abbrev S4x128x5x192 : Shape := ⟨4, ![4, 128, 5, 192]⟩
abbrev S4x64x4x192 : Shape := ⟨4, ![4, 64, 4, 192]⟩
abbrev S4x128x4x192 : Shape := ⟨4, ![4, 128, 4, 192]⟩
abbrev S1x128x5x192 : Shape := ⟨4, ![1, 128, 5, 192]⟩
abbrev S128x5x192 : Shape := ⟨3, ![128, 5, 192]⟩
abbrev S128x960 : Shape := ⟨2, ![128, 960]⟩
abbrev S3x128x4x192 : Shape := ⟨4, ![3, 128, 4, 192]⟩
abbrev S3x128x768 : Shape := ⟨3, ![3, 128, 768]⟩
abbrev S3 : Shape := ⟨1, ![3]⟩
abbrev S4x1 : Shape := ⟨2, ![4, 1]⟩
abbrev S4x64x1 : Shape := ⟨3, ![4, 64, 1]⟩
abbrev S4x64x128 : Shape := ⟨3, ![4, 64, 128]⟩
abbrev S5x234x64x236 : Shape := ⟨4, ![5, 234, 64, 236]⟩
abbrev S5x64x128 : Shape := ⟨3, ![5, 64, 128]⟩
abbrev S32x8x128 : Shape := ⟨3, ![32, 8, 128]⟩
abbrev S1x2x64x236 : Shape := ⟨4, ![1, 2, 64, 236]⟩
abbrev S1x64x128 : Shape := ⟨3, ![1, 64, 128]⟩
abbrev S3x1536x256 : Shape := ⟨3, ![3, 1536, 256]⟩
abbrev S192x256 : Shape := ⟨2, ![192, 256]⟩
abbrev S64x256 : Shape := ⟨2, ![64, 256]⟩
abbrev S1x8x128 : Shape := ⟨3, ![1, 8, 128]⟩
abbrev S8x128 : Shape := ⟨2, ![8, 128]⟩
abbrev S8x256 : Shape := ⟨2, ![8, 256]⟩
abbrev S32x256 : Shape := ⟨2, ![32, 256]⟩
abbrev S128x256 : Shape := ⟨2, ![128, 256]⟩
abbrev S960x256 : Shape := ⟨2, ![960, 256]⟩
abbrev S64x128 : Shape := ⟨2, ![64, 128]⟩
abbrev S64x236 : Shape := ⟨2, ![64, 236]⟩
abbrev S1x1x64x236 : Shape := ⟨4, ![1, 1, 64, 236]⟩
abbrev S1x64x256 : Shape := ⟨3, ![1, 64, 256]⟩
abbrev S1x128x768 : Shape := ⟨3, ![1, 128, 768]⟩
abbrev S128x768 : Shape := ⟨2, ![128, 768]⟩
abbrev S1x192x256 : Shape := ⟨3, ![1, 192, 256]⟩
abbrev S768x256 : Shape := ⟨2, ![768, 256]⟩
abbrev S64 : Shape := ⟨1, ![64]⟩
abbrev S64x1 : Shape := ⟨2, ![64, 1]⟩

abbrev nBuf : Space → Nat
  | .hbm => 61
  | .vmem => 90
  | .smem => 5
  | _ => 0

abbrev bufTy : (tb : Table) → Fin (tcTables nBuf tb) → BufTy
  | .hbm, ⟨0, _⟩ => ⟨S3744x8x128, .i32⟩
  | .hbm, ⟨1, _⟩ => ⟨S3744x8x128, .i32⟩
  | .hbm, ⟨2, _⟩ => ⟨S3744x8x128, .i32⟩
  | .hbm, ⟨3, _⟩ => ⟨S3744x8x128, .i32⟩
  | .hbm, ⟨4, _⟩ => ⟨S3744x8x128, .i32⟩
  | .hbm, ⟨5, _⟩ => ⟨S4x3x3x64x64, .i8⟩
  | .hbm, ⟨6, _⟩ => ⟨S4x64, .f32⟩
  | .hbm, ⟨7, _⟩ => ⟨S4x64, .f32⟩
  | .hbm, ⟨8, _⟩ => ⟨S1, .f32⟩
  | .hbm, ⟨9, _⟩ => ⟨S4, .f32⟩
  | .hbm, ⟨10, _⟩ => ⟨S4x3x3x64x64, .i32⟩
  | .hbm, ⟨11, _⟩ => ⟨S4x3x3x64x64, .bf16⟩
  | .hbm, ⟨12, _⟩ => ⟨S4x64x3x3x64, .bf16⟩
  | .hbm, ⟨13, _⟩ => ⟨S4x64x3x192, .bf16⟩
  | .hbm, ⟨14, _⟩ => ⟨S_, .bf16⟩
  | .hbm, ⟨15, _⟩ => ⟨S4x64x1x192, .bf16⟩
  | .hbm, ⟨16, _⟩ => ⟨S4x64x5x192, .bf16⟩
  | .hbm, ⟨17, _⟩ => ⟨S4x64x5x192, .bf16⟩
  | .hbm, ⟨18, _⟩ => ⟨S4x128x5x192, .bf16⟩
  | .hbm, ⟨19, _⟩ => ⟨S4x64x4x192, .bf16⟩
  | .hbm, ⟨20, _⟩ => ⟨S4x64x4x192, .bf16⟩
  | .hbm, ⟨21, _⟩ => ⟨S4x128x4x192, .bf16⟩
  | .hbm, ⟨22, _⟩ => ⟨S1x128x5x192, .bf16⟩
  | .hbm, ⟨23, _⟩ => ⟨S128x5x192, .bf16⟩
  | .hbm, ⟨24, _⟩ => ⟨S128x960, .bf16⟩
  | .hbm, ⟨25, _⟩ => ⟨S3x128x4x192, .bf16⟩
  | .hbm, ⟨26, _⟩ => ⟨S3x128x768, .bf16⟩
  | .hbm, ⟨27, _⟩ => ⟨S3, .f32⟩
  | .hbm, ⟨28, _⟩ => ⟨S4, .f32⟩
  | .hbm, ⟨29, _⟩ => ⟨S4x1, .f32⟩
  | .hbm, ⟨30, _⟩ => ⟨S4x64, .f32⟩
  | .hbm, ⟨31, _⟩ => ⟨S4x64, .f32⟩
  | .hbm, ⟨32, _⟩ => ⟨S4x64x1, .f32⟩
  | .hbm, ⟨33, _⟩ => ⟨S4x64x128, .f32⟩
  | .hbm, ⟨34, _⟩ => ⟨S4x64x1, .f32⟩
  | .hbm, ⟨35, _⟩ => ⟨S4x64x128, .f32⟩
  | .hbm, ⟨36, _⟩ => ⟨S5x234x64x236, .i8⟩
  | .hbm, ⟨37, _⟩ => ⟨S5x234x64x236, .i8⟩
  | .hbm, ⟨38, _⟩ => ⟨S5x234x64x236, .i8⟩
  | .hbm, ⟨39, _⟩ => ⟨S5x234x64x236, .i8⟩
  | .hbm, ⟨40, _⟩ => ⟨S5x64x128, .f32⟩
  | .hbm, ⟨41, _⟩ => ⟨S5x234x64x236, .i8⟩
  | .hbm, ⟨42, _⟩ => ⟨S5x234x64x236, .i8⟩
  | .hbm, ⟨43, _⟩ => ⟨S5x234x64x236, .i8⟩
  | .hbm, ⟨44, _⟩ => ⟨S5x234x64x236, .i8⟩
  | .hbm, ⟨45, _⟩ => ⟨S5x64x128, .f32⟩
  | .hbm, ⟨46, _⟩ => ⟨S5x234x64x236, .i8⟩
  | .hbm, ⟨47, _⟩ => ⟨S5x234x64x236, .i8⟩
  | .hbm, ⟨48, _⟩ => ⟨S5x234x64x236, .i8⟩
  | .hbm, ⟨49, _⟩ => ⟨S5x234x64x236, .i8⟩
  | .hbm, ⟨50, _⟩ => ⟨S5x64x128, .f32⟩
  | .hbm, ⟨51, _⟩ => ⟨S5x234x64x236, .i8⟩
  | .hbm, ⟨52, _⟩ => ⟨S5x234x64x236, .i8⟩
  | .hbm, ⟨53, _⟩ => ⟨S5x234x64x236, .i8⟩
  | .hbm, ⟨54, _⟩ => ⟨S5x234x64x236, .i8⟩
  | .hbm, ⟨55, _⟩ => ⟨S5x64x128, .f32⟩
  | .hbm, ⟨56, _⟩ => ⟨S5x234x64x236, .i8⟩
  | .hbm, ⟨57, _⟩ => ⟨S5x234x64x236, .i8⟩
  | .hbm, ⟨58, _⟩ => ⟨S5x234x64x236, .i8⟩
  | .hbm, ⟨59, _⟩ => ⟨S5x234x64x236, .i8⟩
  | .hbm, ⟨60, _⟩ => ⟨S5x64x128, .f32⟩
  | .local _ .vmem, ⟨0, _⟩ => ⟨S32x8x128, .i32⟩
  | .local _ .vmem, ⟨1, _⟩ => ⟨S32x8x128, .i32⟩
  | .local _ .vmem, ⟨2, _⟩ => ⟨S128x960, .bf16⟩
  | .local _ .vmem, ⟨3, _⟩ => ⟨S3x128x768, .bf16⟩
  | .local _ .vmem, ⟨4, _⟩ => ⟨S4x64x128, .f32⟩
  | .local _ .vmem, ⟨5, _⟩ => ⟨S4x64x128, .f32⟩
  | .local _ .vmem, ⟨6, _⟩ => ⟨S1x2x64x236, .i8⟩
  | .local _ .vmem, ⟨7, _⟩ => ⟨S1x2x64x236, .i8⟩
  | .local _ .vmem, ⟨8, _⟩ => ⟨S1x2x64x236, .i8⟩
  | .local _ .vmem, ⟨9, _⟩ => ⟨S1x2x64x236, .i8⟩
  | .local _ .vmem, ⟨10, _⟩ => ⟨S1x2x64x236, .i8⟩
  | .local _ .vmem, ⟨11, _⟩ => ⟨S1x2x64x236, .i8⟩
  | .local _ .vmem, ⟨12, _⟩ => ⟨S1x2x64x236, .i8⟩
  | .local _ .vmem, ⟨13, _⟩ => ⟨S1x2x64x236, .i8⟩
  | .local _ .vmem, ⟨14, _⟩ => ⟨S1x64x128, .f32⟩
  | .local _ .vmem, ⟨15, _⟩ => ⟨S3x1536x256, .bf16⟩
  | .local _ .vmem, ⟨16, _⟩ => ⟨S192x256, .bf16⟩
  | .local _ .vmem, ⟨17, _⟩ => ⟨S64x256, .f32⟩
  | .local _ .vmem, ⟨18, _⟩ => ⟨S32x8x128, .i32⟩
  | .local _ .vmem, ⟨19, _⟩ => ⟨S32x8x128, .i32⟩
  | .local _ .vmem, ⟨20, _⟩ => ⟨S128x960, .bf16⟩
  | .local _ .vmem, ⟨21, _⟩ => ⟨S3x128x768, .bf16⟩
  | .local _ .vmem, ⟨22, _⟩ => ⟨S4x64x128, .f32⟩
  | .local _ .vmem, ⟨23, _⟩ => ⟨S4x64x128, .f32⟩
  | .local _ .vmem, ⟨24, _⟩ => ⟨S1x2x64x236, .i8⟩
  | .local _ .vmem, ⟨25, _⟩ => ⟨S1x2x64x236, .i8⟩
  | .local _ .vmem, ⟨26, _⟩ => ⟨S1x2x64x236, .i8⟩
  | .local _ .vmem, ⟨27, _⟩ => ⟨S1x2x64x236, .i8⟩
  | .local _ .vmem, ⟨28, _⟩ => ⟨S1x2x64x236, .i8⟩
  | .local _ .vmem, ⟨29, _⟩ => ⟨S1x2x64x236, .i8⟩
  | .local _ .vmem, ⟨30, _⟩ => ⟨S1x2x64x236, .i8⟩
  | .local _ .vmem, ⟨31, _⟩ => ⟨S1x2x64x236, .i8⟩
  | .local _ .vmem, ⟨32, _⟩ => ⟨S1x64x128, .f32⟩
  | .local _ .vmem, ⟨33, _⟩ => ⟨S3x1536x256, .bf16⟩
  | .local _ .vmem, ⟨34, _⟩ => ⟨S192x256, .bf16⟩
  | .local _ .vmem, ⟨35, _⟩ => ⟨S64x256, .f32⟩
  | .local _ .vmem, ⟨36, _⟩ => ⟨S32x8x128, .i32⟩
  | .local _ .vmem, ⟨37, _⟩ => ⟨S32x8x128, .i32⟩
  | .local _ .vmem, ⟨38, _⟩ => ⟨S128x960, .bf16⟩
  | .local _ .vmem, ⟨39, _⟩ => ⟨S3x128x768, .bf16⟩
  | .local _ .vmem, ⟨40, _⟩ => ⟨S4x64x128, .f32⟩
  | .local _ .vmem, ⟨41, _⟩ => ⟨S4x64x128, .f32⟩
  | .local _ .vmem, ⟨42, _⟩ => ⟨S1x2x64x236, .i8⟩
  | .local _ .vmem, ⟨43, _⟩ => ⟨S1x2x64x236, .i8⟩
  | .local _ .vmem, ⟨44, _⟩ => ⟨S1x2x64x236, .i8⟩
  | .local _ .vmem, ⟨45, _⟩ => ⟨S1x2x64x236, .i8⟩
  | .local _ .vmem, ⟨46, _⟩ => ⟨S1x2x64x236, .i8⟩
  | .local _ .vmem, ⟨47, _⟩ => ⟨S1x2x64x236, .i8⟩
  | .local _ .vmem, ⟨48, _⟩ => ⟨S1x2x64x236, .i8⟩
  | .local _ .vmem, ⟨49, _⟩ => ⟨S1x2x64x236, .i8⟩
  | .local _ .vmem, ⟨50, _⟩ => ⟨S1x64x128, .f32⟩
  | .local _ .vmem, ⟨51, _⟩ => ⟨S3x1536x256, .bf16⟩
  | .local _ .vmem, ⟨52, _⟩ => ⟨S192x256, .bf16⟩
  | .local _ .vmem, ⟨53, _⟩ => ⟨S64x256, .f32⟩
  | .local _ .vmem, ⟨54, _⟩ => ⟨S32x8x128, .i32⟩
  | .local _ .vmem, ⟨55, _⟩ => ⟨S32x8x128, .i32⟩
  | .local _ .vmem, ⟨56, _⟩ => ⟨S128x960, .bf16⟩
  | .local _ .vmem, ⟨57, _⟩ => ⟨S3x128x768, .bf16⟩
  | .local _ .vmem, ⟨58, _⟩ => ⟨S4x64x128, .f32⟩
  | .local _ .vmem, ⟨59, _⟩ => ⟨S4x64x128, .f32⟩
  | .local _ .vmem, ⟨60, _⟩ => ⟨S1x2x64x236, .i8⟩
  | .local _ .vmem, ⟨61, _⟩ => ⟨S1x2x64x236, .i8⟩
  | .local _ .vmem, ⟨62, _⟩ => ⟨S1x2x64x236, .i8⟩
  | .local _ .vmem, ⟨63, _⟩ => ⟨S1x2x64x236, .i8⟩
  | .local _ .vmem, ⟨64, _⟩ => ⟨S1x2x64x236, .i8⟩
  | .local _ .vmem, ⟨65, _⟩ => ⟨S1x2x64x236, .i8⟩
  | .local _ .vmem, ⟨66, _⟩ => ⟨S1x2x64x236, .i8⟩
  | .local _ .vmem, ⟨67, _⟩ => ⟨S1x2x64x236, .i8⟩
  | .local _ .vmem, ⟨68, _⟩ => ⟨S1x64x128, .f32⟩
  | .local _ .vmem, ⟨69, _⟩ => ⟨S3x1536x256, .bf16⟩
  | .local _ .vmem, ⟨70, _⟩ => ⟨S192x256, .bf16⟩
  | .local _ .vmem, ⟨71, _⟩ => ⟨S64x256, .f32⟩
  | .local _ .vmem, ⟨72, _⟩ => ⟨S32x8x128, .i32⟩
  | .local _ .vmem, ⟨73, _⟩ => ⟨S32x8x128, .i32⟩
  | .local _ .vmem, ⟨74, _⟩ => ⟨S128x960, .bf16⟩
  | .local _ .vmem, ⟨75, _⟩ => ⟨S3x128x768, .bf16⟩
  | .local _ .vmem, ⟨76, _⟩ => ⟨S4x64x128, .f32⟩
  | .local _ .vmem, ⟨77, _⟩ => ⟨S4x64x128, .f32⟩
  | .local _ .vmem, ⟨78, _⟩ => ⟨S1x2x64x236, .i8⟩
  | .local _ .vmem, ⟨79, _⟩ => ⟨S1x2x64x236, .i8⟩
  | .local _ .vmem, ⟨80, _⟩ => ⟨S1x2x64x236, .i8⟩
  | .local _ .vmem, ⟨81, _⟩ => ⟨S1x2x64x236, .i8⟩
  | .local _ .vmem, ⟨82, _⟩ => ⟨S1x2x64x236, .i8⟩
  | .local _ .vmem, ⟨83, _⟩ => ⟨S1x2x64x236, .i8⟩
  | .local _ .vmem, ⟨84, _⟩ => ⟨S1x2x64x236, .i8⟩
  | .local _ .vmem, ⟨85, _⟩ => ⟨S1x2x64x236, .i8⟩
  | .local _ .vmem, ⟨86, _⟩ => ⟨S1x64x128, .f32⟩
  | .local _ .vmem, ⟨87, _⟩ => ⟨S3x1536x256, .bf16⟩
  | .local _ .vmem, ⟨88, _⟩ => ⟨S192x256, .bf16⟩
  | .local _ .vmem, ⟨89, _⟩ => ⟨S64x256, .f32⟩
  | .local _ .smem, ⟨0, _⟩ => ⟨S4, .f32⟩
  | .local _ .smem, ⟨1, _⟩ => ⟨S4, .f32⟩
  | .local _ .smem, ⟨2, _⟩ => ⟨S4, .f32⟩
  | .local _ .smem, ⟨3, _⟩ => ⟨S4, .f32⟩
  | .local _ .smem, ⟨4, _⟩ => ⟨S4, .f32⟩
  | _, _ => ⟨S3744x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v27_4 : Ref sig .tc := ⟨.hbm, 50, rfl⟩
abbrev main_v28_0 : Ref sig .tc := ⟨.hbm, 51, rfl⟩
abbrev main_v28_1 : Ref sig .tc := ⟨.hbm, 52, rfl⟩
abbrev main_v28_2 : Ref sig .tc := ⟨.hbm, 53, rfl⟩
abbrev main_v28_3 : Ref sig .tc := ⟨.hbm, 54, rfl⟩
abbrev main_v28_4 : Ref sig .tc := ⟨.hbm, 55, rfl⟩
abbrev main_v29_0 : Ref sig .tc := ⟨.hbm, 56, rfl⟩
abbrev main_v29_1 : Ref sig .tc := ⟨.hbm, 57, rfl⟩
abbrev main_v29_2 : Ref sig .tc := ⟨.hbm, 58, rfl⟩
abbrev main_v29_3 : Ref sig .tc := ⟨.hbm, 59, rfl⟩
abbrev main_v29_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg6_0 : Ref sig .tc := ⟨.vmem, 42, rfl⟩
abbrev cc2_stg6_1 : Ref sig .tc := ⟨.vmem, 43, rfl⟩
abbrev cc2_stg7_0 : Ref sig .tc := ⟨.vmem, 44, rfl⟩
abbrev cc2_stg7_1 : Ref sig .tc := ⟨.vmem, 45, rfl⟩
abbrev cc2_stg8_0 : Ref sig .tc := ⟨.vmem, 46, rfl⟩
abbrev cc2_stg8_1 : Ref sig .tc := ⟨.vmem, 47, rfl⟩
abbrev cc2_stg9_0 : Ref sig .tc := ⟨.vmem, 48, rfl⟩
abbrev cc2_stg9_1 : Ref sig .tc := ⟨.vmem, 49, rfl⟩
abbrev cc2_stg10_0 : Ref sig .tc := ⟨.vmem, 50, rfl⟩
abbrev cc2_scratch0 : Ref sig .tc := ⟨.vmem, 51, rfl⟩
abbrev cc2_scratch1 : Ref sig .tc := ⟨.vmem, 52, rfl⟩
abbrev cc2_scratch2 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg2_0 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc3_stg8_0 : Ref sig .tc := ⟨.vmem, 64, rfl⟩
abbrev cc3_stg8_1 : Ref sig .tc := ⟨.vmem, 65, rfl⟩
abbrev cc3_stg9_0 : Ref sig .tc := ⟨.vmem, 66, rfl⟩
abbrev cc3_stg9_1 : Ref sig .tc := ⟨.vmem, 67, rfl⟩
abbrev cc3_stg10_0 : Ref sig .tc := ⟨.vmem, 68, rfl⟩
abbrev cc3_scratch0 : Ref sig .tc := ⟨.vmem, 69, rfl⟩
abbrev cc3_scratch1 : Ref sig .tc := ⟨.vmem, 70, rfl⟩
abbrev cc3_scratch2 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg2_0 : Ref sig .tc := ⟨.vmem, 75, rfl⟩
abbrev cc4_stg3_0 : Ref sig .tc := ⟨.vmem, 76, rfl⟩
abbrev cc4_stg4_0 : Ref sig .tc := ⟨.vmem, 77, rfl⟩
abbrev cc4_stg6_0 : Ref sig .tc := ⟨.vmem, 78, rfl⟩
abbrev cc4_stg6_1 : Ref sig .tc := ⟨.vmem, 79, rfl⟩
abbrev cc4_stg7_0 : Ref sig .tc := ⟨.vmem, 80, rfl⟩
abbrev cc4_stg7_1 : Ref sig .tc := ⟨.vmem, 81, rfl⟩
abbrev cc4_stg8_0 : Ref sig .tc := ⟨.vmem, 82, rfl⟩
abbrev cc4_stg8_1 : Ref sig .tc := ⟨.vmem, 83, rfl⟩
abbrev cc4_stg9_0 : Ref sig .tc := ⟨.vmem, 84, rfl⟩
abbrev cc4_stg9_1 : Ref sig .tc := ⟨.vmem, 85, rfl⟩
abbrev cc4_stg10_0 : Ref sig .tc := ⟨.vmem, 86, rfl⟩
abbrev cc4_scratch0 : Ref sig .tc := ⟨.vmem, 87, rfl⟩
abbrev cc4_scratch1 : Ref sig .tc := ⟨.vmem, 88, rfl⟩
abbrev cc4_scratch2 : Ref sig .tc := ⟨.vmem, 89, rfl⟩
abbrev cc0_stg5_0 : Ref sig .tc := ⟨.smem, 0, rfl⟩
abbrev cc1_stg5_0 : Ref sig .tc := ⟨.smem, 1, rfl⟩
abbrev cc2_stg5_0 : Ref sig .tc := ⟨.smem, 2, rfl⟩
abbrev cc3_stg5_0 : Ref sig .tc := ⟨.smem, 3, rfl⟩
abbrev cc4_stg5_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc2_sem9_0 : DmaSem sig := 45
abbrev cc2_sem9_1 : DmaSem sig := 46
abbrev cc2_sem10_0 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem6_1 : DmaSem sig := 56
abbrev cc3_sem7_0 : DmaSem sig := 57
abbrev cc3_sem7_1 : DmaSem sig := 58
abbrev cc3_sem8_0 : DmaSem sig := 59
abbrev cc3_sem8_1 : DmaSem sig := 60
abbrev cc3_sem9_0 : DmaSem sig := 61
abbrev cc3_sem9_1 : DmaSem sig := 62
abbrev cc3_sem10_0 : DmaSem sig := 63
abbrev cc4_sem0_0 : DmaSem sig := 64
abbrev cc4_sem0_1 : DmaSem sig := 65
abbrev cc4_sem1_0 : DmaSem sig := 66
abbrev cc4_sem2_0 : DmaSem sig := 67
abbrev cc4_sem3_0 : DmaSem sig := 68
abbrev cc4_sem4_0 : DmaSem sig := 69
abbrev cc4_sem5_0 : DmaSem sig := 70
abbrev cc4_sem6_0 : DmaSem sig := 71
abbrev cc4_sem6_1 : DmaSem sig := 72
abbrev cc4_sem7_0 : DmaSem sig := 73
abbrev cc4_sem7_1 : DmaSem sig := 74
abbrev cc4_sem8_0 : DmaSem sig := 75
abbrev cc4_sem8_1 : DmaSem sig := 76
abbrev cc4_sem9_0 : DmaSem sig := 77
abbrev cc4_sem9_1 : DmaSem sig := 78
abbrev cc4_sem10_0 : DmaSem sig := 79

abbrev nD : Nat := 1
abbrev τ : Topo := Topo.v7x

variable {F : FTy → Type} [BitOps F]

abbrev grid0 : Pipeline.Grid := ⟨1, ![123], ![false]⟩

def k0_off1 (i : grid0.Coords) (c0_i32_88 : BitVec 32) (c0_i32_90 : BitVec 32) : Fin 3 → Nat :=
  let c0_91 : Index := 0#32
  let c2_i32 : BitVec 32 := 2#32
  let arg0 : BitVec 32 := BitVec.ofNat 32 (i 0).val
  let c0_i32_72 : BitVec 32 := 0#32
  let v126 : BitVec 32 := Scalar.subi arg0 c0_i32_72
  let v162 : BitVec 32 := Scalar.muli c2_i32 v126
  let v163 : BitVec 32 := Scalar.addi v162 c0_i32_88
  let c7_i32 : BitVec 32 := 7#32
  let v164 : BitVec 32 := Scalar.andi v163 c7_i32
  let c192_i32 : BitVec 32 := 192#32
  let v165 : BitVec 32 := Scalar.muli v164 c192_i32
  let v169 : BitVec 32 := Scalar.addi v165 c0_i32_90
  let v170 : Index := Scalar.indexCast v169
  let c0_92 : Index := 0#32
  ![0, v170.toNat, 0]
def k0_off2 (i : grid0.Coords) (c0_i32_132 : BitVec 32) : Fin 3 → Nat :=
  let c0_135 : Index := 0#32
  let c2_i32_130 : BitVec 32 := 2#32
  let arg0 : BitVec 32 := BitVec.ofNat 32 (i 0).val
  let c2_i32_124 : BitVec 32 := 2#32
  let v240 : BitVec 32 := Scalar.subi arg0 c2_i32_124
  let v246 : BitVec 32 := Scalar.muli c2_i32_130 v240
  let c1_i32_131 : BitVec 32 := 1#32
  let v247 : BitVec 32 := Scalar.subi v246 c1_i32_131
  let v248 : BitVec 32 := Scalar.addi v247 c0_i32_132
  let c7_i32_133 : BitVec 32 := 7#32
  let v249 : BitVec 32 := Scalar.andi v248 c7_i32_133
  let c192_i32_134 : BitVec 32 := 192#32
  let v250 : BitVec 32 := Scalar.muli v249 c192_i32_134
  let v251 : Index := Scalar.indexCast v250
  let c0_136 : Index := 0#32
  ![0, v251.toNat, 0]
def k0_off3 (i : grid0.Coords) (c0_i32_171 : BitVec 32) (c0_i32_175 : BitVec 32) : Fin 3 → Nat :=
  let c1_176 : Index := 1#32
  let c2_i32_170 : BitVec 32 := 2#32
  let arg0 : BitVec 32 := BitVec.ofNat 32 (i 0).val
  let c2_i32_124 : BitVec 32 := 2#32
  let v240 : BitVec 32 := Scalar.subi arg0 c2_i32_124
  let v308 : BitVec 32 := Scalar.muli c2_i32_170 v240
  let v309 : BitVec 32 := Scalar.addi v308 c0_i32_171
  let c7_i32_172 : BitVec 32 := 7#32
  let v310 : BitVec 32 := Scalar.andi v309 c7_i32_172
  let c192_i32_173 : BitVec 32 := 192#32
  let v311 : BitVec 32 := Scalar.muli v310 c192_i32_173
  let v315 : BitVec 32 := Scalar.addi v311 c0_i32_175
  let v316 : Index := Scalar.indexCast v315
  let c0_177 : Index := 0#32
  ![1, v316.toNat, 0]
def k0_off4 (i : grid0.Coords) (c0_i32_219 : BitVec 32) : Fin 3 → Nat :=
  let c1_222 : Index := 1#32
  let c2_i32_217 : BitVec 32 := 2#32
  let arg0 : BitVec 32 := BitVec.ofNat 32 (i 0).val
  let c4_i32 : BitVec 32 := 4#32
  let v386 : BitVec 32 := Scalar.subi arg0 c4_i32
  let v392 : BitVec 32 := Scalar.muli c2_i32_217 v386
  let c1_i32_218 : BitVec 32 := 1#32
  let v393 : BitVec 32 := Scalar.subi v392 c1_i32_218
  let v394 : BitVec 32 := Scalar.addi v393 c0_i32_219
  let c7_i32_220 : BitVec 32 := 7#32
  let v395 : BitVec 32 := Scalar.andi v394 c7_i32_220
  let c192_i32_221 : BitVec 32 := 192#32
  let v396 : BitVec 32 := Scalar.muli v395 c192_i32_221
  let v397 : Index := Scalar.indexCast v396
  let c0_223 : Index := 0#32
  ![1, v397.toNat, 0]
def k0_off5 (i : grid0.Coords) (c0_i32_259 : BitVec 32) (c0_i32_263 : BitVec 32) : Fin 3 → Nat :=
  let c2_264 : Index := 2#32
  let c2_i32_258 : BitVec 32 := 2#32
  let arg0 : BitVec 32 := BitVec.ofNat 32 (i 0).val
  let c4_i32 : BitVec 32 := 4#32
  let v386 : BitVec 32 := Scalar.subi arg0 c4_i32
  let v454 : BitVec 32 := Scalar.muli c2_i32_258 v386
  let v455 : BitVec 32 := Scalar.addi v454 c0_i32_259
  let c7_i32_260 : BitVec 32 := 7#32
  let v456 : BitVec 32 := Scalar.andi v455 c7_i32_260
  let c192_i32_261 : BitVec 32 := 192#32
  let v457 : BitVec 32 := Scalar.muli v456 c192_i32_261
  let v461 : BitVec 32 := Scalar.addi v457 c0_i32_263
  let v462 : Index := Scalar.indexCast v461
  let c0_265 : Index := 0#32
  ![2, v462.toNat, 0]
def k0_off6 (i : grid0.Coords) (c0_i32_307 : BitVec 32) : Fin 3 → Nat :=
  let c2_310 : Index := 2#32
  let c2_i32_305 : BitVec 32 := 2#32
  let arg0 : BitVec 32 := BitVec.ofNat 32 (i 0).val
  let c6_i32 : BitVec 32 := 6#32
  let v532 : BitVec 32 := Scalar.subi arg0 c6_i32
  let v538 : BitVec 32 := Scalar.muli c2_i32_305 v532
  let c1_i32_306 : BitVec 32 := 1#32
  let v539 : BitVec 32 := Scalar.subi v538 c1_i32_306
  let v540 : BitVec 32 := Scalar.addi v539 c0_i32_307
  let c7_i32_308 : BitVec 32 := 7#32
  let v541 : BitVec 32 := Scalar.andi v540 c7_i32_308
  let c192_i32_309 : BitVec 32 := 192#32
  let v542 : BitVec 32 := Scalar.muli v541 c192_i32_309
  let v543 : Index := Scalar.indexCast v542
  let c0_311 : Index := 0#32
  ![2, v543.toNat, 0]
def k0_cond2 (i : grid0.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v154 : BitVec 32 := Scalar.extui v129
  let c0_i32_86 : BitVec 32 := 0#32
  let v155 : BitVec 1 := Scalar.cmpi .ne v154 c0_i32_86
  v155

def k0_cond3 (i : grid0.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v207 : BitVec 32 := Scalar.extui v129
  let c0_i32_107 : BitVec 32 := 0#32
  let v208 : BitVec 1 := Scalar.cmpi .ne v207 c0_i32_107
  v208

def k0_cond4 (i : grid0.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v300 : BitVec 32 := Scalar.extui v243
  let c0_i32_168 : BitVec 32 := 0#32
  let v301 : BitVec 1 := Scalar.cmpi .ne v300 c0_i32_168
  v301

def k0_cond5 (i : grid0.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v353 : BitVec 32 := Scalar.extui v243
  let c0_i32_195 : BitVec 32 := 0#32
  let v354 : BitVec 1 := Scalar.cmpi .ne v353 c0_i32_195
  v354

def k0_cond6 (i : grid0.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v446 : BitVec 32 := Scalar.extui v389
  let c0_i32_256 : BitVec 32 := 0#32
  let v447 : BitVec 1 := Scalar.cmpi .ne v446 c0_i32_256
  v447

def k0_cond7 (i : grid0.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v499 : BitVec 32 := Scalar.extui v389
  let c0_i32_283 : BitVec 32 := 0#32
  let v500 : BitVec 1 := Scalar.cmpi .ne v499 c0_i32_283
  v500

def k0_cond8 (i : grid0.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v592 : BitVec 32 := Scalar.extui v535
  let c0_i32_344 : BitVec 32 := 0#32
  let v593 : BitVec 1 := Scalar.cmpi .ne v592 c0_i32_344
  v593

def k0_cond9 (i : grid0.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v614 : BitVec 32 := Scalar.extui v535
  let c0_i32_355 : BitVec 32 := 0#32
  let v615 : BitVec 1 := Scalar.cmpi .ne v614 c0_i32_355
  v615

def k0_cond10 (i : grid0.Coords) : BitVec 1 :=
  let arg0 : BitVec 32 := BitVec.ofNat 32 (i 0).val
  let c122_i32 : BitVec 32 := 122#32
  let v616 : BitVec 1 := Scalar.cmpi .eq arg0 c122_i32
  let v617 : BitVec 32 := Scalar.extui v616
  let c0_i32_356 : BitVec 32 := 0#32
  let v618 : BitVec 1 := Scalar.cmpi .ne v617 c0_i32_356
  v618

def cc0_transform_0 (i : grid0.Coords) : Fin 3 → Nat :=
  let arg0 : BitVec 32 := BitVec.ofNat 32 (i 0).val
  let c116_i32 : BitVec 32 := 116#32
  let v0 : BitVec 32 := Scalar.minsi arg0 c116_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c116_i32 : BitVec 32 := 116#32
  let v1 : BitVec 32 := Scalar.maxsi c0_i32_0 v0
  let v2 : BitVec 32 := Scalar.minsi c116_i32 v1
  let c0_i32_1 : BitVec 32 := 0#32
  let c0_i32_2 : BitVec 32 := 0#32
  let c0_i32_3 : BitVec 32 := 0#32
  let c0_i32_4 : BitVec 32 := 0#32
  ![c0_i32_1.toNat, v2.toNat, c0_i32_2.toNat, c0_i32_3.toNat]

def cc0_transform_7 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c116_i32 : BitVec 32 := 116#32
  let v1 : BitVec 32 := Scalar.maxsi c0_i32 v0
  let v2 : BitVec 32 := Scalar.minsi c116_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_8 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c116_i32 : BitVec 32 := 116#32
  let v1 : BitVec 32 := Scalar.maxsi c0_i32 v0
  let v2 : BitVec 32 := Scalar.minsi c116_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_9 (i : grid0.Coords) : Fin 4 → Nat :=
  let arg0 : BitVec 32 := BitVec.ofNat 32 (i 0).val
  let c6_i32 : BitVec 32 := 6#32
  let v0 : BitVec 32 := Scalar.subi arg0 c6_i32
  let c0_i32 : BitVec 32 := 0#32
  let c116_i32 : BitVec 32 := 116#32
  let v1 : BitVec 32 := Scalar.maxsi c0_i32 v0
  let v2 : BitVec 32 := Scalar.minsi c116_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x64x236 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x236 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x236 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x236 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![123], ![false]⟩

def k1_off1 (i : grid1.Coords) (c0_i32_88 : BitVec 32) (c0_i32_90 : BitVec 32) : Fin 3 → Nat :=
  let c0_91 : Index := 0#32
  let c2_i32 : BitVec 32 := 2#32
  let arg0 : BitVec 32 := BitVec.ofNat 32 (i 0).val
  let c0_i32_72 : BitVec 32 := 0#32
  let v126 : BitVec 32 := Scalar.subi arg0 c0_i32_72
  let v162 : BitVec 32 := Scalar.muli c2_i32 v126
  let v163 : BitVec 32 := Scalar.addi v162 c0_i32_88
  let c7_i32 : BitVec 32 := 7#32
  let v164 : BitVec 32 := Scalar.andi v163 c7_i32
  let c192_i32 : BitVec 32 := 192#32
  let v165 : BitVec 32 := Scalar.muli v164 c192_i32
  let v169 : BitVec 32 := Scalar.addi v165 c0_i32_90
  let v170 : Index := Scalar.indexCast v169
  let c0_92 : Index := 0#32
  ![0, v170.toNat, 0]
def k1_off2 (i : grid1.Coords) (c0_i32_132 : BitVec 32) : Fin 3 → Nat :=
  let c0_135 : Index := 0#32
  let c2_i32_130 : BitVec 32 := 2#32
  let arg0 : BitVec 32 := BitVec.ofNat 32 (i 0).val
  let c2_i32_124 : BitVec 32 := 2#32
  let v240 : BitVec 32 := Scalar.subi arg0 c2_i32_124
  let v246 : BitVec 32 := Scalar.muli c2_i32_130 v240
  let c1_i32_131 : BitVec 32 := 1#32
  let v247 : BitVec 32 := Scalar.subi v246 c1_i32_131
  let v248 : BitVec 32 := Scalar.addi v247 c0_i32_132
  let c7_i32_133 : BitVec 32 := 7#32
  let v249 : BitVec 32 := Scalar.andi v248 c7_i32_133
  let c192_i32_134 : BitVec 32 := 192#32
  let v250 : BitVec 32 := Scalar.muli v249 c192_i32_134
  let v251 : Index := Scalar.indexCast v250
  let c0_136 : Index := 0#32
  ![0, v251.toNat, 0]
def k1_off3 (i : grid1.Coords) (c0_i32_171 : BitVec 32) (c0_i32_175 : BitVec 32) : Fin 3 → Nat :=
  let c1_176 : Index := 1#32
  let c2_i32_170 : BitVec 32 := 2#32
  let arg0 : BitVec 32 := BitVec.ofNat 32 (i 0).val
  let c2_i32_124 : BitVec 32 := 2#32
  let v240 : BitVec 32 := Scalar.subi arg0 c2_i32_124
  let v308 : BitVec 32 := Scalar.muli c2_i32_170 v240
  let v309 : BitVec 32 := Scalar.addi v308 c0_i32_171
  let c7_i32_172 : BitVec 32 := 7#32
  let v310 : BitVec 32 := Scalar.andi v309 c7_i32_172
  let c192_i32_173 : BitVec 32 := 192#32
  let v311 : BitVec 32 := Scalar.muli v310 c192_i32_173
  let v315 : BitVec 32 := Scalar.addi v311 c0_i32_175
  let v316 : Index := Scalar.indexCast v315
  let c0_177 : Index := 0#32
  ![1, v316.toNat, 0]
def k1_off4 (i : grid1.Coords) (c0_i32_219 : BitVec 32) : Fin 3 → Nat :=
  let c1_222 : Index := 1#32
  let c2_i32_217 : BitVec 32 := 2#32
  let arg0 : BitVec 32 := BitVec.ofNat 32 (i 0).val
  let c4_i32 : BitVec 32 := 4#32
  let v386 : BitVec 32 := Scalar.subi arg0 c4_i32
  let v392 : BitVec 32 := Scalar.muli c2_i32_217 v386
  let c1_i32_218 : BitVec 32 := 1#32
  let v393 : BitVec 32 := Scalar.subi v392 c1_i32_218
  let v394 : BitVec 32 := Scalar.addi v393 c0_i32_219
  let c7_i32_220 : BitVec 32 := 7#32
  let v395 : BitVec 32 := Scalar.andi v394 c7_i32_220
  let c192_i32_221 : BitVec 32 := 192#32
  let v396 : BitVec 32 := Scalar.muli v395 c192_i32_221
  let v397 : Index := Scalar.indexCast v396
  let c0_223 : Index := 0#32
  ![1, v397.toNat, 0]
def k1_off5 (i : grid1.Coords) (c0_i32_259 : BitVec 32) (c0_i32_263 : BitVec 32) : Fin 3 → Nat :=
  let c2_264 : Index := 2#32
  let c2_i32_258 : BitVec 32 := 2#32
  let arg0 : BitVec 32 := BitVec.ofNat 32 (i 0).val
  let c4_i32 : BitVec 32 := 4#32
  let v386 : BitVec 32 := Scalar.subi arg0 c4_i32
  let v454 : BitVec 32 := Scalar.muli c2_i32_258 v386
  let v455 : BitVec 32 := Scalar.addi v454 c0_i32_259
  let c7_i32_260 : BitVec 32 := 7#32
  let v456 : BitVec 32 := Scalar.andi v455 c7_i32_260
  let c192_i32_261 : BitVec 32 := 192#32
  let v457 : BitVec 32 := Scalar.muli v456 c192_i32_261
  let v461 : BitVec 32 := Scalar.addi v457 c0_i32_263
  let v462 : Index := Scalar.indexCast v461
  let c0_265 : Index := 0#32
  ![2, v462.toNat, 0]
def k1_off6 (i : grid1.Coords) (c0_i32_307 : BitVec 32) : Fin 3 → Nat :=
  let c2_310 : Index := 2#32
  let c2_i32_305 : BitVec 32 := 2#32
  let arg0 : BitVec 32 := BitVec.ofNat 32 (i 0).val
  let c6_i32 : BitVec 32 := 6#32
  let v532 : BitVec 32 := Scalar.subi arg0 c6_i32
  let v538 : BitVec 32 := Scalar.muli c2_i32_305 v532
  let c1_i32_306 : BitVec 32 := 1#32
  let v539 : BitVec 32 := Scalar.subi v538 c1_i32_306
  let v540 : BitVec 32 := Scalar.addi v539 c0_i32_307
  let c7_i32_308 : BitVec 32 := 7#32
  let v541 : BitVec 32 := Scalar.andi v540 c7_i32_308
  let c192_i32_309 : BitVec 32 := 192#32
  let v542 : BitVec 32 := Scalar.muli v541 c192_i32_309
  let v543 : Index := Scalar.indexCast v542
  let c0_311 : Index := 0#32
  ![2, v543.toNat, 0]
def k1_cond2 (i : grid1.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v154 : BitVec 32 := Scalar.extui v129
  let c0_i32_86 : BitVec 32 := 0#32
  let v155 : BitVec 1 := Scalar.cmpi .ne v154 c0_i32_86
  v155

def k1_cond3 (i : grid1.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v207 : BitVec 32 := Scalar.extui v129
  let c0_i32_107 : BitVec 32 := 0#32
  let v208 : BitVec 1 := Scalar.cmpi .ne v207 c0_i32_107
  v208

def k1_cond4 (i : grid1.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v300 : BitVec 32 := Scalar.extui v243
  let c0_i32_168 : BitVec 32 := 0#32
  let v301 : BitVec 1 := Scalar.cmpi .ne v300 c0_i32_168
  v301

def k1_cond5 (i : grid1.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v353 : BitVec 32 := Scalar.extui v243
  let c0_i32_195 : BitVec 32 := 0#32
  let v354 : BitVec 1 := Scalar.cmpi .ne v353 c0_i32_195
  v354

def k1_cond6 (i : grid1.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v446 : BitVec 32 := Scalar.extui v389
  let c0_i32_256 : BitVec 32 := 0#32
  let v447 : BitVec 1 := Scalar.cmpi .ne v446 c0_i32_256
  v447

def k1_cond7 (i : grid1.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v499 : BitVec 32 := Scalar.extui v389
  let c0_i32_283 : BitVec 32 := 0#32
  let v500 : BitVec 1 := Scalar.cmpi .ne v499 c0_i32_283
  v500

def k1_cond8 (i : grid1.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v592 : BitVec 32 := Scalar.extui v535
  let c0_i32_344 : BitVec 32 := 0#32
  let v593 : BitVec 1 := Scalar.cmpi .ne v592 c0_i32_344
  v593

def k1_cond9 (i : grid1.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v614 : BitVec 32 := Scalar.extui v535
  let c0_i32_355 : BitVec 32 := 0#32
  let v615 : BitVec 1 := Scalar.cmpi .ne v614 c0_i32_355
  v615

def k1_cond10 (i : grid1.Coords) : BitVec 1 :=
  let arg0 : BitVec 32 := BitVec.ofNat 32 (i 0).val
  let c122_i32 : BitVec 32 := 122#32
  let v616 : BitVec 1 := Scalar.cmpi .eq arg0 c122_i32
  let v617 : BitVec 32 := Scalar.extui v616
  let c0_i32_356 : BitVec 32 := 0#32
  let v618 : BitVec 1 := Scalar.cmpi .ne v617 c0_i32_356
  v618

def cc1_transform_0 (i : grid1.Coords) : Fin 3 → Nat :=
  let arg0 : BitVec 32 := BitVec.ofNat 32 (i 0).val
  let c116_i32 : BitVec 32 := 116#32
  let v0 : BitVec 32 := Scalar.minsi arg0 c116_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c116_i32 : BitVec 32 := 116#32
  let v1 : BitVec 32 := Scalar.maxsi c0_i32_0 v0
  let v2 : BitVec 32 := Scalar.minsi c116_i32 v1
  let c1_i32 : BitVec 32 := 1#32
  let c0_i32_1 : BitVec 32 := 0#32
  let c0_i32_2 : BitVec 32 := 0#32
  let c0_i32_3 : BitVec 32 := 0#32
  ![c1_i32.toNat, v2.toNat, c0_i32_1.toNat, c0_i32_2.toNat]

def cc1_transform_12 (i : grid1.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c116_i32 : BitVec 32 := 116#32
  let v1 : BitVec 32 := Scalar.maxsi c0_i32 v0
  let v2 : BitVec 32 := Scalar.minsi c116_i32 v1
  let c1_i32 : BitVec 32 := 1#32
  let c0_i32_0 : BitVec 32 := 0#32
  let c0_i32_1 : BitVec 32 := 0#32
  let c0_i32_2 : BitVec 32 := 0#32
  ![c1_i32.toNat, v2.toNat, c0_i32_0.toNat, c0_i32_1.toNat]

def cc1_transform_13 (i : grid1.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c116_i32 : BitVec 32 := 116#32
  let v1 : BitVec 32 := Scalar.maxsi c0_i32 v0
  let v2 : BitVec 32 := Scalar.minsi c116_i32 v1
  let c1_i32 : BitVec 32 := 1#32
  let c0_i32_0 : BitVec 32 := 0#32
  let c0_i32_1 : BitVec 32 := 0#32
  let c0_i32_2 : BitVec 32 := 0#32
  ![c1_i32.toNat, v2.toNat, c0_i32_0.toNat, c0_i32_1.toNat]

def cc1_transform_14 (i : grid1.Coords) : Fin 4 → Nat :=
  let arg0 : BitVec 32 := BitVec.ofNat 32 (i 0).val
  let c6_i32 : BitVec 32 := 6#32
  let v0 : BitVec 32 := Scalar.subi arg0 c6_i32
  let c0_i32 : BitVec 32 := 0#32
  let c116_i32 : BitVec 32 := 116#32
  let v1 : BitVec 32 := Scalar.maxsi c0_i32 v0
  let v2 : BitVec 32 := Scalar.minsi c116_i32 v1
  let c1_i32 : BitVec 32 := 1#32
  let c0_i32_0 : BitVec 32 := 0#32
  let c0_i32_1 : BitVec 32 := 0#32
  let c0_i32_2 : BitVec 32 := 0#32
  ![c1_i32.toNat, v2.toNat, c0_i32_0.toNat, c0_i32_1.toNat]

def cc1_transform_15 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage1_0 : Fin 2 → Memref sig .tc .vmem S32x8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x960 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x2x64x236 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x64x236 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2x64x236 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2x64x236 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x64x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![123], ![false]⟩

def k2_off1 (i : grid2.Coords) (c0_i32_88 : BitVec 32) (c0_i32_90 : BitVec 32) : Fin 3 → Nat :=
  let c0_91 : Index := 0#32
  let c2_i32 : BitVec 32 := 2#32
  let arg0 : BitVec 32 := BitVec.ofNat 32 (i 0).val
  let c0_i32_72 : BitVec 32 := 0#32
  let v126 : BitVec 32 := Scalar.subi arg0 c0_i32_72
  let v162 : BitVec 32 := Scalar.muli c2_i32 v126
  let v163 : BitVec 32 := Scalar.addi v162 c0_i32_88
  let c7_i32 : BitVec 32 := 7#32
  let v164 : BitVec 32 := Scalar.andi v163 c7_i32
  let c192_i32 : BitVec 32 := 192#32
  let v165 : BitVec 32 := Scalar.muli v164 c192_i32
  let v169 : BitVec 32 := Scalar.addi v165 c0_i32_90
  let v170 : Index := Scalar.indexCast v169
  let c0_92 : Index := 0#32
  ![0, v170.toNat, 0]
def k2_off2 (i : grid2.Coords) (c0_i32_132 : BitVec 32) : Fin 3 → Nat :=
  let c0_135 : Index := 0#32
  let c2_i32_130 : BitVec 32 := 2#32
  let arg0 : BitVec 32 := BitVec.ofNat 32 (i 0).val
  let c2_i32_124 : BitVec 32 := 2#32
  let v240 : BitVec 32 := Scalar.subi arg0 c2_i32_124
  let v246 : BitVec 32 := Scalar.muli c2_i32_130 v240
  let c1_i32_131 : BitVec 32 := 1#32
  let v247 : BitVec 32 := Scalar.subi v246 c1_i32_131
  let v248 : BitVec 32 := Scalar.addi v247 c0_i32_132
  let c7_i32_133 : BitVec 32 := 7#32
  let v249 : BitVec 32 := Scalar.andi v248 c7_i32_133
  let c192_i32_134 : BitVec 32 := 192#32
  let v250 : BitVec 32 := Scalar.muli v249 c192_i32_134
  let v251 : Index := Scalar.indexCast v250
  let c0_136 : Index := 0#32
  ![0, v251.toNat, 0]
def k2_off3 (i : grid2.Coords) (c0_i32_171 : BitVec 32) (c0_i32_175 : BitVec 32) : Fin 3 → Nat :=
  let c1_176 : Index := 1#32
  let c2_i32_170 : BitVec 32 := 2#32
  let arg0 : BitVec 32 := BitVec.ofNat 32 (i 0).val
  let c2_i32_124 : BitVec 32 := 2#32
  let v240 : BitVec 32 := Scalar.subi arg0 c2_i32_124
  let v308 : BitVec 32 := Scalar.muli c2_i32_170 v240
  let v309 : BitVec 32 := Scalar.addi v308 c0_i32_171
  let c7_i32_172 : BitVec 32 := 7#32
  let v310 : BitVec 32 := Scalar.andi v309 c7_i32_172
  let c192_i32_173 : BitVec 32 := 192#32
  let v311 : BitVec 32 := Scalar.muli v310 c192_i32_173
  let v315 : BitVec 32 := Scalar.addi v311 c0_i32_175
  let v316 : Index := Scalar.indexCast v315
  let c0_177 : Index := 0#32
  ![1, v316.toNat, 0]
def k2_off4 (i : grid2.Coords) (c0_i32_219 : BitVec 32) : Fin 3 → Nat :=
  let c1_222 : Index := 1#32
  let c2_i32_217 : BitVec 32 := 2#32
  let arg0 : BitVec 32 := BitVec.ofNat 32 (i 0).val
  let c4_i32 : BitVec 32 := 4#32
  let v386 : BitVec 32 := Scalar.subi arg0 c4_i32
  let v392 : BitVec 32 := Scalar.muli c2_i32_217 v386
  let c1_i32_218 : BitVec 32 := 1#32
  let v393 : BitVec 32 := Scalar.subi v392 c1_i32_218
  let v394 : BitVec 32 := Scalar.addi v393 c0_i32_219
  let c7_i32_220 : BitVec 32 := 7#32
  let v395 : BitVec 32 := Scalar.andi v394 c7_i32_220
  let c192_i32_221 : BitVec 32 := 192#32
  let v396 : BitVec 32 := Scalar.muli v395 c192_i32_221
  let v397 : Index := Scalar.indexCast v396
  let c0_223 : Index := 0#32
  ![1, v397.toNat, 0]
def k2_off5 (i : grid2.Coords) (c0_i32_259 : BitVec 32) (c0_i32_263 : BitVec 32) : Fin 3 → Nat :=
  let c2_264 : Index := 2#32
  let c2_i32_258 : BitVec 32 := 2#32
  let arg0 : BitVec 32 := BitVec.ofNat 32 (i 0).val
  let c4_i32 : BitVec 32 := 4#32
  let v386 : BitVec 32 := Scalar.subi arg0 c4_i32
  let v454 : BitVec 32 := Scalar.muli c2_i32_258 v386
  let v455 : BitVec 32 := Scalar.addi v454 c0_i32_259
  let c7_i32_260 : BitVec 32 := 7#32
  let v456 : BitVec 32 := Scalar.andi v455 c7_i32_260
  let c192_i32_261 : BitVec 32 := 192#32
  let v457 : BitVec 32 := Scalar.muli v456 c192_i32_261
  let v461 : BitVec 32 := Scalar.addi v457 c0_i32_263
  let v462 : Index := Scalar.indexCast v461
  let c0_265 : Index := 0#32
  ![2, v462.toNat, 0]
def k2_off6 (i : grid2.Coords) (c0_i32_307 : BitVec 32) : Fin 3 → Nat :=
  let c2_310 : Index := 2#32
  let c2_i32_305 : BitVec 32 := 2#32
  let arg0 : BitVec 32 := BitVec.ofNat 32 (i 0).val
  let c6_i32 : BitVec 32 := 6#32
  let v532 : BitVec 32 := Scalar.subi arg0 c6_i32
  let v538 : BitVec 32 := Scalar.muli c2_i32_305 v532
  let c1_i32_306 : BitVec 32 := 1#32
  let v539 : BitVec 32 := Scalar.subi v538 c1_i32_306
  let v540 : BitVec 32 := Scalar.addi v539 c0_i32_307
  let c7_i32_308 : BitVec 32 := 7#32
  let v541 : BitVec 32 := Scalar.andi v540 c7_i32_308
  let c192_i32_309 : BitVec 32 := 192#32
  let v542 : BitVec 32 := Scalar.muli v541 c192_i32_309
  let v543 : Index := Scalar.indexCast v542
  let c0_311 : Index := 0#32
  ![2, v543.toNat, 0]
def k2_cond2 (i : grid2.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v154 : BitVec 32 := Scalar.extui v129
  let c0_i32_86 : BitVec 32 := 0#32
  let v155 : BitVec 1 := Scalar.cmpi .ne v154 c0_i32_86
  v155

def k2_cond3 (i : grid2.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v207 : BitVec 32 := Scalar.extui v129
  let c0_i32_107 : BitVec 32 := 0#32
  let v208 : BitVec 1 := Scalar.cmpi .ne v207 c0_i32_107
  v208

def k2_cond4 (i : grid2.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v300 : BitVec 32 := Scalar.extui v243
  let c0_i32_168 : BitVec 32 := 0#32
  let v301 : BitVec 1 := Scalar.cmpi .ne v300 c0_i32_168
  v301

def k2_cond5 (i : grid2.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v353 : BitVec 32 := Scalar.extui v243
  let c0_i32_195 : BitVec 32 := 0#32
  let v354 : BitVec 1 := Scalar.cmpi .ne v353 c0_i32_195
  v354

def k2_cond6 (i : grid2.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v446 : BitVec 32 := Scalar.extui v389
  let c0_i32_256 : BitVec 32 := 0#32
  let v447 : BitVec 1 := Scalar.cmpi .ne v446 c0_i32_256
  v447

def k2_cond7 (i : grid2.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v499 : BitVec 32 := Scalar.extui v389
  let c0_i32_283 : BitVec 32 := 0#32
  let v500 : BitVec 1 := Scalar.cmpi .ne v499 c0_i32_283
  v500

def k2_cond8 (i : grid2.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v592 : BitVec 32 := Scalar.extui v535
  let c0_i32_344 : BitVec 32 := 0#32
  let v593 : BitVec 1 := Scalar.cmpi .ne v592 c0_i32_344
  v593

def k2_cond9 (i : grid2.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v614 : BitVec 32 := Scalar.extui v535
  let c0_i32_355 : BitVec 32 := 0#32
  let v615 : BitVec 1 := Scalar.cmpi .ne v614 c0_i32_355
  v615

def k2_cond10 (i : grid2.Coords) : BitVec 1 :=
  let arg0 : BitVec 32 := BitVec.ofNat 32 (i 0).val
  let c122_i32 : BitVec 32 := 122#32
  let v616 : BitVec 1 := Scalar.cmpi .eq arg0 c122_i32
  let v617 : BitVec 32 := Scalar.extui v616
  let c0_i32_356 : BitVec 32 := 0#32
  let v618 : BitVec 1 := Scalar.cmpi .ne v617 c0_i32_356
  v618

def cc2_transform_0 (i : grid2.Coords) : Fin 3 → Nat :=
  let arg0 : BitVec 32 := BitVec.ofNat 32 (i 0).val
  let c116_i32 : BitVec 32 := 116#32
  let v0 : BitVec 32 := Scalar.minsi arg0 c116_i32
  let c0_i32 : BitVec 32 := 0#32
  let c0_i32_0 : BitVec 32 := 0#32
  let c0_i32_1 : BitVec 32 := 0#32
  ![v0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c116_i32 : BitVec 32 := 116#32
  let v1 : BitVec 32 := Scalar.maxsi c0_i32_0 v0
  let v2 : BitVec 32 := Scalar.minsi c116_i32 v1
  let c2_i32 : BitVec 32 := 2#32
  let c0_i32_1 : BitVec 32 := 0#32
  let c0_i32_2 : BitVec 32 := 0#32
  let c0_i32_3 : BitVec 32 := 0#32
  ![c2_i32.toNat, v2.toNat, c0_i32_1.toNat, c0_i32_2.toNat]

def cc2_transform_12 (i : grid2.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c116_i32 : BitVec 32 := 116#32
  let v1 : BitVec 32 := Scalar.maxsi c0_i32 v0
  let v2 : BitVec 32 := Scalar.minsi c116_i32 v1
  let c2_i32_0 : BitVec 32 := 2#32
  let c0_i32_1 : BitVec 32 := 0#32
  let c0_i32_2 : BitVec 32 := 0#32
  let c0_i32_3 : BitVec 32 := 0#32
  ![c2_i32_0.toNat, v2.toNat, c0_i32_1.toNat, c0_i32_2.toNat]

def cc2_transform_13 (i : grid2.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c116_i32 : BitVec 32 := 116#32
  let v1 : BitVec 32 := Scalar.maxsi c0_i32 v0
  let v2 : BitVec 32 := Scalar.minsi c116_i32 v1
  let c2_i32 : BitVec 32 := 2#32
  let c0_i32_0 : BitVec 32 := 0#32
  let c0_i32_1 : BitVec 32 := 0#32
  let c0_i32_2 : BitVec 32 := 0#32
  ![c2_i32.toNat, v2.toNat, c0_i32_0.toNat, c0_i32_1.toNat]

def cc2_transform_14 (i : grid2.Coords) : Fin 4 → Nat :=
  let arg0 : BitVec 32 := BitVec.ofNat 32 (i 0).val
  let c6_i32 : BitVec 32 := 6#32
  let v0 : BitVec 32 := Scalar.subi arg0 c6_i32
  let c0_i32 : BitVec 32 := 0#32
  let c116_i32 : BitVec 32 := 116#32
  let v1 : BitVec 32 := Scalar.maxsi c0_i32 v0
  let v2 : BitVec 32 := Scalar.minsi c116_i32 v1
  let c2_i32 : BitVec 32 := 2#32
  let c0_i32_0 : BitVec 32 := 0#32
  let c0_i32_1 : BitVec 32 := 0#32
  let c0_i32_2 : BitVec 32 := 0#32
  ![c2_i32.toNat, v2.toNat, c0_i32_0.toNat, c0_i32_1.toNat]

def cc2_transform_15 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

abbrev stage2_0 : Fin 2 → Memref sig .tc .vmem S32x8x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x960 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x128x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x2x64x236 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2x64x236 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x2x64x236 .i8 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x2x64x236 .i8 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x64x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![123], ![false]⟩

def k3_off1 (i : grid3.Coords) (c0_i32_88 : BitVec 32) (c0_i32_90 : BitVec 32) : Fin 3 → Nat :=
  let c0_91 : Index := 0#32
  let c2_i32 : BitVec 32 := 2#32
  let arg0 : BitVec 32 := BitVec.ofNat 32 (i 0).val
  let c0_i32_72 : BitVec 32 := 0#32
  let v126 : BitVec 32 := Scalar.subi arg0 c0_i32_72
  let v162 : BitVec 32 := Scalar.muli c2_i32 v126
  let v163 : BitVec 32 := Scalar.addi v162 c0_i32_88
  let c7_i32 : BitVec 32 := 7#32
  let v164 : BitVec 32 := Scalar.andi v163 c7_i32
  let c192_i32 : BitVec 32 := 192#32
  let v165 : BitVec 32 := Scalar.muli v164 c192_i32
  let v169 : BitVec 32 := Scalar.addi v165 c0_i32_90
  let v170 : Index := Scalar.indexCast v169
  let c0_92 : Index := 0#32
  ![0, v170.toNat, 0]
def k3_off2 (i : grid3.Coords) (c0_i32_132 : BitVec 32) : Fin 3 → Nat :=
  let c0_135 : Index := 0#32
  let c2_i32_130 : BitVec 32 := 2#32
  let arg0 : BitVec 32 := BitVec.ofNat 32 (i 0).val
  let c2_i32_124 : BitVec 32 := 2#32
  let v240 : BitVec 32 := Scalar.subi arg0 c2_i32_124
  let v246 : BitVec 32 := Scalar.muli c2_i32_130 v240
  let c1_i32_131 : BitVec 32 := 1#32
  let v247 : BitVec 32 := Scalar.subi v246 c1_i32_131
  let v248 : BitVec 32 := Scalar.addi v247 c0_i32_132
  let c7_i32_133 : BitVec 32 := 7#32
  let v249 : BitVec 32 := Scalar.andi v248 c7_i32_133
  let c192_i32_134 : BitVec 32 := 192#32
  let v250 : BitVec 32 := Scalar.muli v249 c192_i32_134
  let v251 : Index := Scalar.indexCast v250
  let c0_136 : Index := 0#32
  ![0, v251.toNat, 0]
def k3_off3 (i : grid3.Coords) (c0_i32_171 : BitVec 32) (c0_i32_175 : BitVec 32) : Fin 3 → Nat :=
  let c1_176 : Index := 1#32
  let c2_i32_170 : BitVec 32 := 2#32
  let arg0 : BitVec 32 := BitVec.ofNat 32 (i 0).val
  let c2_i32_124 : BitVec 32 := 2#32
  let v240 : BitVec 32 := Scalar.subi arg0 c2_i32_124
  let v308 : BitVec 32 := Scalar.muli c2_i32_170 v240
  let v309 : BitVec 32 := Scalar.addi v308 c0_i32_171
  let c7_i32_172 : BitVec 32 := 7#32
  let v310 : BitVec 32 := Scalar.andi v309 c7_i32_172
  let c192_i32_173 : BitVec 32 := 192#32
  let v311 : BitVec 32 := Scalar.muli v310 c192_i32_173
  let v315 : BitVec 32 := Scalar.addi v311 c0_i32_175
  let v316 : Index := Scalar.indexCast v315
  let c0_177 : Index := 0#32
  ![1, v316.toNat, 0]
def k3_off4 (i : grid3.Coords) (c0_i32_219 : BitVec 32) : Fin 3 → Nat :=
  let c1_222 : Index := 1#32
  let c2_i32_217 : BitVec 32 := 2#32
  let arg0 : BitVec 32 := BitVec.ofNat 32 (i 0).val
  let c4_i32 : BitVec 32 := 4#32
  let v386 : BitVec 32 := Scalar.subi arg0 c4_i32
  let v392 : BitVec 32 := Scalar.muli c2_i32_217 v386
  let c1_i32_218 : BitVec 32 := 1#32
  let v393 : BitVec 32 := Scalar.subi v392 c1_i32_218
  let v394 : BitVec 32 := Scalar.addi v393 c0_i32_219
  let c7_i32_220 : BitVec 32 := 7#32
  let v395 : BitVec 32 := Scalar.andi v394 c7_i32_220
  let c192_i32_221 : BitVec 32 := 192#32
  let v396 : BitVec 32 := Scalar.muli v395 c192_i32_221
  let v397 : Index := Scalar.indexCast v396
  let c0_223 : Index := 0#32
  ![1, v397.toNat, 0]
def k3_off5 (i : grid3.Coords) (c0_i32_259 : BitVec 32) (c0_i32_263 : BitVec 32) : Fin 3 → Nat :=
  let c2_264 : Index := 2#32
  let c2_i32_258 : BitVec 32 := 2#32
  let arg0 : BitVec 32 := BitVec.ofNat 32 (i 0).val
  let c4_i32 : BitVec 32 := 4#32
  let v386 : BitVec 32 := Scalar.subi arg0 c4_i32
  let v454 : BitVec 32 := Scalar.muli c2_i32_258 v386
  let v455 : BitVec 32 := Scalar.addi v454 c0_i32_259
  let c7_i32_260 : BitVec 32 := 7#32
  let v456 : BitVec 32 := Scalar.andi v455 c7_i32_260
  let c192_i32_261 : BitVec 32 := 192#32
  let v457 : BitVec 32 := Scalar.muli v456 c192_i32_261
  let v461 : BitVec 32 := Scalar.addi v457 c0_i32_263
  let v462 : Index := Scalar.indexCast v461
  let c0_265 : Index := 0#32
  ![2, v462.toNat, 0]
def k3_off6 (i : grid3.Coords) (c0_i32_307 : BitVec 32) : Fin 3 → Nat :=
  let c2_310 : Index := 2#32
  let c2_i32_305 : BitVec 32 := 2#32
  let arg0 : BitVec 32 := BitVec.ofNat 32 (i 0).val
  let c6_i32 : BitVec 32 := 6#32
  let v532 : BitVec 32 := Scalar.subi arg0 c6_i32
  let v538 : BitVec 32 := Scalar.muli c2_i32_305 v532
  let c1_i32_306 : BitVec 32 := 1#32
  let v539 : BitVec 32 := Scalar.subi v538 c1_i32_306
  let v540 : BitVec 32 := Scalar.addi v539 c0_i32_307
  let c7_i32_308 : BitVec 32 := 7#32
  let v541 : BitVec 32 := Scalar.andi v540 c7_i32_308
  let c192_i32_309 : BitVec 32 := 192#32
  let v542 : BitVec 32 := Scalar.muli v541 c192_i32_309
  let v543 : Index := Scalar.indexCast v542
  let c0_311 : Index := 0#32
  ![2, v543.toNat, 0]
def k3_cond2 (i : grid3.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v154 : BitVec 32 := Scalar.extui v129
  let c0_i32_86 : BitVec 32 := 0#32
  let v155 : BitVec 1 := Scalar.cmpi .ne v154 c0_i32_86
  v155

def k3_cond3 (i : grid3.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v207 : BitVec 32 := Scalar.extui v129
  let c0_i32_107 : BitVec 32 := 0#32
  let v208 : BitVec 1 := Scalar.cmpi .ne v207 c0_i32_107
  v208

def k3_cond4 (i : grid3.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v300 : BitVec 32 := Scalar.extui v243
  let c0_i32_168 : BitVec 32 := 0#32
  let v301 : BitVec 1 := Scalar.cmpi .ne v300 c0_i32_168
  v301

def k3_cond5 (i : grid3.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v353 : BitVec 32 := Scalar.extui v243
  let c0_i32_195 : BitVec 32 := 0#32
  let v354 : BitVec 1 := Scalar.cmpi .ne v353 c0_i32_195
  v354

def k3_cond6 (i : grid3.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v446 : BitVec 32 := Scalar.extui v389
  let c0_i32_256 : BitVec 32 := 0#32
  let v447 : BitVec 1 := Scalar.cmpi .ne v446 c0_i32_256
  v447

def k3_cond7 (i : grid3.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v499 : BitVec 32 := Scalar.extui v389
  let c0_i32_283 : BitVec 32 := 0#32
  let v500 : BitVec 1 := Scalar.cmpi .ne v499 c0_i32_283
  v500

def k3_cond8 (i : grid3.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v592 : BitVec 32 := Scalar.extui v535
  let c0_i32_344 : BitVec 32 := 0#32
  let v593 : BitVec 1 := Scalar.cmpi .ne v592 c0_i32_344
  v593

def k3_cond9 (i : grid3.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v614 : BitVec 32 := Scalar.extui v535
  let c0_i32_355 : BitVec 32 := 0#32
  let v615 : BitVec 1 := Scalar.cmpi .ne v614 c0_i32_355
  v615

def k3_cond10 (i : grid3.Coords) : BitVec 1 :=
  let arg0 : BitVec 32 := BitVec.ofNat 32 (i 0).val
  let c122_i32 : BitVec 32 := 122#32
  let v616 : BitVec 1 := Scalar.cmpi .eq arg0 c122_i32
  let v617 : BitVec 32 := Scalar.extui v616
  let c0_i32_356 : BitVec 32 := 0#32
  let v618 : BitVec 1 := Scalar.cmpi .ne v617 c0_i32_356
  v618

def cc3_transform_0 (i : grid3.Coords) : Fin 3 → Nat :=
  let arg0 : BitVec 32 := BitVec.ofNat 32 (i 0).val
  let c116_i32 : BitVec 32 := 116#32
  let v0 : BitVec 32 := Scalar.minsi arg0 c116_i32
  let c0_i32 : BitVec 32 := 0#32
  let c0_i32_0 : BitVec 32 := 0#32
  let c0_i32_1 : BitVec 32 := 0#32
  ![v0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c116_i32 : BitVec 32 := 116#32
  let v1 : BitVec 32 := Scalar.maxsi c0_i32_0 v0
  let v2 : BitVec 32 := Scalar.minsi c116_i32 v1
  let c3_i32 : BitVec 32 := 3#32
  let c0_i32_1 : BitVec 32 := 0#32
  let c0_i32_2 : BitVec 32 := 0#32
  let c0_i32_3 : BitVec 32 := 0#32
  ![c3_i32.toNat, v2.toNat, c0_i32_1.toNat, c0_i32_2.toNat]

def cc3_transform_12 (i : grid3.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c116_i32 : BitVec 32 := 116#32
  let v1 : BitVec 32 := Scalar.maxsi c0_i32 v0
  let v2 : BitVec 32 := Scalar.minsi c116_i32 v1
  let c3_i32 : BitVec 32 := 3#32
  let c0_i32_0 : BitVec 32 := 0#32
  let c0_i32_1 : BitVec 32 := 0#32
  let c0_i32_2 : BitVec 32 := 0#32
  ![c3_i32.toNat, v2.toNat, c0_i32_0.toNat, c0_i32_1.toNat]

def cc3_transform_13 (i : grid3.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c116_i32 : BitVec 32 := 116#32
  let v1 : BitVec 32 := Scalar.maxsi c0_i32 v0
  let v2 : BitVec 32 := Scalar.minsi c116_i32 v1
  let c3_i32 : BitVec 32 := 3#32
  let c0_i32_0 : BitVec 32 := 0#32
  let c0_i32_1 : BitVec 32 := 0#32
  let c0_i32_2 : BitVec 32 := 0#32
  ![c3_i32.toNat, v2.toNat, c0_i32_0.toNat, c0_i32_1.toNat]

def cc3_transform_14 (i : grid3.Coords) : Fin 4 → Nat :=
  let arg0 : BitVec 32 := BitVec.ofNat 32 (i 0).val
  let c6_i32 : BitVec 32 := 6#32
  let v0 : BitVec 32 := Scalar.subi arg0 c6_i32
  let c0_i32 : BitVec 32 := 0#32
  let c116_i32 : BitVec 32 := 116#32
  let v1 : BitVec 32 := Scalar.maxsi c0_i32 v0
  let v2 : BitVec 32 := Scalar.minsi c116_i32 v1
  let c3_i32 : BitVec 32 := 3#32
  let c0_i32_0 : BitVec 32 := 0#32
  let c0_i32_1 : BitVec 32 := 0#32
  let c0_i32_2 : BitVec 32 := 0#32
  ![c3_i32.toNat, v2.toNat, c0_i32_0.toNat, c0_i32_1.toNat]

def cc3_transform_15 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage3_0 : Fin 2 → Memref sig .tc .vmem S32x8x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x960 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3x128x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .smem S4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x2x64x236 .i8 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x2x64x236 .i8 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x2x64x236 .i8 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x2x64x236 .i8 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1x64x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![123], ![false]⟩

def k4_off1 (i : grid4.Coords) (c0_i32_88 : BitVec 32) (c0_i32_90 : BitVec 32) : Fin 3 → Nat :=
  let c0_91 : Index := 0#32
  let c2_i32 : BitVec 32 := 2#32
  let arg0 : BitVec 32 := BitVec.ofNat 32 (i 0).val
  let c0_i32_72 : BitVec 32 := 0#32
  let v126 : BitVec 32 := Scalar.subi arg0 c0_i32_72
  let v162 : BitVec 32 := Scalar.muli c2_i32 v126
  let v163 : BitVec 32 := Scalar.addi v162 c0_i32_88
  let c7_i32 : BitVec 32 := 7#32
  let v164 : BitVec 32 := Scalar.andi v163 c7_i32
  let c192_i32 : BitVec 32 := 192#32
  let v165 : BitVec 32 := Scalar.muli v164 c192_i32
  let v169 : BitVec 32 := Scalar.addi v165 c0_i32_90
  let v170 : Index := Scalar.indexCast v169
  let c0_92 : Index := 0#32
  ![0, v170.toNat, 0]
def k4_off2 (i : grid4.Coords) (c0_i32_132 : BitVec 32) : Fin 3 → Nat :=
  let c0_135 : Index := 0#32
  let c2_i32_130 : BitVec 32 := 2#32
  let arg0 : BitVec 32 := BitVec.ofNat 32 (i 0).val
  let c2_i32_124 : BitVec 32 := 2#32
  let v240 : BitVec 32 := Scalar.subi arg0 c2_i32_124
  let v246 : BitVec 32 := Scalar.muli c2_i32_130 v240
  let c1_i32_131 : BitVec 32 := 1#32
  let v247 : BitVec 32 := Scalar.subi v246 c1_i32_131
  let v248 : BitVec 32 := Scalar.addi v247 c0_i32_132
  let c7_i32_133 : BitVec 32 := 7#32
  let v249 : BitVec 32 := Scalar.andi v248 c7_i32_133
  let c192_i32_134 : BitVec 32 := 192#32
  let v250 : BitVec 32 := Scalar.muli v249 c192_i32_134
  let v251 : Index := Scalar.indexCast v250
  let c0_136 : Index := 0#32
  ![0, v251.toNat, 0]
def k4_off3 (i : grid4.Coords) (c0_i32_171 : BitVec 32) (c0_i32_175 : BitVec 32) : Fin 3 → Nat :=
  let c1_176 : Index := 1#32
  let c2_i32_170 : BitVec 32 := 2#32
  let arg0 : BitVec 32 := BitVec.ofNat 32 (i 0).val
  let c2_i32_124 : BitVec 32 := 2#32
  let v240 : BitVec 32 := Scalar.subi arg0 c2_i32_124
  let v308 : BitVec 32 := Scalar.muli c2_i32_170 v240
  let v309 : BitVec 32 := Scalar.addi v308 c0_i32_171
  let c7_i32_172 : BitVec 32 := 7#32
  let v310 : BitVec 32 := Scalar.andi v309 c7_i32_172
  let c192_i32_173 : BitVec 32 := 192#32
  let v311 : BitVec 32 := Scalar.muli v310 c192_i32_173
  let v315 : BitVec 32 := Scalar.addi v311 c0_i32_175
  let v316 : Index := Scalar.indexCast v315
  let c0_177 : Index := 0#32
  ![1, v316.toNat, 0]
def k4_off4 (i : grid4.Coords) (c0_i32_219 : BitVec 32) : Fin 3 → Nat :=
  let c1_222 : Index := 1#32
  let c2_i32_217 : BitVec 32 := 2#32
  let arg0 : BitVec 32 := BitVec.ofNat 32 (i 0).val
  let c4_i32 : BitVec 32 := 4#32
  let v386 : BitVec 32 := Scalar.subi arg0 c4_i32
  let v392 : BitVec 32 := Scalar.muli c2_i32_217 v386
  let c1_i32_218 : BitVec 32 := 1#32
  let v393 : BitVec 32 := Scalar.subi v392 c1_i32_218
  let v394 : BitVec 32 := Scalar.addi v393 c0_i32_219
  let c7_i32_220 : BitVec 32 := 7#32
  let v395 : BitVec 32 := Scalar.andi v394 c7_i32_220
  let c192_i32_221 : BitVec 32 := 192#32
  let v396 : BitVec 32 := Scalar.muli v395 c192_i32_221
  let v397 : Index := Scalar.indexCast v396
  let c0_223 : Index := 0#32
  ![1, v397.toNat, 0]
def k4_off5 (i : grid4.Coords) (c0_i32_259 : BitVec 32) (c0_i32_263 : BitVec 32) : Fin 3 → Nat :=
  let c2_264 : Index := 2#32
  let c2_i32_258 : BitVec 32 := 2#32
  let arg0 : BitVec 32 := BitVec.ofNat 32 (i 0).val
  let c4_i32 : BitVec 32 := 4#32
  let v386 : BitVec 32 := Scalar.subi arg0 c4_i32
  let v454 : BitVec 32 := Scalar.muli c2_i32_258 v386
  let v455 : BitVec 32 := Scalar.addi v454 c0_i32_259
  let c7_i32_260 : BitVec 32 := 7#32
  let v456 : BitVec 32 := Scalar.andi v455 c7_i32_260
  let c192_i32_261 : BitVec 32 := 192#32
  let v457 : BitVec 32 := Scalar.muli v456 c192_i32_261
  let v461 : BitVec 32 := Scalar.addi v457 c0_i32_263
  let v462 : Index := Scalar.indexCast v461
  let c0_265 : Index := 0#32
  ![2, v462.toNat, 0]
def k4_off6 (i : grid4.Coords) (c0_i32_307 : BitVec 32) : Fin 3 → Nat :=
  let c2_310 : Index := 2#32
  let c2_i32_305 : BitVec 32 := 2#32
  let arg0 : BitVec 32 := BitVec.ofNat 32 (i 0).val
  let c6_i32 : BitVec 32 := 6#32
  let v532 : BitVec 32 := Scalar.subi arg0 c6_i32
  let v538 : BitVec 32 := Scalar.muli c2_i32_305 v532
  let c1_i32_306 : BitVec 32 := 1#32
  let v539 : BitVec 32 := Scalar.subi v538 c1_i32_306
  let v540 : BitVec 32 := Scalar.addi v539 c0_i32_307
  let c7_i32_308 : BitVec 32 := 7#32
  let v541 : BitVec 32 := Scalar.andi v540 c7_i32_308
  let c192_i32_309 : BitVec 32 := 192#32
  let v542 : BitVec 32 := Scalar.muli v541 c192_i32_309
  let v543 : Index := Scalar.indexCast v542
  let c0_311 : Index := 0#32
  ![2, v543.toNat, 0]
def k4_cond2 (i : grid4.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v154 : BitVec 32 := Scalar.extui v129
  let c0_i32_86 : BitVec 32 := 0#32
  let v155 : BitVec 1 := Scalar.cmpi .ne v154 c0_i32_86
  v155

def k4_cond3 (i : grid4.Coords) : BitVec 1 :=
  let arg0 : BitVec 32 := BitVec.ofNat 32 (i 0).val
  let c0_i32_72 : BitVec 32 := 0#32
  let v126 : BitVec 32 := Scalar.subi arg0 c0_i32_72
  let c0_i32_73 : BitVec 32 := 0#32
  let v127 : BitVec 1 := Scalar.cmpi .sge v126 c0_i32_73
  let c117_i32 : BitVec 32 := 117#32
  let v128 : BitVec 1 := Scalar.cmpi .slt v126 c117_i32
  let v129 : BitVec 1 := Scalar.andi v127 v128
  let v207 : BitVec 32 := Scalar.extui v129
  let c0_i32_107 : BitVec 32 := 0#32
  let v208 : BitVec 1 := Scalar.cmpi .ne v207 c0_i32_107
  v208

def k4_cond4 (i : grid4.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v300 : BitVec 32 := Scalar.extui v243
  let c0_i32_168 : BitVec 32 := 0#32
  let v301 : BitVec 1 := Scalar.cmpi .ne v300 c0_i32_168
  v301

def k4_cond5 (i : grid4.Coords) : BitVec 1 :=
  let arg0 : BitVec 32 := BitVec.ofNat 32 (i 0).val
  let c2_i32_124 : BitVec 32 := 2#32
  let v240 : BitVec 32 := Scalar.subi arg0 c2_i32_124
  let c0_i32_125 : BitVec 32 := 0#32
  let v241 : BitVec 1 := Scalar.cmpi .sge v240 c0_i32_125
  let c117_i32_126 : BitVec 32 := 117#32
  let v242 : BitVec 1 := Scalar.cmpi .slt v240 c117_i32_126
  let v243 : BitVec 1 := Scalar.andi v241 v242
  let v353 : BitVec 32 := Scalar.extui v243
  let c0_i32_195 : BitVec 32 := 0#32
  let v354 : BitVec 1 := Scalar.cmpi .ne v353 c0_i32_195
  v354

def k4_cond6 (i : grid4.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v446 : BitVec 32 := Scalar.extui v389
  let c0_i32_256 : BitVec 32 := 0#32
  let v447 : BitVec 1 := Scalar.cmpi .ne v446 c0_i32_256
  v447

def k4_cond7 (i : grid4.Coords) : BitVec 1 :=
  let arg0 : BitVec 32 := BitVec.ofNat 32 (i 0).val
  let c4_i32 : BitVec 32 := 4#32
  let v386 : BitVec 32 := Scalar.subi arg0 c4_i32
  let c0_i32_212 : BitVec 32 := 0#32
  let v387 : BitVec 1 := Scalar.cmpi .sge v386 c0_i32_212
  let c117_i32_213 : BitVec 32 := 117#32
  let v388 : BitVec 1 := Scalar.cmpi .slt v386 c117_i32_213
  let v389 : BitVec 1 := Scalar.andi v387 v388
  let v499 : BitVec 32 := Scalar.extui v389
  let c0_i32_283 : BitVec 32 := 0#32
  let v500 : BitVec 1 := Scalar.cmpi .ne v499 c0_i32_283
  v500

def k4_cond8 (i : grid4.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v592 : BitVec 32 := Scalar.extui v535
  let c0_i32_344 : BitVec 32 := 0#32
  let v593 : BitVec 1 := Scalar.cmpi .ne v592 c0_i32_344
  v593

def k4_cond9 (i : grid4.Coords) : BitVec 1 :=
  let arg0 : BitVec 32 := BitVec.ofNat 32 (i 0).val
  let c6_i32 : BitVec 32 := 6#32
  let v532 : BitVec 32 := Scalar.subi arg0 c6_i32
  let c0_i32_300 : BitVec 32 := 0#32
  let v533 : BitVec 1 := Scalar.cmpi .sge v532 c0_i32_300
  let c117_i32_301 : BitVec 32 := 117#32
  let v534 : BitVec 1 := Scalar.cmpi .slt v532 c117_i32_301
  let v535 : BitVec 1 := Scalar.andi v533 v534
  let v614 : BitVec 32 := Scalar.extui v535
  let c0_i32_355 : BitVec 32 := 0#32
  let v615 : BitVec 1 := Scalar.cmpi .ne v614 c0_i32_355
  v615

def k4_cond10 (i : grid4.Coords) : BitVec 1 :=
  let arg0 : BitVec 32 := BitVec.ofNat 32 (i 0).val
  let c122_i32 : BitVec 32 := 122#32
  let v616 : BitVec 1 := Scalar.cmpi .eq arg0 c122_i32
  let v617 : BitVec 32 := Scalar.extui v616
  let c0_i32_356 : BitVec 32 := 0#32
  let v618 : BitVec 1 := Scalar.cmpi .ne v617 c0_i32_356
  v618

def cc4_transform_0 (i : grid4.Coords) : Fin 3 → Nat :=
  let arg0 : BitVec 32 := BitVec.ofNat 32 (i 0).val
  let c116_i32 : BitVec 32 := 116#32
  let v0 : BitVec 32 := Scalar.minsi arg0 c116_i32
  let c0_i32 : BitVec 32 := 0#32
  let c0_i32_0 : BitVec 32 := 0#32
  let c0_i32_1 : BitVec 32 := 0#32
  ![v0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c116_i32 : BitVec 32 := 116#32
  let v1 : BitVec 32 := Scalar.maxsi c0_i32_0 v0
  let v2 : BitVec 32 := Scalar.minsi c116_i32 v1
  let c4_i32 : BitVec 32 := 4#32
  let c0_i32_1 : BitVec 32 := 0#32
  let c0_i32_2 : BitVec 32 := 0#32
  let c0_i32_3 : BitVec 32 := 0#32
  ![c4_i32.toNat, v2.toNat, c0_i32_1.toNat, c0_i32_2.toNat]

def cc4_transform_12 (i : grid4.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c116_i32 : BitVec 32 := 116#32
  let v1 : BitVec 32 := Scalar.maxsi c0_i32 v0
  let v2 : BitVec 32 := Scalar.minsi c116_i32 v1
  let c4_i32 : BitVec 32 := 4#32
  let c0_i32_0 : BitVec 32 := 0#32
  let c0_i32_1 : BitVec 32 := 0#32
  let c0_i32_2 : BitVec 32 := 0#32
  ![c4_i32.toNat, v2.toNat, c0_i32_0.toNat, c0_i32_1.toNat]

def cc4_transform_13 (i : grid4.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c116_i32 : BitVec 32 := 116#32
  let v1 : BitVec 32 := Scalar.maxsi c0_i32 v0
  let v2 : BitVec 32 := Scalar.minsi c116_i32 v1
  let c4_i32_0 : BitVec 32 := 4#32
  let c0_i32_1 : BitVec 32 := 0#32
  let c0_i32_2 : BitVec 32 := 0#32
  let c0_i32_3 : BitVec 32 := 0#32
  ![c4_i32_0.toNat, v2.toNat, c0_i32_1.toNat, c0_i32_2.toNat]

def cc4_transform_14 (i : grid4.Coords) : Fin 4 → Nat :=
  let arg0 : BitVec 32 := BitVec.ofNat 32 (i 0).val
  let c6_i32 : BitVec 32 := 6#32
  let v0 : BitVec 32 := Scalar.subi arg0 c6_i32
  let c0_i32 : BitVec 32 := 0#32
  let c116_i32 : BitVec 32 := 116#32
  let v1 : BitVec 32 := Scalar.maxsi c0_i32 v0
  let v2 : BitVec 32 := Scalar.minsi c116_i32 v1
  let c4_i32 : BitVec 32 := 4#32
  let c0_i32_0 : BitVec 32 := 0#32
  let c0_i32_1 : BitVec 32 := 0#32
  let c0_i32_2 : BitVec 32 := 0#32
  ![c4_i32.toNat, v2.toNat, c0_i32_0.toNat, c0_i32_1.toNat]

def cc4_transform_15 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

abbrev stage4_0 : Fin 2 → Memref sig .tc .vmem S32x8x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x960 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3x128x768 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4x64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4x64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .smem S4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1x2x64x236 .i8 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x2x64x236 .i8 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x2x64x236 .i8 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x2x64x236 .i8 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S1x64x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]
-- ==== KernelIdeal.lean ====
variable {F : FTy → Type} [FloatOps F]
-- ==== ReferenceIdeal.lean ====
abbrev S3744x8x128 : Shape := ⟨3, ![3744, 8, 128]⟩
abbrev S4x3x3x64x64 : Shape := ⟨5, ![4, 3, 3, 64, 64]⟩
abbrev S4x64 : Shape := ⟨2, ![4, 64]⟩
abbrev S1 : Shape := ⟨1, ![1]⟩
abbrev S4 : Shape := ⟨1, ![4]⟩
abbrev S1x3744x8x128 : Shape := ⟨4, ![1, 3744, 8, 128]⟩
abbrev S5x3744x8x128 : Shape := ⟨4, ![5, 3744, 8, 128]⟩
abbrev S5x468x2x2x2x8x128 : Shape := ⟨7, ![5, 468, 2, 2, 2, 8, 128]⟩
abbrev S5x2x128x2x468x2x8 : Shape := ⟨7, ![5, 2, 128, 2, 468, 2, 8]⟩
abbrev S5x512x468x16 : Shape := ⟨4, ![5, 512, 468, 16]⟩
abbrev S5x472x468x16 : Shape := ⟨4, ![5, 472, 468, 16]⟩
abbrev S_ : Shape := ⟨0, ![]⟩
abbrev S5x472x468x16x1 : Shape := ⟨5, ![5, 472, 468, 16, 1]⟩
abbrev S5x472x468x16x4 : Shape := ⟨5, ![5, 472, 468, 16, 4]⟩
abbrev S5x472x468x64 : Shape := ⟨4, ![5, 472, 468, 64]⟩
abbrev S1x3x3x64x64 : Shape := ⟨5, ![1, 3, 3, 64, 64]⟩
abbrev S3x3x64x64 : Shape := ⟨4, ![3, 3, 64, 64]⟩
abbrev S1x64 : Shape := ⟨2, ![1, 64]⟩
abbrev S64 : Shape := ⟨1, ![64]⟩
abbrev S5x474x470x64 : Shape := ⟨4, ![5, 474, 470, 64]⟩
abbrev S5x236x234x64 : Shape := ⟨4, ![5, 236, 234, 64]⟩
abbrev S576x64 : Shape := ⟨2, ![576, 64]⟩
abbrev S5x236x234x576 : Shape := ⟨4, ![5, 236, 234, 576]⟩
abbrev S1x1x1x64 : Shape := ⟨4, ![1, 1, 1, 64]⟩
abbrev S5x234x64x236 : Shape := ⟨4, ![5, 234, 64, 236]⟩
abbrev S5x238x236x64 : Shape := ⟨4, ![5, 238, 236, 64]⟩
abbrev S5x64 : Shape := ⟨2, ![5, 64]⟩
abbrev S5x64x1 : Shape := ⟨3, ![5, 64, 1]⟩
abbrev S5x64x128 : Shape := ⟨3, ![5, 64, 128]⟩

abbrev nBuf : Space → Nat
  | .hbm => 270
  | .vmem => 0
  | .smem => 0
  | _ => 0

abbrev hbmTy0_0 (i : Nat) : BufTy := match i % 128 with
  | 0 => ⟨S3744x8x128, .i32⟩
  | 1 => ⟨S3744x8x128, .i32⟩
  | 2 => ⟨S3744x8x128, .i32⟩
  | 3 => ⟨S3744x8x128, .i32⟩
  | 4 => ⟨S3744x8x128, .i32⟩
  | 5 => ⟨S4x3x3x64x64, .i8⟩
  | 6 => ⟨S4x64, .f32⟩
  | 7 => ⟨S4x64, .f32⟩
  | 8 => ⟨S1, .f32⟩
  | 9 => ⟨S4, .f32⟩
  | 10 => ⟨S1x3744x8x128, .i32⟩
  | 11 => ⟨S1x3744x8x128, .i32⟩
  | 12 => ⟨S1x3744x8x128, .i32⟩
  | 13 => ⟨S1x3744x8x128, .i32⟩
  | 14 => ⟨S1x3744x8x128, .i32⟩
  | 15 => ⟨S5x3744x8x128, .i32⟩
  | 16 => ⟨S5x468x2x2x2x8x128, .i32⟩
  | 17 => ⟨S5x2x128x2x468x2x8, .i32⟩
  | 18 => ⟨S5x512x468x16, .i32⟩
  | 19 => ⟨S5x472x468x16, .i32⟩
  | 20 => ⟨S_, .i32⟩
  | 21 => ⟨S5x472x468x16, .i32⟩
  | 22 => ⟨S5x472x468x16, .i32⟩
  | 23 => ⟨S_, .i32⟩
  | 24 => ⟨S5x472x468x16, .i32⟩
  | 25 => ⟨S5x472x468x16, .i32⟩
  | 26 => ⟨S_, .i32⟩
  | 27 => ⟨S5x472x468x16, .i32⟩
  | 28 => ⟨S5x472x468x16, .i32⟩
  | 29 => ⟨S_, .i32⟩
  | 30 => ⟨S5x472x468x16, .i32⟩
  | 31 => ⟨S5x472x468x16, .i32⟩
  | 32 => ⟨S_, .i32⟩
  | 33 => ⟨S5x472x468x16, .i32⟩
  | 34 => ⟨S5x472x468x16, .i32⟩
  | 35 => ⟨S_, .i32⟩
  | 36 => ⟨S5x472x468x16, .i32⟩
  | 37 => ⟨S5x472x468x16, .i32⟩
  | 38 => ⟨S_, .i32⟩
  | 39 => ⟨S5x472x468x16, .i32⟩
  | 40 => ⟨S5x472x468x16, .i32⟩
  | 41 => ⟨S_, .i32⟩
  | 42 => ⟨S5x472x468x16, .i32⟩
  | 43 => ⟨S5x472x468x16, .i32⟩
  | 44 => ⟨S5x472x468x16x1, .i32⟩
  | 45 => ⟨S5x472x468x16x1, .i32⟩
  | 46 => ⟨S5x472x468x16x1, .i32⟩
  | 47 => ⟨S5x472x468x16x1, .i32⟩
  | 48 => ⟨S5x472x468x16x4, .i32⟩
  | 49 => ⟨S5x472x468x64, .i32⟩
  | 50 => ⟨S_, .f32⟩
  | 51 => ⟨S1x3x3x64x64, .i8⟩
  | 52 => ⟨S3x3x64x64, .i8⟩
  | 53 => ⟨S1x64, .f32⟩
  | 54 => ⟨S64, .f32⟩
  | 55 => ⟨S64, .f32⟩
  | 56 => ⟨S64, .f32⟩
  | 57 => ⟨S1x64, .f32⟩
  | 58 => ⟨S64, .f32⟩
  | 59 => ⟨S5x472x468x64, .bf16⟩
  | 60 => ⟨S_, .i32⟩
  | 61 => ⟨S_, .bf16⟩
  | 62 => ⟨S5x474x470x64, .bf16⟩
  | 63 => ⟨S5x236x234x64, .bf16⟩
  | 64 => ⟨S5x236x234x64, .bf16⟩
  | 65 => ⟨S5x236x234x64, .bf16⟩
  | 66 => ⟨S5x236x234x64, .bf16⟩
  | 67 => ⟨S5x236x234x64, .bf16⟩
  | 68 => ⟨S5x236x234x64, .bf16⟩
  | 69 => ⟨S5x236x234x64, .bf16⟩
  | 70 => ⟨S5x236x234x64, .bf16⟩
  | 71 => ⟨S5x236x234x64, .bf16⟩
  | 72 => ⟨S3x3x64x64, .i32⟩
  | 73 => ⟨S3x3x64x64, .bf16⟩
  | 74 => ⟨S576x64, .bf16⟩
  | 75 => ⟨S5x236x234x576, .bf16⟩
  | 76 => ⟨S5x236x234x64, .f32⟩
  | 77 => ⟨S1x1x1x64, .f32⟩
  | 78 => ⟨S5x236x234x64, .f32⟩
  | 79 => ⟨S5x236x234x64, .f32⟩
  | 80 => ⟨S1x1x1x64, .f32⟩
  | 81 => ⟨S5x236x234x64, .f32⟩
  | 82 => ⟨S5x236x234x64, .f32⟩
  | 83 => ⟨S_, .f32⟩
  | 84 => ⟨S5x236x234x64, .f32⟩
  | 85 => ⟨S5x236x234x64, .f32⟩
  | 86 => ⟨S1, .f32⟩
  | 87 => ⟨S_, .f32⟩
  | 88 => ⟨S5x236x234x64, .f32⟩
  | 89 => ⟨S5x236x234x64, .f32⟩
  | 90 => ⟨S5x236x234x64, .f32⟩
  | 91 => ⟨S_, .f32⟩
  | 92 => ⟨S_, .f32⟩
  | 93 => ⟨S_, .f32⟩
  | 94 => ⟨S5x236x234x64, .f32⟩
  | 95 => ⟨S5x236x234x64, .f32⟩
  | 96 => ⟨S_, .f32⟩
  | 97 => ⟨S5x236x234x64, .f32⟩
  | 98 => ⟨S5x236x234x64, .f32⟩
  | 99 => ⟨S5x236x234x64, .i32⟩
  | 100 => ⟨S5x236x234x64, .i8⟩
  | 101 => ⟨S1, .f32⟩
  | 102 => ⟨S_, .f32⟩
  | 103 => ⟨S5x234x64x236, .i8⟩
  | 104 => ⟨S1x3x3x64x64, .i8⟩
  | 105 => ⟨S3x3x64x64, .i8⟩
  | 106 => ⟨S1x64, .f32⟩
  | 107 => ⟨S64, .f32⟩
  | 108 => ⟨S64, .f32⟩
  | 109 => ⟨S64, .f32⟩
  | 110 => ⟨S1x64, .f32⟩
  | 111 => ⟨S64, .f32⟩
  | 112 => ⟨S5x236x234x64, .i32⟩
  | 113 => ⟨S5x236x234x64, .bf16⟩
  | 114 => ⟨S_, .i32⟩
  | 115 => ⟨S_, .bf16⟩
  | 116 => ⟨S5x238x236x64, .bf16⟩
  | 117 => ⟨S5x236x234x64, .bf16⟩
  | 118 => ⟨S5x236x234x64, .bf16⟩
  | 119 => ⟨S5x236x234x64, .bf16⟩
  | 120 => ⟨S5x236x234x64, .bf16⟩
  | 121 => ⟨S5x236x234x64, .bf16⟩
  | 122 => ⟨S5x236x234x64, .bf16⟩
  | 123 => ⟨S5x236x234x64, .bf16⟩
  | 124 => ⟨S5x236x234x64, .bf16⟩
  | 125 => ⟨S5x236x234x64, .bf16⟩
  | 126 => ⟨S3x3x64x64, .i32⟩
  | 127 => ⟨S3x3x64x64, .bf16⟩
  | _ => ⟨S3744x8x128, .i32⟩

abbrev hbmTy0_1 (i : Nat) : BufTy := match i % 128 with
  | 0 => ⟨S576x64, .bf16⟩
  | 1 => ⟨S5x236x234x576, .bf16⟩
  | 2 => ⟨S5x236x234x64, .f32⟩
  | 3 => ⟨S1x1x1x64, .f32⟩
  | 4 => ⟨S5x236x234x64, .f32⟩
  | 5 => ⟨S5x236x234x64, .f32⟩
  | 6 => ⟨S1x1x1x64, .f32⟩
  | 7 => ⟨S5x236x234x64, .f32⟩
  | 8 => ⟨S5x236x234x64, .f32⟩
  | 9 => ⟨S_, .f32⟩
  | 10 => ⟨S5x236x234x64, .f32⟩
  | 11 => ⟨S5x236x234x64, .f32⟩
  | 12 => ⟨S1, .f32⟩
  | 13 => ⟨S_, .f32⟩
  | 14 => ⟨S5x236x234x64, .f32⟩
  | 15 => ⟨S5x236x234x64, .f32⟩
  | 16 => ⟨S5x236x234x64, .f32⟩
  | 17 => ⟨S_, .f32⟩
  | 18 => ⟨S_, .f32⟩
  | 19 => ⟨S_, .f32⟩
  | 20 => ⟨S5x236x234x64, .f32⟩
  | 21 => ⟨S5x236x234x64, .f32⟩
  | 22 => ⟨S_, .f32⟩
  | 23 => ⟨S5x236x234x64, .f32⟩
  | 24 => ⟨S5x236x234x64, .f32⟩
  | 25 => ⟨S5x236x234x64, .i32⟩
  | 26 => ⟨S5x236x234x64, .i8⟩
  | 27 => ⟨S1, .f32⟩
  | 28 => ⟨S_, .f32⟩
  | 29 => ⟨S5x234x64x236, .i8⟩
  | 30 => ⟨S1x3x3x64x64, .i8⟩
  | 31 => ⟨S3x3x64x64, .i8⟩
  | 32 => ⟨S1x64, .f32⟩
  | 33 => ⟨S64, .f32⟩
  | 34 => ⟨S64, .f32⟩
  | 35 => ⟨S64, .f32⟩
  | 36 => ⟨S1x64, .f32⟩
  | 37 => ⟨S64, .f32⟩
  | 38 => ⟨S5x236x234x64, .i32⟩
  | 39 => ⟨S5x236x234x64, .bf16⟩
  | 40 => ⟨S_, .i32⟩
  | 41 => ⟨S_, .bf16⟩
  | 42 => ⟨S5x238x236x64, .bf16⟩
  | 43 => ⟨S5x236x234x64, .bf16⟩
  | 44 => ⟨S5x236x234x64, .bf16⟩
  | 45 => ⟨S5x236x234x64, .bf16⟩
  | 46 => ⟨S5x236x234x64, .bf16⟩
  | 47 => ⟨S5x236x234x64, .bf16⟩
  | 48 => ⟨S5x236x234x64, .bf16⟩
  | 49 => ⟨S5x236x234x64, .bf16⟩
  | 50 => ⟨S5x236x234x64, .bf16⟩
  | 51 => ⟨S5x236x234x64, .bf16⟩
  | 52 => ⟨S3x3x64x64, .i32⟩
  | 53 => ⟨S3x3x64x64, .bf16⟩
  | 54 => ⟨S576x64, .bf16⟩
  | 55 => ⟨S5x236x234x576, .bf16⟩
  | 56 => ⟨S5x236x234x64, .f32⟩
  | 57 => ⟨S1x1x1x64, .f32⟩
  | 58 => ⟨S5x236x234x64, .f32⟩
  | 59 => ⟨S5x236x234x64, .f32⟩
  | 60 => ⟨S1x1x1x64, .f32⟩
  | 61 => ⟨S5x236x234x64, .f32⟩
  | 62 => ⟨S5x236x234x64, .f32⟩
  | 63 => ⟨S_, .f32⟩
  | 64 => ⟨S5x236x234x64, .f32⟩
  | 65 => ⟨S5x236x234x64, .f32⟩
  | 66 => ⟨S1, .f32⟩
  | 67 => ⟨S_, .f32⟩
  | 68 => ⟨S5x236x234x64, .f32⟩
  | 69 => ⟨S5x236x234x64, .f32⟩
  | 70 => ⟨S5x236x234x64, .f32⟩
  | 71 => ⟨S_, .f32⟩
  | 72 => ⟨S_, .f32⟩
  | 73 => ⟨S_, .f32⟩
  | 74 => ⟨S5x236x234x64, .f32⟩
  | 75 => ⟨S5x236x234x64, .f32⟩
  | 76 => ⟨S_, .f32⟩
  | 77 => ⟨S5x236x234x64, .f32⟩
  | 78 => ⟨S5x236x234x64, .f32⟩
  | 79 => ⟨S5x236x234x64, .i32⟩
  | 80 => ⟨S5x236x234x64, .i8⟩
  | 81 => ⟨S1, .f32⟩
  | 82 => ⟨S_, .f32⟩
  | 83 => ⟨S5x234x64x236, .i8⟩
  | 84 => ⟨S1x3x3x64x64, .i8⟩
  | 85 => ⟨S3x3x64x64, .i8⟩
  | 86 => ⟨S1x64, .f32⟩
  | 87 => ⟨S64, .f32⟩
  | 88 => ⟨S64, .f32⟩
  | 89 => ⟨S64, .f32⟩
  | 90 => ⟨S1x64, .f32⟩
  | 91 => ⟨S64, .f32⟩
  | 92 => ⟨S5x236x234x64, .i32⟩
  | 93 => ⟨S5x236x234x64, .bf16⟩
  | 94 => ⟨S_, .i32⟩
  | 95 => ⟨S_, .bf16⟩
  | 96 => ⟨S5x238x236x64, .bf16⟩
  | 97 => ⟨S5x236x234x64, .bf16⟩
  | 98 => ⟨S5x236x234x64, .bf16⟩
  | 99 => ⟨S5x236x234x64, .bf16⟩
  | 100 => ⟨S5x236x234x64, .bf16⟩
  | 101 => ⟨S5x236x234x64, .bf16⟩
  | 102 => ⟨S5x236x234x64, .bf16⟩
  | 103 => ⟨S5x236x234x64, .bf16⟩
  | 104 => ⟨S5x236x234x64, .bf16⟩
  | 105 => ⟨S5x236x234x64, .bf16⟩
  | 106 => ⟨S3x3x64x64, .i32⟩
  | 107 => ⟨S3x3x64x64, .bf16⟩
  | 108 => ⟨S576x64, .bf16⟩
  | 109 => ⟨S5x236x234x576, .bf16⟩
  | 110 => ⟨S5x236x234x64, .f32⟩
  | 111 => ⟨S1x1x1x64, .f32⟩
  | 112 => ⟨S5x236x234x64, .f32⟩
  | 113 => ⟨S5x236x234x64, .f32⟩
  | 114 => ⟨S1x1x1x64, .f32⟩
  | 115 => ⟨S5x236x234x64, .f32⟩
  | 116 => ⟨S5x236x234x64, .f32⟩
  | 117 => ⟨S_, .f32⟩
  | 118 => ⟨S5x236x234x64, .f32⟩
  | 119 => ⟨S5x236x234x64, .f32⟩
  | 120 => ⟨S1, .f32⟩
  | 121 => ⟨S_, .f32⟩
  | 122 => ⟨S5x236x234x64, .f32⟩
  | 123 => ⟨S5x236x234x64, .f32⟩
  | 124 => ⟨S5x236x234x64, .f32⟩
  | 125 => ⟨S_, .f32⟩
  | 126 => ⟨S_, .f32⟩
  | 127 => ⟨S_, .f32⟩
  | _ => ⟨S3744x8x128, .i32⟩

abbrev hbmTy0_2 (i : Nat) : BufTy := match i % 128 with
  | 0 => ⟨S5x236x234x64, .f32⟩
  | 1 => ⟨S5x236x234x64, .f32⟩
  | 2 => ⟨S_, .f32⟩
  | 3 => ⟨S5x236x234x64, .f32⟩
  | 4 => ⟨S5x236x234x64, .f32⟩
  | 5 => ⟨S5x236x234x64, .i32⟩
  | 6 => ⟨S5x236x234x64, .i8⟩
  | 7 => ⟨S1, .f32⟩
  | 8 => ⟨S_, .f32⟩
  | 9 => ⟨S5x234x64x236, .i8⟩
  | 10 => ⟨S_, .f32⟩
  | 11 => ⟨S5x64, .f32⟩
  | 12 => ⟨S5x64x1, .f32⟩
  | 13 => ⟨S5x64x128, .f32⟩
  | _ => ⟨S3744x8x128, .i32⟩

abbrev hbmTy (i : Nat) : BufTy := match i / 128 with
  | 0 => hbmTy0_0 i
  | 1 => hbmTy0_1 i
  | 2 => hbmTy0_2 i
  | _ => ⟨S3744x8x128, .i32⟩

abbrev bufTy : (tb : Table) → Fin (tcTables nBuf tb) → BufTy
  | .hbm, ⟨i, _⟩ => hbmTy i
  | _, _ => ⟨S3744x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_cst_9 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_10 : Ref sig .tc := ⟨.hbm, 114, rfl⟩
abbrev main_call3_v0 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_11 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_12 : Ref sig .tc := ⟨.hbm, 145, rfl⟩
abbrev main_cst_13 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_14 : Ref sig .tc := ⟨.hbm, 168, rfl⟩
abbrev main_call6_v0 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_15 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_16 : Ref sig .tc := ⟨.hbm, 199, rfl⟩
abbrev main_cst_17 : Ref sig .tc := ⟨.hbm, 200, rfl⟩
abbrev main_call8_v0 : Ref sig .tc := ⟨.hbm, 201, rfl⟩
abbrev main_call8_v1 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_c_18 : Ref sig .tc := ⟨.hbm, 222, rfl⟩
abbrev main_call9_v0 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_19 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_20 : Ref sig .tc := ⟨.hbm, 253, rfl⟩
abbrev main_cst_21 : Ref sig .tc := ⟨.hbm, 254, rfl⟩
abbrev main_call11_v0 : Ref sig .tc := ⟨.hbm, 255, rfl⟩
abbrev main_call11_v1 : Ref sig .tc := ⟨.hbm, 256, rfl⟩
abbrev main_call11_v2 : Ref sig .tc := ⟨.hbm, 257, rfl⟩
abbrev main_call11_v3 : Ref sig .tc := ⟨.hbm, 258, rfl⟩
abbrev main_call11_v4 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_cst_22 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩

abbrev nD : Nat := 1
abbrev τ : Topo := Topo.v7x

variable {F : FTy → Type} [FloatOps F]
-- ==== Proof.Hand.Chain.lean ====
/-
  Hand-written, untrusted. Kernel calls run one after another, each leaving its arrays at contents of which only a relation is known:
  a call enters at whatever contents the ones before it left, so its proof data are chosen when it is entered (`region`).
-/
module

public import Idealize.ShloMosaic.Lib.Pipeline.RegionArraysF
public import Idealize.ShloMosaic.Lib.Pipeline.Frame

@[expose] public section

noncomputable section

namespace Cert.Hand.Chain

open Idealize.ShloMosaic Idealize.ShloMosaic.TcCoe Idealize.ShloMosaic.Pipeline
open Idealize.SL
open Idealize.SL.BI (sProp bigSep bigSep_congr bigSep_mono bigSep_sep' bigSep_map)
open scoped Idealize.SL.BI
open Idealize.SL.BI.BIBase Idealize.SL.BI.Laws Idealize.SL.Sem Idealize.SL.ProofMode
open Idealize.SL.RA
open Idealize.ShloMosaic.Rounds

/-- Two copies of the rounds' algebra: one for the launch theorem, one the calls take their shares from. -/
abbrev UU (sig : RefSig) (nD : ℕ) (τ : Topo) : Type := UR sig nD τ × UR sig nD τ

variable {nD : ℕ} {τ : Topo} {sig : RefSig} {Val : EltTy → Type} {Λ₀ : Labels} {P : Type} [Fintype P] [DecidableEq P] [∀ e, Nonempty (Val e)]

local notation "𝕄" => MT nD τ sig Unit Val ℕ (UU sig nD τ) ℕ

section Val

variable {cfg : Cfg sig Λ₀} {c : Dev nD}

/-- The contents a call may leave, from `V`: its arrays as the relation says, the other buffers as they were. -/
def After (rd : RDat τ Val Unit ℕ (UU sig nD τ) ℕ cfg c) (V V' : Valuation τ sig Val) : Prop :=
  (∀ w, rd.ArrAt w cfg.N (V' (Proc.devRef .tc (arrRef cfg.spec w)))) ∧ ∀ b ∉ arrRefs (τ := τ) cfg.spec, V' b = V b

open Classical in
/-- `V` with the arrays of a call at `A`. -/
def put (A : (w : Fin cfg.W) → Buf Val ((cfg.win w).arr.view.loc (c.tc : Thread nD τ))) (V : Valuation τ sig Val) : Valuation τ sig Val := fun b =>
  if h : ∃ w : Fin cfg.W, b = Proc.devRef .tc (arrRef cfg.spec w) then
    cast (congrArg (fun b' : DevRef τ sig => b'.ty.Contents Val) h.choose_spec.symm) (A h.choose)
  else V b

omit [∀ e, Nonempty (Val e)] in
theorem cast_put (A : (w : Fin cfg.W) → Buf Val ((cfg.win w).arr.view.loc (c.tc : Thread nD τ))) {w w' : Fin cfg.W} (hw : w' = w)
    (e : (Proc.devRef .tc (arrRef cfg.spec w') : DevRef τ sig).ty.Contents Val = (Proc.devRef .tc (arrRef cfg.spec w) : DevRef τ sig).ty.Contents Val) :
    cast e (A w') = A w := by
  subst hw; rfl

omit [∀ e, Nonempty (Val e)] in
theorem put_arr (A : (w : Fin cfg.W) → Buf Val ((cfg.win w).arr.view.loc (c.tc : Thread nD τ))) (V : Valuation τ sig Val)
    (hinj : Function.Injective (arrRef cfg.spec)) (w : Fin cfg.W) :
    put A V (Proc.devRef .tc (arrRef cfg.spec w)) = A w := by
  have h : ∃ w' : Fin cfg.W, (Proc.devRef .tc (arrRef cfg.spec w) : DevRef τ sig) = Proc.devRef .tc (arrRef cfg.spec w') := ⟨w, rfl⟩
  have hw : h.choose = w := (hinj (Proc.devRef_injective _ h.choose_spec)).symm
  unfold put
  rw [dif_pos h]
  exact cast_put A hw _

omit [∀ e, Nonempty (Val e)] in
theorem put_off (A : (w : Fin cfg.W) → Buf Val ((cfg.win w).arr.view.loc (c.tc : Thread nD τ))) (V : Valuation τ sig Val)
    {b : DevRef τ sig} (hb : b ∉ arrRefs (τ := τ) cfg.spec) : put A V b = V b := by
  unfold put
  rw [dif_neg]
  rintro ⟨w, rfl⟩
  refine hb ?_
  unfold arrRefs
  exact Finset.mem_map_of_mem _ (Finset.mem_image_of_mem _ (Finset.mem_univ w))

end Val

variable (pcs : P → PCfg sig Λ₀ Val) (a : (p : P) → (pcs p).Adm)
  (defs₀ : Defs nD τ sig Val Λ₀) (𝒱₀ : Variants) (L : GSem nD τ sig → Finset Unit) (lv : GSem nD τ sig → Unit → ℕ)

/-- What the core has besides its buffers: its generator register, and nothing owed. -/
def rest (c : Dev nD) : sProp 𝕄 := iprop((∃ r, prngReg c r) ∗ ∃ W, owes (c.tc : Thread nD τ) (0 : CellTallies nD τ sig Unit) W)

/-- The core's buffers at contents that meet `p`. -/
def St (p : Dev nD → Valuation τ sig Val → Prop) (c : Dev nD) : sProp 𝕄 :=
  iprop((∃ V, ⌜p c V⌝ ∗ StableHlo.held (c.tc : Thread nD τ) (ucRefs τ sig) V) ∗ rest c)

set_option backward.isDefEq.respectTransparency.types false in
/-- A host stretch, at contents that meet `p`. -/
def host (ops : List (HloOp τ sig Val)) (hS : ∀ op ∈ ops, op.bufs ⊆ ucRefs τ sig) (hf : ∀ op ∈ ops, op.fresh = ∅)
    (p : Dev nD → Valuation τ sig Val → Prop) (R : Dev nD → sProp 𝕄) : HostSeg (Name := ℕ) (U := UU sig nD τ) pcs defs₀ 𝒱₀ L lv where
  prog := StableHlo.seq ops
  pre c := iprop(St p c ∗ R c)
  post c := iprop(St (fun c V => ∃ V₀, p c V₀ ∧ V = StableHlo.after ops V₀) c ∗ R c)
  run c {β} k K := by
    have hseq := fun V => StableHlo.wp_seq (defs := Pipeline.defs pcs defs₀) (Variants.lift 𝒱₀) none Set.univ c (ucRefs τ sig) k (K := K) ops hS hf V
    unfold St
    iintro ⟨Hk, Hbd, ⟨⟨⟨%V, %hV, Hh⟩, Hr⟩, HR⟩, -⟩
    iapply (hseq V) $$ [Hbd Hh]
    · isplitl [Hbd] <;> iassumption
    iintro ⟨Hbd, Hh⟩
    iapply Hk
    isplitl [Hbd]; · iexact Hbd
    isplitl [Hh Hr]
    · isplitl [Hh]
      · iexists _
        isplitr; · ipureintro; exact ⟨V, hV, rfl⟩
        iexact Hh
      iexact Hr
    iexact HR

/-- What is asked of a call's proof data at the contents `V`. -/
structure Fit {cfg : Cfg sig Λ₀} {c : Dev nD} (rd : RDat τ Val Unit ℕ (UU sig nD τ) ℕ cfg c) (V : Valuation τ sig Val) : Prop where
  hbody : rd.BodyObligation defs₀ 𝒱₀ () Set.univ
  howed : ∀ t, rd.owed t = 0
  hrec : rd.recorded 0 = Set.univ
  hshare : ∀ w, rd.share w = fullShare
  hA : ∀ w, rd.A w = V (Proc.devRef .tc (arrRef cfg.spec w))
  hin : iprop(scopedRest cfg.spec c ∗ ∃ r, prngReg c r) ⊢ rd.Φ 0
  hout : rd.Φ (Fin.last cfg.N) ⊢ iprop(scopedRest cfg.spec c ∗ ∃ r, prngReg c r)

section Region

variable (rdats : (p : P) → (c : Dev nD) → RDat τ Val Unit ℕ (UU sig nD τ) ℕ (pin pcs a p) c) (p : P)

omit [Fintype P] [DecidableEq P] in
theorem arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (V : Valuation τ sig Val)
    (hG : ∀ w, G w = V (Proc.devRef .tc (arrRef (pin pcs a p).spec w))) :
    ((rdats p c).arrays G : sProp 𝕄) = StableHlo.held (c.tc : Thread nD τ) (arrRefs (pcs p).spec) V := by
  rw [RDat.arrays_eq pcs a rdats p c kit.arr_whole hshare G]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

/-- A call entered at the contents `V` and left at contents `After` allows. -/
def seg (kit : PLaunchFacts (nD := nD) (τ := τ) pcs p) (hK : (pcs p).pre.K = 0) (V : Valuation τ sig Val)
    (h : ∀ c, Fit defs₀ 𝒱₀ (rdats p c) V) : RDat.RegionSeg pcs a rdats () defs₀ 𝒱₀ L lv p where
  win := kit.to₀.win
  block_pos := kit.to₀.block_pos
  stage_whole := kit.to₀.stage_whole
  K := PEmpty
  osem := fun k => k.elim
  ho := OwnSemFacts.none _
  hbody c := (h c).hbody
  hwaits c := RDat.hwaits_of_owed_zero pcs a rdats () L lv p (fun c => (h c).howed) c
  pre c := iprop(StableHlo.held (c.tc : Thread nD τ) (ucRefs τ sig) V ∗ rest c)
  post c := St (fun c V' => After (rdats p c) V V') c
  X c := iprop(∃ r, prngReg c r)
  Y c := iprop(∃ r, prngReg c r)
  Z c := StableHlo.held (c.tc : Thread nD τ) (ucRefs τ sig \ arrRefs (pcs p).spec) V
  hentry c := by
    rw [prefHeld_of_none _ hK, arrays_held pcs a rdats p kit c (h c).hshare (rdats p c).A V (h c).hA,
      StableHlo.held_sub_split (c.tc : Thread nD τ) (arrRefs_sub_ucRefs _ kit.win.arr_unscoped) V]
    unfold rest
    iintro ⟨⟨⟨Ha, Hr⟩, Hp, HO⟩, -, -⟩
    imodintro
    isplitl [Ha]; · iexact Ha
    isplitr; · iempintro
    isplitl [HO]
    · unfold RDat.owesAt owesWithin RDat.bound
      rw [(h c).howed 0, (h c).hrec]
      icases HO with ⟨%Wd, HO⟩; iexists Wd; isplitr; · ipureintro; exact fun _ _ => Or.inl trivial
      iexact HO
    isplitl [Hp]; · iexact Hp
    iexact Hr
  hin c := (show _ ⊢ iprop(scopedRest (pin pcs a p).spec c ∗ ∃ r, prngReg c r) from by
    iintro ⟨Hp, -, Hr⟩
    isplitl [Hr]; · iexact Hr
    iexact Hp).trans (h c).hin
  hout c := (h c).hout.trans (by
    rw [ownSems0_none]
    iintro ⟨Hr, Hp⟩
    isplitl [Hp]; · iexact Hp
    isplitr; · iempintro
    iexact Hr)
  hexit c := by
    unfold RDat.arraysAt St rest
    iintro ⟨Ha, HO, Hp, Hr⟩
    ihave Ha := (BI.bigSep_exists_pi Finset.univ _) $$ Ha
    icases Ha with ⟨%A, Ha⟩
    ihave Ha := (BI.bigSep_pure_sep Finset.univ (fun w => (rdats p c).ArrAt w (pin pcs a p).N (A w)) _) $$ Ha
    icases Ha with ⟨%hA, Ha⟩
    imodintro
    isplitl [Ha Hr]
    · iexists (put A V)
      isplitr
      · ipureintro
        refine ⟨fun w => ?_, fun b hb => put_off A V hb⟩
        rw [put_arr A V kit.win.arr_inj w]
        exact hA w (Finset.mem_univ w)
      rw [StableHlo.held_sub_split (c.tc : Thread nD τ) (arrRefs_sub_ucRefs _ kit.win.arr_unscoped) (put A V),
        ← arrays_held pcs a rdats p kit c (h c).hshare A (put A V) (fun w => (put_arr A V kit.win.arr_inj w).symm),
        StableHlo.held_congr (c.tc : Thread nD τ) (S := ucRefs τ sig \ arrRefs (pcs p).spec) (V := put A V) (V' := V)
          (fun b hb => put_off A V (Finset.mem_sdiff.mp hb).2)]
      isplitl [Ha]; · unfold RDat.arrays; iexact Ha
      iexact Hr
    isplitl [Hp]; · iexact Hp
    unfold RDat.owesAt owesWithin
    rw [(h c).howed (Fin.last _)]
    icases HO with ⟨%W, -, HO⟩; iexists W; iexact HO

end Region

section Launch

variable (phinj : Function.Injective (cellOf (nD := nD) (τ := τ) (pin pcs a)))

/-- The buffers at contents that meet `q`, beside the ghost state of the calls `S` still to come. -/
def Stg (S : Finset P) (q : Dev nD → Valuation τ sig Val → Prop) (c : Dev nD) : sProp 𝕄 := iprop(St q c ∗ ghostOn pcs a embR S c)

/-- The contents after a call, whose proof data at the contents `V` are `rd V`. -/
def Post {p : P} (rd : Valuation τ sig Val → (c : Dev nD) → RDat τ Val Unit ℕ (UU sig nD τ) ℕ (pin pcs a p) c)
    (q : Dev nD → Valuation τ sig Val → Prop) (c : Dev nD) (V' : Valuation τ sig Val) : Prop := ∃ V, q c V ∧ After (rd V c) V V'

/-- A call, entered at contents that meet `q`. -/
def region [Subsingleton (Dev nD)] (p : P) (kit : PLaunchFacts (nD := nD) (τ := τ) pcs p) (hK : (pcs p).pre.K = 0) (S : Finset P) (hp : p ∈ S)
    (q : Dev nD → Valuation τ sig Val → Prop)
    (rd : Valuation τ sig Val → (c : Dev nD) → RDat τ Val Unit ℕ (UU sig nD τ) ℕ (pin pcs a p) c)
    (h : ∀ c V, q c V → Fit defs₀ 𝒱₀ (rd V c) V) :
    HostSeg (Name := ℕ) (U := UU sig nD τ) pcs defs₀ 𝒱₀ L lv where
  prog := Prog.lift (.customCall (entry p) ())
  pre c := Stg pcs a S q c
  post c := Stg pcs a (S.erase p) (Post pcs a rd q) c
  run c {β} k K := by
    unfold Stg
    have eg : (ghostOn pcs a embR S c : sProp 𝕄) = iprop((cellsGhost (pin pcs a) embR p c ∗ toksInit (pin pcs a) embR p c) ∗ ghostOn pcs a embR (S.erase p) c) :=
      PerCore.ghostOn_erase pcs (fun _ => a) embR hp c
    have es : (St q c : sProp 𝕄) = iprop((∃ V, ⌜q c V⌝ ∗ StableHlo.held (c.tc : Thread nD τ) (ucRefs τ sig) V) ∗ rest c) := rfl
    rw [eg, es]
    iintro ⟨Hk, Hbd, ⟨⟨⟨%V, %hV, Hh⟩, Hr⟩, ⟨Hg, HG⟩⟩, HL⟩
    have hc : ∀ c', Fit defs₀ 𝒱₀ (RDat.familyOf pcs a p (rd V) p c') V := fun c' => by
      rw [RDat.familyOf_self]; exact h c' V (Subsingleton.elim c c' ▸ hV)
    have e := RDat.RegionSeg.wp pcs a (RDat.familyOf pcs a p (rd V)) () phinj embR defs₀ 𝒱₀ L lv (seg pcs a defs₀ 𝒱₀ L lv (RDat.familyOf pcs a p (rd V)) p kit hK V hc) c none nofun k K
    iapply e
    isplitl [Hk HG]
    · iintro ⟨Hbd, Hp⟩
      iapply Hk
      isplitl [Hbd]; · iexact Hbd
      isplitl [Hp]
      · iapply (show (seg pcs a defs₀ 𝒱₀ L lv (RDat.familyOf pcs a p (rd V)) p kit hK V hc).post c ⊢ St (Post pcs a rd q) c from by
          show iprop((∃ V', ⌜After (RDat.familyOf pcs a p (rd V) p c) V V'⌝ ∗ StableHlo.held (c.tc : Thread nD τ) (ucRefs τ sig) V') ∗ rest c) ⊢ _
          unfold St
          iintro ⟨⟨%V', %hV', Hh⟩, Hr⟩
          isplitl [Hh]
          · iexists V'
            isplitr
            · ipureintro
              rw [RDat.familyOf_self] at hV'
              exact ⟨V, hV, hV'⟩
            iexact Hh
          iexact Hr)
        iexact Hp
      iexact HG
    isplitl [Hbd]; · iexact Hbd
    isplitl [Hh Hr]
    · iapply (show iprop(StableHlo.held (c.tc : Thread nD τ) (ucRefs τ sig) V ∗ rest c) ⊢ (seg pcs a defs₀ 𝒱₀ L lv (RDat.familyOf pcs a p (rd V)) p kit hK V hc).pre c from .rfl)
      isplitl [Hh]; · iexact Hh
      iexact Hr
    isplitl [HL]; · iexact HL
    iexact Hg

omit [DecidableEq P] [Fintype P] [∀ e, Nonempty (Val e)] in
/-- A stage at weaker contents. -/
theorem stg_mono (S : Finset P) {q q' : Dev nD → Valuation τ sig Val → Prop} (c : Dev nD) (h : ∀ V, q c V → q' c V) :
    (Stg pcs a S q c : sProp 𝕄) ⊢ Stg pcs a S q' c := by
  unfold Stg St
  iintro ⟨⟨⟨%V, %hV, Hh⟩, Hr⟩, HG⟩
  isplitr [HG]
  · isplitl [Hh]
    · iexists V
      isplitr; · ipureintro; exact h V hV
      iexact Hh
    iexact Hr
  iexact HG

omit [DecidableEq P] [Fintype P] [∀ e, Nonempty (Val e)] in
/-- What the last stretch leaves, as the launch theorem reads it. -/
theorem stg_end (S : Finset P) (q : Dev nD → Valuation τ sig Val → Prop) (c : Dev nD) : (Stg pcs a S q c : sProp 𝕄) ⊢ iprop((∃ V, ⌜q c V⌝ ∗ StableHlo.held (c.tc : Thread nD τ) (ucRefs τ sig) V)
    ∗ ∃ W, owes (c.tc : Thread nD τ) (0 : CellTallies nD τ sig Unit) W) := by
  unfold Stg St rest
  iintro ⟨⟨H, -, HO⟩, -⟩
  isplitl [H]; · iexact H
  iexact HO

include phinj in
/-- The whole program: stretches and calls that chain from the launch contents to contents that meet `q`. -/
theorem launch [Infinite ℕ] (rdats : (p : P) → (c : Dev nD) → RDat τ Val Unit ℕ (UU sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (segs : List (RDat.Seg pcs a rdats () defs₀ 𝒱₀ L lv))
    (hmain : ∀ c (Q : PUnit → sProp 𝕄), wp frame (wpE (Pipeline.defs pcs defs₀) (Variants.lift 𝒱₀) (c.tc : Thread nD τ) none) Set.univ (RDat.Seg.run segs) Q
      ⊢ wp frame (wpE (Pipeline.defs pcs defs₀) (Variants.lift 𝒱₀) (c.tc : Thread nD τ) none) Set.univ (main c) Q)
    (hnd : (RDat.Seg.pipes segs).Nodup)
    (hL : ∀ g : GSem nD τ sig, g.1.2 ≠ .tc → L g = ∅)
    (q : Dev nD → Valuation τ sig Val → Prop)
    (hlast : ∀ c, RDat.Seg.ChainsAt c (Stg pcs a Finset.univ fun c V => V = StableHlo.launchContents m c) segs
      fun c => iprop((∃ V, ⌜q c V⌝ ∗ StableHlo.held (c.tc : Thread nD τ) (ucRefs τ sig) V) ∗ ∃ W, owes (c.tc : Thread nD τ) (0 : CellTallies nD τ sig Unit) W))
    (hsem : ∀ s : SemLoc sig, s.isScoped .tc = true) :
    θ_run (Pipeline.defs pcs defs₀) (onTc main) ⟨m, fun _ => 0, g⟩ (fun r =>
      (∀ c : Dev nD, ∃ V, q c V ∧ ∀ b ∈ ucRefs τ sig, r.2.mem (c, b) = V b) ∧ r.2.sem = fun _ => 0) := by
  refine RDat.θ_run_regions_kit_dev_sems pcs a rdats () phinj embL defs₀ 𝒱₀ L lv m g main (fun _ => segs) hmain (fun _ => hnd)
    (fun _ => 0) hL (fun c => ghostOn pcs a embR Finset.univ c)
    (initOf (cells (pin pcs a) phinj) (launchToks (pin pcs a) phinj), initOf (cells (pin pcs a) phinj) (launchToks (pin pcs a) phinj)) ?_
    (T₀ := Stg pcs a Finset.univ fun c V => V = StableHlo.launchContents m c)
    (Tₙ := fun c => iprop(∃ V, ⌜q c V⌝ ∗ StableHlo.held (c.tc : Thread nD τ) (ucRefs τ sig) V))
    (hch := fun c => hlast c) ?_
    (QY := fun c s => ∃ V, q c V ∧ ∀ b ∈ ucRefs τ sig, s.mem (c, b) = V b) ?_
    (hQ := fun _ h hz => ⟨h, funext fun g => hz g (.inr (hsem g.2))⟩)
  · iintro Hu
    ihave H' := (ownU_pair _ _) $$ Hu
    icases H' with ⟨HP, HQ⟩
    imod (fund_ghost (pin pcs a) embR phinj) $$ HQ with ⟨Hg, Ht⟩
    imodintro
    isplitl [HP]; · iexact HP
    simp only [ghostOn, PerCore.ghostOn, bigSep_sep']
    isplitl [Hg] <;> iassumption
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ launchCred (Val := Val) (fun _ => (0 : CellTallies nD τ sig Unit)) c ∗ prngReg c (g c) ∗ ghostOn pcs a embR Finset.univ c))
        ⊢ (bigSep Finset.univ (Stg pcs a Finset.univ fun c V => V = StableHlo.launchContents m c) : sProp 𝕄) :=
      bigSep_mono fun c _ => by
        have e : (unscopedBufs c (fun b => m ((c.tc : Thread nD τ).loc b)) : sProp 𝕄) = StableHlo.held (c.tc : Thread nD τ) (ucRefs τ sig) (StableHlo.launchContents m c) :=
          unscopedBufs_held (Ix := Unit) (Name := ℕ) (U := UU sig nD τ) (Lvl := ℕ) c (StableHlo.launchContents m c)
        rw [e]
        unfold Stg St rest
        show (_ : sProp 𝕄) ⊢ _
        iintro ⟨Hh, -, HO, -, Hp, HG⟩
        isplitr [HG]
        · isplitl [Hh]
          · iexists _
            isplitr; · ipureintro; exact rfl
            iexact Hh
          isplitl [Hp]; · iexists _; iexact Hp
          iexists _; iexact HO
        iexact HG
    iintro ⟨H, -⟩
    imodintro
    iapply hsplit
    iexact H
  · intro c s'
    unfold StableHlo.held
    iintro ⟨⟨%V, %hV, Hh⟩, HSI⟩
    ihave Hr := (pointsTo_read_all (ucRefs τ sig) (fun b => ((c.tc : Thread nD τ).1, b)) V s') $$ [Hh HSI]
    · isplitl [Hh] <;> iassumption
    icases Hr with ⟨%h, HSI⟩
    imodintro
    isplitr
    · ipureintro
      exact ⟨V, hV, h⟩
    iexact HSI

end Launch

end Cert.Hand.Chain

end
-- ==== Proof.Hand.Kernel.Call.lean ====
/-
  Hand-written, untrusted. The five calls of the program as one kind of call: the same grid, body and layout at buffers and a batch element of its own.
-/
module

public import proofs.«01_k».proof.Proof.Gen.Kernel.Regions

@[expose] public section

set_option maxRecDepth 16384

noncomputable section

namespace Cert.Kernel.Hand

open Cert.Kernel Cert.Kernel.Gen
open Idealize.ShloMosaic Idealize.ShloMosaic.TcCoe
open Idealize.ShloMosaic.Pipeline (Cfg Window)

/-- The buffers, semaphores and index maps of a call's windows. -/
structure Wins where
  src : Memref sig .tc .hbm S3744x8x128 .i32
  hsrc : src.IsWhole
  out : Fin 4 → Memref sig .tc .hbm S5x234x64x236 .i8
  hout : ∀ l, (out l).IsWhole
  mx : Memref sig .tc .hbm S5x64x128 .f32
  hmx : mx.IsWhole
  stg0 : Fin 2 → Memref sig .tc .vmem S32x8x128 .i32
  hstg0 : ∀ j, (stg0 j).IsWhole
  sem0 : Fin 2 → DmaSem sig
  stg1 : Fin 1 → Memref sig .tc .vmem S128x960 .bf16
  hstg1 : ∀ j, (stg1 j).IsWhole
  sem1 : Fin 1 → DmaSem sig
  stg2 : Fin 1 → Memref sig .tc .vmem S3x128x768 .bf16
  hstg2 : ∀ j, (stg2 j).IsWhole
  sem2 : Fin 1 → DmaSem sig
  stg3 : Fin 1 → Memref sig .tc .vmem S4x64x128 .f32
  hstg3 : ∀ j, (stg3 j).IsWhole
  sem3 : Fin 1 → DmaSem sig
  stg4 : Fin 1 → Memref sig .tc .vmem S4x64x128 .f32
  hstg4 : ∀ j, (stg4 j).IsWhole
  sem4 : Fin 1 → DmaSem sig
  stg5 : Fin 1 → Memref sig .tc .smem S4 .f32
  hstg5 : ∀ j, (stg5 j).IsWhole
  sem5 : Fin 1 → DmaSem sig
  stg10 : Fin 1 → Memref sig .tc .vmem S1x64x128 .f32
  hstg10 : ∀ j, (stg10 j).IsWhole
  sem10 : Fin 1 → DmaSem sig
  stgo : Fin 4 → Fin 2 → Memref sig .tc .vmem S1x2x64x236 .i8
  hstgo : ∀ l j, (stgo l j).IsWhole
  semo : Fin 4 → Fin 2 → DmaSem sig
  ixo : Fin 4 → grid1.Coords → Fin 4 → ℕ
  hro : ∀ l (i i' : grid1.Coords), (∀ a, reads1_6 a = true → i a = i' a) → ixo l i = ixo l i'
  hinbo : ∀ l (i : grid1.Coords) a, (ixo l i a + 1) * S1x2x64x236.size a ≤ S5x234x64x236.size a
  hwxo : ∀ l (i : grid1.Coords), EltTy.bits .i8 = 32 ∨ (Rect.block (s := S5x234x64x236) S1x2x64x236.size (ixo l i) (hinbo l i)).WholeWords (EltTy.packing .i8)
  ixm : grid1.Coords → Fin 3 → ℕ
  hrm : ∀ i i' : grid1.Coords, (∀ a, reads1_10 a = true → i a = i' a) → ixm i = ixm i'
  hinbm : ∀ (i : grid1.Coords) a, (ixm i a + 1) * S1x64x128.size a ≤ S5x64x128.size a

namespace Wins

variable (D : Wins)

abbrev win0 : Window sig grid1 :=
  Window.ofSpec D.src S32x8x128.size cc1_transform_0 reads1_0 false false 2 D.stg0 D.sem0 hrank1 hreads1_0 hinb1_0 nbuf1_0 D.hsrc hwx1_0 D.hstg0
abbrev win1 : Window sig grid1 :=
  Window.ofSpec (Memref.whole main_v13) S128x960.size cc1_transform_1 reads1_1 false true 1 D.stg1 D.sem1 hrank1 hreads1_1 hinb1_1 nbuf1_1 (Memref.isWhole_whole _) hwx1_1 D.hstg1
abbrev win2 : Window sig grid1 :=
  Window.ofSpec (Memref.whole main_v15) S3x128x768.size cc1_transform_2 reads1_2 false true 1 D.stg2 D.sem2 hrank1 hreads1_2 hinb1_2 nbuf1_2 (Memref.isWhole_whole _) hwx1_2 D.hstg2
abbrev win3 : Window sig grid1 :=
  Window.ofSpec (Memref.whole main_v22) S4x64x128.size cc1_transform_3 reads1_3 false true 1 D.stg3 D.sem3 hrank1 hreads1_3 hinb1_3 nbuf1_3 (Memref.isWhole_whole _) hwx1_3 D.hstg3
abbrev win4 : Window sig grid1 :=
  Window.ofSpec (Memref.whole main_v24) S4x64x128.size cc1_transform_4 reads1_4 false true 1 D.stg4 D.sem4 hrank1 hreads1_4 hinb1_4 nbuf1_4 (Memref.isWhole_whole _) hwx1_4 D.hstg4
abbrev win5 : Window sig grid1 :=
  Window.ofSpec (Memref.whole main_arg9) S4.size cc1_transform_5 reads1_5 false false 1 D.stg5 D.sem5 hrank1 hreads1_5 hinb1_5 nbuf1_5 (Memref.isWhole_whole _) hwx1_5 D.hstg5
abbrev wino (l : Fin 4) : Window sig grid1 :=
  Window.ofSpec (D.out l) S1x2x64x236.size (D.ixo l) reads1_6 true false 2 (D.stgo l) (D.semo l) hrank1 (D.hro l) (D.hinbo l) nbuf1_6 (D.hout l) (D.hwxo l) (D.hstgo l)
abbrev win10 : Window sig grid1 :=
  Window.ofSpec D.mx S1x64x128.size D.ixm reads1_10 true false 1 D.stg10 D.sem10 hrank1 D.hrm D.hinbm nbuf1_10 D.hmx (fun _ => Or.inl rfl) D.hstg10
abbrev win : Fin 11 → Window sig grid1 := fun | 0 => D.win0 | 1 => D.win1 | 2 => D.win2 | 3 => D.win3 | 4 => D.win4 | 5 => D.win5 | 6 => D.wino 0 | 7 => D.wino 1 | 8 => D.wino 2 | 9 => D.wino 3 | 10 => D.win10 | ⟨_ + 11, h⟩ => absurd h (Nat.not_lt.2 (Nat.le_add_left _ _))

end Wins

/-- A call: its windows, its label and the scratches. -/
structure Call extends Wins where
  b : Fin 5
  lbl : Fin 5
  args : Fin grid1.N → ((w : Fin 11) → Fin (toWins.win w).nbuf) → Λ₀.Args lbl
  scR : Memref sig .tc .vmem S3x1536x256 .bf16
  hscR : scR.IsWhole
  scE : Memref sig .tc .vmem S192x256 .bf16
  hscE : scE.IsWhole
  scT : Memref sig .tc .vmem S64x256 .f32
  hscT : scT.IsWhole

/-- A call as a pipeline. -/
abbrev Call.cfg (D : Call) : Cfg sig Λ₀ where
  grid := grid1
  W := 11
  win := D.toWins.win
  body := D.lbl
  bodyArgs t s := D.args t s
  idle := idle1

abbrev Call.spec (D : Call) : Fin 11 → Pipeline.WinSpec sig grid1.rank := fun w => (D.toWins.win w).toWinSpec

/-- Call 0. -/
abbrev call0 : Call where
  src := Memref.whole main_arg0
  hsrc := Memref.isWhole_whole _
  out := fun | 0 => Memref.whole main_v25_0 | 1 => Memref.whole main_v25_1 | 2 => Memref.whole main_v25_2 | 3 => Memref.whole main_v25_3
  hout := fun | 0 => Memref.isWhole_whole _ | 1 => Memref.isWhole_whole _ | 2 => Memref.isWhole_whole _ | 3 => Memref.isWhole_whole _
  mx := Memref.whole main_v25_4
  hmx := Memref.isWhole_whole _
  stg0 := stage0_0
  hstg0 := hstage0_0
  sem0 := sem0_0
  stg1 := stage0_1
  hstg1 := hstage0_1
  sem1 := sem0_1
  stg2 := stage0_2
  hstg2 := hstage0_2
  sem2 := sem0_2
  stg3 := stage0_3
  hstg3 := hstage0_3
  sem3 := sem0_3
  stg4 := stage0_4
  hstg4 := hstage0_4
  sem4 := sem0_4
  stg5 := stage0_5
  hstg5 := hstage0_5
  sem5 := sem0_5
  stg10 := stage0_10
  hstg10 := hstage0_10
  sem10 := sem0_10
  stgo := fun | 0 => stage0_6 | 1 => stage0_7 | 2 => stage0_8 | 3 => stage0_9
  hstgo := fun | 0 => hstage0_6 | 1 => hstage0_7 | 2 => hstage0_8 | 3 => hstage0_9
  semo := fun | 0 => sem0_6 | 1 => sem0_7 | 2 => sem0_8 | 3 => sem0_9
  ixo := fun | 0 => cc0_transform_6 | 1 => cc0_transform_7 | 2 => cc0_transform_8 | 3 => cc0_transform_9
  hro := fun | 0 => hreads0_6 | 1 => hreads0_7 | 2 => hreads0_8 | 3 => hreads0_9
  hinbo := fun | 0 => hinb0_6 | 1 => hinb0_7 | 2 => hinb0_8 | 3 => hinb0_9
  hwxo := fun | 0 => hwx0_6 | 1 => hwx0_7 | 2 => hwx0_8 | 3 => hwx0_9
  ixm := cc0_transform_10
  hrm := hreads0_10
  hinbm := hinb0_10
  b := 0
  lbl := 0
  args t s := (t, s)
  scR := Memref.whole cc0_scratch0
  hscR := Memref.isWhole_whole _
  scE := Memref.whole cc0_scratch1
  hscE := Memref.isWhole_whole _
  scT := Memref.whole cc0_scratch2
  hscT := Memref.isWhole_whole _

theorem cfg_call0 : cfg0 = call0.cfg := rfl

/-- Call 1. -/
abbrev call1 : Call where
  src := Memref.whole main_arg1
  hsrc := Memref.isWhole_whole _
  out := fun | 0 => Memref.whole main_v26_0 | 1 => Memref.whole main_v26_1 | 2 => Memref.whole main_v26_2 | 3 => Memref.whole main_v26_3
  hout := fun | 0 => Memref.isWhole_whole _ | 1 => Memref.isWhole_whole _ | 2 => Memref.isWhole_whole _ | 3 => Memref.isWhole_whole _
  mx := Memref.whole main_v26_4
  hmx := Memref.isWhole_whole _
  stg0 := stage1_0
  hstg0 := hstage1_0
  sem0 := sem1_0
  stg1 := stage1_1
  hstg1 := hstage1_1
  sem1 := sem1_1
  stg2 := stage1_2
  hstg2 := hstage1_2
  sem2 := sem1_2
  stg3 := stage1_3
  hstg3 := hstage1_3
  sem3 := sem1_3
  stg4 := stage1_4
  hstg4 := hstage1_4
  sem4 := sem1_4
  stg5 := stage1_5
  hstg5 := hstage1_5
  sem5 := sem1_5
  stg10 := stage1_10
  hstg10 := hstage1_10
  sem10 := sem1_10
  stgo := fun | 0 => stage1_6 | 1 => stage1_7 | 2 => stage1_8 | 3 => stage1_9
  hstgo := fun | 0 => hstage1_6 | 1 => hstage1_7 | 2 => hstage1_8 | 3 => hstage1_9
  semo := fun | 0 => sem1_6 | 1 => sem1_7 | 2 => sem1_8 | 3 => sem1_9
  ixo := fun | 0 => cc1_transform_11 | 1 => cc1_transform_12 | 2 => cc1_transform_13 | 3 => cc1_transform_14
  hro := fun | 0 => hreads1_6 | 1 => hreads1_7 | 2 => hreads1_8 | 3 => hreads1_9
  hinbo := fun | 0 => hinb1_6 | 1 => hinb1_7 | 2 => hinb1_8 | 3 => hinb1_9
  hwxo := fun | 0 => hwx1_6 | 1 => hwx1_7 | 2 => hwx1_8 | 3 => hwx1_9
  ixm := cc1_transform_15
  hrm := hreads1_10
  hinbm := hinb1_10
  b := 1
  lbl := 1
  args t s := (t, s)
  scR := Memref.whole cc1_scratch0
  hscR := Memref.isWhole_whole _
  scE := Memref.whole cc1_scratch1
  hscE := Memref.isWhole_whole _
  scT := Memref.whole cc1_scratch2
  hscT := Memref.isWhole_whole _

theorem cfg_call1 : cfg1 = call1.cfg := rfl

/-- Call 2. -/
abbrev call2 : Call where
  src := Memref.whole main_arg2
  hsrc := Memref.isWhole_whole _
  out := fun | 0 => Memref.whole main_v27_0 | 1 => Memref.whole main_v27_1 | 2 => Memref.whole main_v27_2 | 3 => Memref.whole main_v27_3
  hout := fun | 0 => Memref.isWhole_whole _ | 1 => Memref.isWhole_whole _ | 2 => Memref.isWhole_whole _ | 3 => Memref.isWhole_whole _
  mx := Memref.whole main_v27_4
  hmx := Memref.isWhole_whole _
  stg0 := stage2_0
  hstg0 := hstage2_0
  sem0 := sem2_0
  stg1 := stage2_1
  hstg1 := hstage2_1
  sem1 := sem2_1
  stg2 := stage2_2
  hstg2 := hstage2_2
  sem2 := sem2_2
  stg3 := stage2_3
  hstg3 := hstage2_3
  sem3 := sem2_3
  stg4 := stage2_4
  hstg4 := hstage2_4
  sem4 := sem2_4
  stg5 := stage2_5
  hstg5 := hstage2_5
  sem5 := sem2_5
  stg10 := stage2_10
  hstg10 := hstage2_10
  sem10 := sem2_10
  stgo := fun | 0 => stage2_6 | 1 => stage2_7 | 2 => stage2_8 | 3 => stage2_9
  hstgo := fun | 0 => hstage2_6 | 1 => hstage2_7 | 2 => hstage2_8 | 3 => hstage2_9
  semo := fun | 0 => sem2_6 | 1 => sem2_7 | 2 => sem2_8 | 3 => sem2_9
  ixo := fun | 0 => cc2_transform_11 | 1 => cc2_transform_12 | 2 => cc2_transform_13 | 3 => cc2_transform_14
  hro := fun | 0 => hreads2_6 | 1 => hreads2_7 | 2 => hreads2_8 | 3 => hreads2_9
  hinbo := fun | 0 => hinb2_6 | 1 => hinb2_7 | 2 => hinb2_8 | 3 => hinb2_9
  hwxo := fun | 0 => hwx2_6 | 1 => hwx2_7 | 2 => hwx2_8 | 3 => hwx2_9
  ixm := cc2_transform_15
  hrm := hreads2_10
  hinbm := hinb2_10
  b := 2
  lbl := 2
  args t s := (t, s)
  scR := Memref.whole cc2_scratch0
  hscR := Memref.isWhole_whole _
  scE := Memref.whole cc2_scratch1
  hscE := Memref.isWhole_whole _
  scT := Memref.whole cc2_scratch2
  hscT := Memref.isWhole_whole _

theorem cfg_call2 : cfg2 = call2.cfg := rfl

/-- Call 3. -/
abbrev call3 : Call where
  src := Memref.whole main_arg3
  hsrc := Memref.isWhole_whole _
  out := fun | 0 => Memref.whole main_v28_0 | 1 => Memref.whole main_v28_1 | 2 => Memref.whole main_v28_2 | 3 => Memref.whole main_v28_3
  hout := fun | 0 => Memref.isWhole_whole _ | 1 => Memref.isWhole_whole _ | 2 => Memref.isWhole_whole _ | 3 => Memref.isWhole_whole _
  mx := Memref.whole main_v28_4
  hmx := Memref.isWhole_whole _
  stg0 := stage3_0
  hstg0 := hstage3_0
  sem0 := sem3_0
  stg1 := stage3_1
  hstg1 := hstage3_1
  sem1 := sem3_1
  stg2 := stage3_2
  hstg2 := hstage3_2
  sem2 := sem3_2
  stg3 := stage3_3
  hstg3 := hstage3_3
  sem3 := sem3_3
  stg4 := stage3_4
  hstg4 := hstage3_4
  sem4 := sem3_4
  stg5 := stage3_5
  hstg5 := hstage3_5
  sem5 := sem3_5
  stg10 := stage3_10
  hstg10 := hstage3_10
  sem10 := sem3_10
  stgo := fun | 0 => stage3_6 | 1 => stage3_7 | 2 => stage3_8 | 3 => stage3_9
  hstgo := fun | 0 => hstage3_6 | 1 => hstage3_7 | 2 => hstage3_8 | 3 => hstage3_9
  semo := fun | 0 => sem3_6 | 1 => sem3_7 | 2 => sem3_8 | 3 => sem3_9
  ixo := fun | 0 => cc3_transform_11 | 1 => cc3_transform_12 | 2 => cc3_transform_13 | 3 => cc3_transform_14
  hro := fun | 0 => hreads3_6 | 1 => hreads3_7 | 2 => hreads3_8 | 3 => hreads3_9
  hinbo := fun | 0 => hinb3_6 | 1 => hinb3_7 | 2 => hinb3_8 | 3 => hinb3_9
  hwxo := fun | 0 => hwx3_6 | 1 => hwx3_7 | 2 => hwx3_8 | 3 => hwx3_9
  ixm := cc3_transform_15
  hrm := hreads3_10
  hinbm := hinb3_10
  b := 3
  lbl := 3
  args t s := (t, s)
  scR := Memref.whole cc3_scratch0
  hscR := Memref.isWhole_whole _
  scE := Memref.whole cc3_scratch1
  hscE := Memref.isWhole_whole _
  scT := Memref.whole cc3_scratch2
  hscT := Memref.isWhole_whole _

theorem cfg_call3 : cfg3 = call3.cfg := rfl

/-- Call 4. -/
abbrev call4 : Call where
  src := Memref.whole main_arg4
  hsrc := Memref.isWhole_whole _
  out := fun | 0 => Memref.whole main_v29_0 | 1 => Memref.whole main_v29_1 | 2 => Memref.whole main_v29_2 | 3 => Memref.whole main_v29_3
  hout := fun | 0 => Memref.isWhole_whole _ | 1 => Memref.isWhole_whole _ | 2 => Memref.isWhole_whole _ | 3 => Memref.isWhole_whole _
  mx := Memref.whole main_v29_4
  hmx := Memref.isWhole_whole _
  stg0 := stage4_0
  hstg0 := hstage4_0
  sem0 := sem4_0
  stg1 := stage4_1
  hstg1 := hstage4_1
  sem1 := sem4_1
  stg2 := stage4_2
  hstg2 := hstage4_2
  sem2 := sem4_2
  stg3 := stage4_3
  hstg3 := hstage4_3
  sem3 := sem4_3
  stg4 := stage4_4
  hstg4 := hstage4_4
  sem4 := sem4_4
  stg5 := stage4_5
  hstg5 := hstage4_5
  sem5 := sem4_5
  stg10 := stage4_10
  hstg10 := hstage4_10
  sem10 := sem4_10
  stgo := fun | 0 => stage4_6 | 1 => stage4_7 | 2 => stage4_8 | 3 => stage4_9
  hstgo := fun | 0 => hstage4_6 | 1 => hstage4_7 | 2 => hstage4_8 | 3 => hstage4_9
  semo := fun | 0 => sem4_6 | 1 => sem4_7 | 2 => sem4_8 | 3 => sem4_9
  ixo := fun | 0 => cc4_transform_11 | 1 => cc4_transform_12 | 2 => cc4_transform_13 | 3 => cc4_transform_14
  hro := fun | 0 => hreads4_6 | 1 => hreads4_7 | 2 => hreads4_8 | 3 => hreads4_9
  hinbo := fun | 0 => hinb4_6 | 1 => hinb4_7 | 2 => hinb4_8 | 3 => hinb4_9
  hwxo := fun | 0 => hwx4_6 | 1 => hwx4_7 | 2 => hwx4_8 | 3 => hwx4_9
  ixm := cc4_transform_15
  hrm := hreads4_10
  hinbm := hinb4_10
  b := 4
  lbl := 4
  args t s := (t, s)
  scR := Memref.whole cc4_scratch0
  hscR := Memref.isWhole_whole _
  scE := Memref.whole cc4_scratch1
  hscE := Memref.isWhole_whole _
  scT := Memref.whole cc4_scratch2
  hscT := Memref.isWhole_whole _

theorem cfg_call4 : cfg4 = call4.cfg := rfl

end Cert.Kernel.Hand

end
-- ==== Proof.Hand.Kernel.Offsets.lean ====
/-
  Hand-written, untrusted. Closed forms of the ring offsets of the printed body: the slot of column `x` in a ring begins at row
  `(x mod 8) * 192`, its three taps 64 rows apart. Layer `l` works on columns `2 (t - 2 l) + c` at step `t`; the forms add a
  multiple of 8 where that would be negative.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Covers
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic

/-- The step number. -/
abbrev tv (i : grid1.Coords) : ℕ := (i 0).val

theorem coords_forall {P : grid1.Coords → Prop} (h : ∀ t : Fin 123, P (grid1.coords t)) (i : grid1.Coords) : P i := by
  obtain ⟨t, rfl⟩ := grid1.coords_surjective i; exact h t

theorem off1_eq (i : grid1.Coords) (r₁ : Fin 2) (r₂ : Fin 3) :
    k1_off1 i (BitVec.ofNat 32 r₁.val) (BitVec.ofNat 32 (64 * r₂.val)) = ![0, (2 * tv i + (0 + r₁.val)) % 8 * 192 + 64 * r₂.val, 0] := by
  revert r₁ r₂; revert i; refine coords_forall ?_; decide +kernel
theorem off3_eq (i : grid1.Coords) (r₁ : Fin 2) (r₂ : Fin 3) :
    k1_off3 i (BitVec.ofNat 32 r₁.val) (BitVec.ofNat 32 (64 * r₂.val)) = ![1, (2 * tv i + (4 + r₁.val)) % 8 * 192 + 64 * r₂.val, 0] := by
  revert r₁ r₂; revert i; refine coords_forall ?_; decide +kernel
theorem off5_eq (i : grid1.Coords) (r₁ : Fin 2) (r₂ : Fin 3) :
    k1_off5 i (BitVec.ofNat 32 r₁.val) (BitVec.ofNat 32 (64 * r₂.val)) = ![2, (2 * tv i + (0 + r₁.val)) % 8 * 192 + 64 * r₂.val, 0] := by
  revert r₁ r₂; revert i; refine coords_forall ?_; decide +kernel
theorem off2_eq (i : grid1.Coords) (r : Fin 4) :
    k1_off2 i (BitVec.ofNat 32 r.val) = ![0, (2 * tv i + (3 + r.val)) % 8 * 192, 0] := by
  revert r; revert i; refine coords_forall ?_; decide +kernel
theorem off4_eq (i : grid1.Coords) (r : Fin 4) :
    k1_off4 i (BitVec.ofNat 32 r.val) = ![1, (2 * tv i + (7 + r.val)) % 8 * 192, 0] := by
  revert r; revert i; refine coords_forall ?_; decide +kernel
theorem off6_eq (i : grid1.Coords) (r : Fin 4) :
    k1_off6 i (BitVec.ofNat 32 r.val) = ![2, (2 * tv i + (3 + r.val)) % 8 * 192, 0] := by
  revert r; revert i; refine coords_forall ?_; decide +kernel

instance (i : grid1.Coords) : ClosedOff (k1_off1 i 0#32 0#32) := ⟨![0, (2 * tv i + 0) % 8 * 192 + 0, 0], off1_eq i 0 0⟩
instance (i : grid1.Coords) : ClosedOff (k1_off1 i 0#32 64#32) := ⟨![0, (2 * tv i + 0) % 8 * 192 + 64, 0], off1_eq i 0 1⟩
instance (i : grid1.Coords) : ClosedOff (k1_off1 i 0#32 128#32) := ⟨![0, (2 * tv i + 0) % 8 * 192 + 128, 0], off1_eq i 0 2⟩
instance (i : grid1.Coords) : ClosedOff (k1_off1 i 1#32 0#32) := ⟨![0, (2 * tv i + 1) % 8 * 192 + 0, 0], off1_eq i 1 0⟩
instance (i : grid1.Coords) : ClosedOff (k1_off1 i 1#32 64#32) := ⟨![0, (2 * tv i + 1) % 8 * 192 + 64, 0], off1_eq i 1 1⟩
instance (i : grid1.Coords) : ClosedOff (k1_off1 i 1#32 128#32) := ⟨![0, (2 * tv i + 1) % 8 * 192 + 128, 0], off1_eq i 1 2⟩
instance (i : grid1.Coords) : ClosedOff (k1_off3 i 0#32 0#32) := ⟨![1, (2 * tv i + 4) % 8 * 192 + 0, 0], off3_eq i 0 0⟩
instance (i : grid1.Coords) : ClosedOff (k1_off3 i 0#32 64#32) := ⟨![1, (2 * tv i + 4) % 8 * 192 + 64, 0], off3_eq i 0 1⟩
instance (i : grid1.Coords) : ClosedOff (k1_off3 i 0#32 128#32) := ⟨![1, (2 * tv i + 4) % 8 * 192 + 128, 0], off3_eq i 0 2⟩
instance (i : grid1.Coords) : ClosedOff (k1_off3 i 1#32 0#32) := ⟨![1, (2 * tv i + 5) % 8 * 192 + 0, 0], off3_eq i 1 0⟩
instance (i : grid1.Coords) : ClosedOff (k1_off3 i 1#32 64#32) := ⟨![1, (2 * tv i + 5) % 8 * 192 + 64, 0], off3_eq i 1 1⟩
instance (i : grid1.Coords) : ClosedOff (k1_off3 i 1#32 128#32) := ⟨![1, (2 * tv i + 5) % 8 * 192 + 128, 0], off3_eq i 1 2⟩
instance (i : grid1.Coords) : ClosedOff (k1_off5 i 0#32 0#32) := ⟨![2, (2 * tv i + 0) % 8 * 192 + 0, 0], off5_eq i 0 0⟩
instance (i : grid1.Coords) : ClosedOff (k1_off5 i 0#32 64#32) := ⟨![2, (2 * tv i + 0) % 8 * 192 + 64, 0], off5_eq i 0 1⟩
instance (i : grid1.Coords) : ClosedOff (k1_off5 i 0#32 128#32) := ⟨![2, (2 * tv i + 0) % 8 * 192 + 128, 0], off5_eq i 0 2⟩
instance (i : grid1.Coords) : ClosedOff (k1_off5 i 1#32 0#32) := ⟨![2, (2 * tv i + 1) % 8 * 192 + 0, 0], off5_eq i 1 0⟩
instance (i : grid1.Coords) : ClosedOff (k1_off5 i 1#32 64#32) := ⟨![2, (2 * tv i + 1) % 8 * 192 + 64, 0], off5_eq i 1 1⟩
instance (i : grid1.Coords) : ClosedOff (k1_off5 i 1#32 128#32) := ⟨![2, (2 * tv i + 1) % 8 * 192 + 128, 0], off5_eq i 1 2⟩
instance (i : grid1.Coords) : ClosedOff (k1_off2 i 0#32) := ⟨![0, (2 * tv i + 3) % 8 * 192, 0], off2_eq i 0⟩
instance (i : grid1.Coords) : ClosedOff (k1_off2 i 1#32) := ⟨![0, (2 * tv i + 4) % 8 * 192, 0], off2_eq i 1⟩
instance (i : grid1.Coords) : ClosedOff (k1_off2 i 2#32) := ⟨![0, (2 * tv i + 5) % 8 * 192, 0], off2_eq i 2⟩
instance (i : grid1.Coords) : ClosedOff (k1_off2 i 3#32) := ⟨![0, (2 * tv i + 6) % 8 * 192, 0], off2_eq i 3⟩
instance (i : grid1.Coords) : ClosedOff (k1_off4 i 0#32) := ⟨![1, (2 * tv i + 7) % 8 * 192, 0], off4_eq i 0⟩
instance (i : grid1.Coords) : ClosedOff (k1_off4 i 1#32) := ⟨![1, (2 * tv i + 8) % 8 * 192, 0], off4_eq i 1⟩
instance (i : grid1.Coords) : ClosedOff (k1_off4 i 2#32) := ⟨![1, (2 * tv i + 9) % 8 * 192, 0], off4_eq i 2⟩
instance (i : grid1.Coords) : ClosedOff (k1_off4 i 3#32) := ⟨![1, (2 * tv i + 10) % 8 * 192, 0], off4_eq i 3⟩
instance (i : grid1.Coords) : ClosedOff (k1_off6 i 0#32) := ⟨![2, (2 * tv i + 3) % 8 * 192, 0], off6_eq i 0⟩
instance (i : grid1.Coords) : ClosedOff (k1_off6 i 1#32) := ⟨![2, (2 * tv i + 4) % 8 * 192, 0], off6_eq i 1⟩
instance (i : grid1.Coords) : ClosedOff (k1_off6 i 2#32) := ⟨![2, (2 * tv i + 5) % 8 * 192, 0], off6_eq i 2⟩
instance (i : grid1.Coords) : ClosedOff (k1_off6 i 3#32) := ⟨![2, (2 * tv i + 6) % 8 * 192, 0], off6_eq i 3⟩

end Cert.Kernel.Hand

end
-- ==== Proof.Hand.Kernel.Body.lean ====
/-
  Hand-written, untrusted. The run of the printed body.
-/
module

public import proofs.«01_k».proof.Proof.Gen.Kernel.Launch
public import proofs.«01_k».proof.Proof.Gen.Kernel.Skeleton
public import proofs.«01_k».proof.Proof.Hand.Chain
public import proofs.«01_k».proof.Proof.Gen.Kernel.Points
public import proofs.«01_k».proof.Proof.Hand.Kernel.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Cert.Hand.Chain.UU sig nD τ) ℕ

set_option maxHeartbeats 4000000 in
/-- The body's run at any step, on whole buffers with any contents: it ends, its inputs unchanged, and the contents `L` it leaves in the five
    result windows and the three scratches (in the order of the arguments) are read off the run. -/
def body_run (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole)
    (arg12 : Memref sig .tc .vmem S1x2x64x236 .i8) (harg12 : arg12.IsWhole) (arg13 : Memref sig .tc .vmem S1x2x64x236 .i8) (harg13 : arg13.IsWhole)
    (arg14 : Memref sig .tc .vmem S1x2x64x236 .i8) (harg14 : arg14.IsWhole) (arg15 : Memref sig .tc .vmem S1x2x64x236 .i8) (harg15 : arg15.IsWhole)
    (arg16 : Memref sig .tc .vmem S1x64x128 .f32) (harg16 : arg16.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f12 : Buf (Elt F) (arg12.view.loc (c : Thread nD τ))) (f13 : Buf (Elt F) (arg13.view.loc (c : Thread nD τ)))
    (f14 : Buf (Elt F) (arg14.view.loc (c : Thread nD τ))) (f15 : Buf (Elt F) (arg15.view.loc (c : Thread nD τ)))
    (f16 : Buf (Elt F) (arg16.view.loc (c : Thread nD τ)))
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (R : Buf (Elt F) (arg17.view.loc (c : Thread nD τ))) (E : Buf (Elt F) (arg18.view.loc (c : Thread nD τ)))
    (T : Buf (Elt F) (arg19.view.loc (c : Thread nD τ))) :
    { L : Buf (Elt F) (arg12.view.loc (c : Thread nD τ)) × Buf (Elt F) (arg13.view.loc (c : Thread nD τ)) × Buf (Elt F) (arg14.view.loc (c : Thread nD τ)) × Buf (Elt F) (arg15.view.loc (c : Thread nD τ)) × Buf (Elt F) (arg16.view.loc (c : Thread nD τ)) × Buf (Elt F) (arg17.view.loc (c : Thread nD τ)) × Buf (Elt F) (arg18.view.loc (c : Thread nD τ)) × Buf (Elt F) (arg19.view.loc (c : Thread nD τ)) //
      ∀ K : PUnit → sProp 𝕄,
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} R) ∗ (arg18.view.loc (c : Thread nD τ) ↦[arg18.view.set]{fullShare} E) ∗ (arg19.view.loc (c : Thread nD τ) ↦[arg19.view.set]{fullShare} T)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} L.1) ∗ (arg13.view.loc (c : Thread nD τ) ↦[arg13.view.set]{fullShare} L.2.1) ∗ (arg14.view.loc (c : Thread nD τ) ↦[arg14.view.set]{fullShare} L.2.2.1) ∗ (arg15.view.loc (c : Thread nD τ) ↦[arg15.view.set]{fullShare} L.2.2.2.1) ∗ (arg16.view.loc (c : Thread nD τ) ↦[arg16.view.set]{fullShare} L.2.2.2.2.1) ∗ (arg17.view.loc (c : Thread nD τ) ↦[arg17.view.set]{fullShare} L.2.2.2.2.2.1) ∗ (arg18.view.loc (c : Thread nD τ) ↦[arg18.view.set]{fullShare} L.2.2.2.2.2.2.1) ∗ (arg19.view.loc (c : Thread nD τ) ↦[arg19.view.set]{fullShare} L.2.2.2.2.2.2.2)) -∗ K ⟨⟩))
        ⊢ wp frame (wpE (defs₀ (F := F)) Variants.none c none) Set.univ
            (cc1_backbone1 i arg1 harg1 arg2 harg2 arg3 harg3 arg4 harg4 arg5 harg5 arg6 harg6 arg7 harg7 arg8 harg8 arg9 harg9 arg10 harg10
              arg11 harg11 arg12 harg12 arg13 harg13 arg14 harg14 arg15 harg15 arg16 harg16 arg17 harg17 arg18 harg18
              arg19 harg19) K } := by
  refine ⟨⟨?_, ?_, ?_, ?_, ?_, ?_, ?_, ?_⟩, fun K => ?run⟩
  case run =>
    simp only [cc1_backbone1_eq_skeleton]; unfold cc1_backbone1_skel
    simp only [k1_part1_eq_skeleton, k1_part2_eq_skeleton, k1_part3_eq_skeleton, k1_part4_eq_skeleton, k1_part5_eq_skeleton, k1_part6_eq_skeleton,
      k1_part7_eq_skeleton, k1_part8_eq_skeleton, k1_part9_eq_skeleton, k1_part10_eq_skeleton, k1_part11_eq_skeleton, k1_part12_eq_skeleton,
      k1_part13_eq_skeleton, k1_part14_eq_skeleton, k1_part15_eq_skeleton, k1_part16_eq_skeleton, k1_part17_eq_skeleton]
    iintro ⟨H1, H2, H3, H4, H5, H6, H12, H13, H14, H15, H16, HR, HE, HT, Hk⟩
    sl_exec
    sl_step
    iapply Hk
    iframe H1 H2 H3 H4 H5 H6 H12 H13 H14 H15 H16 HR HE
    iexact HT

end Cert.Kernel.Hand

end
-- ==== Proof.Hand.Kernel.Run.lean ====
/-
  Hand-written, untrusted. The run of the printed program, with an invariant over the three scratches and a predicate per result window carried along
  the grid of each call, and a predicate on the buffers carried from call to call: `run`, at any step facts (`Step`); and `frame`, at the trivial ones.
-/
module

public import proofs.«01_k».proof.Proof.Gen.Kernel.Regions
public import proofs.«01_k».proof.Proof.Gen.Kernel.Points
public import proofs.«01_k».proof.Proof.Hand.Chain
public import proofs.«01_k».proof.Proof.Hand.Kernel.Call
public import proofs.«01_k».proof.Proof.Hand.Kernel.Body
public import Idealize.ShloMosaic.Lib.Pipeline.DatRel
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf BodyObligationRel)

variable {F : FTy → Type} [BitOps F]

local notation "𝕄" => MT nD τ sig Unit (Elt F) ℕ (Cert.Hand.Chain.UU sig nD τ) ℕ

/-- The body at step `i`, on whole buffers that read `X…`, leaves contents that meet `Q` (read through the memrefs) in the result windows and the scratches. -/
def Leads (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole) (arg12 : Memref sig .tc .vmem S1x2x64x236 .i8) (harg12 : arg12.IsWhole)
    (arg13 : Memref sig .tc .vmem S1x2x64x236 .i8) (harg13 : arg13.IsWhole) (arg14 : Memref sig .tc .vmem S1x2x64x236 .i8) (harg14 : arg14.IsWhole)
    (arg15 : Memref sig .tc .vmem S1x2x64x236 .i8) (harg15 : arg15.IsWhole) (arg16 : Memref sig .tc .vmem S1x64x128 .f32) (harg16 : arg16.IsWhole)
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (X1 : S32x8x128.Idx → Elt F .i32) (X2 : S128x960.Idx → Elt F .bf16) (X3 : S3x128x768.Idx → Elt F .bf16) (X4 : S4x64x128.Idx → Elt F .f32) (X5 : S4x64x128.Idx → Elt F .f32) (X6 : S4.Idx → Elt F .f32) (X12 : S1x2x64x236.Idx → Elt F .i8) (X13 : S1x2x64x236.Idx → Elt F .i8) (X14 : S1x2x64x236.Idx → Elt F .i8) (X15 : S1x2x64x236.Idx → Elt F .i8) (X16 : S1x64x128.Idx → Elt F .f32) (X17 : S3x1536x256.Idx → Elt F .bf16) (X18 : S192x256.Idx → Elt F .bf16) (X19 : S64x256.Idx → Elt F .f32)
    (Q : ((S1x2x64x236.Idx → Elt F .i8) → (S1x2x64x236.Idx → Elt F .i8) → (S1x2x64x236.Idx → Elt F .i8) → (S1x2x64x236.Idx → Elt F .i8) → (S1x64x128.Idx → Elt F .f32) → (S3x1536x256.Idx → Elt F .bf16) → (S192x256.Idx → Elt F .bf16) → (S64x256.Idx → Elt F .f32) → Prop)) : Prop :=
  ∀ (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))),
    arg1.view.read (Elt F) f1 = X1 → arg2.view.read (Elt F) f2 = X2 → arg3.view.read (Elt F) f3 = X3 → arg4.view.read (Elt F) f4 = X4 → arg5.view.read (Elt F) f5 = X5 → arg6.view.read (Elt F) f6 = X6 → arg12.view.read (Elt F) f12 = X12 → arg13.view.read (Elt F) f13 = X13 → arg14.view.read (Elt F) f14 = X14 → arg15.view.read (Elt F) f15 = X15 → arg16.view.read (Elt F) f16 = X16 → arg17.view.read (Elt F) f17 = X17 → arg18.view.read (Elt F) f18 = X18 → arg19.view.read (Elt F) f19 = X19 →
    let L := (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 f17 f18 f19).1
    Q (arg12.view.read (Elt F) L.1) (arg13.view.read (Elt F) L.2.1) (arg14.view.read (Elt F) L.2.2.1) (arg15.view.read (Elt F) L.2.2.2.1) (arg16.view.read (Elt F) L.2.2.2.2.1) (arg17.view.read (Elt F) L.2.2.2.2.2.1) (arg18.view.read (Elt F) L.2.2.2.2.2.2.1) (arg19.view.read (Elt F) L.2.2.2.2.2.2.2)

theorem body_owns (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole) (arg12 : Memref sig .tc .vmem S1x2x64x236 .i8) (harg12 : arg12.IsWhole)
    (arg13 : Memref sig .tc .vmem S1x2x64x236 .i8) (harg13 : arg13.IsWhole) (arg14 : Memref sig .tc .vmem S1x2x64x236 .i8) (harg14 : arg14.IsWhole)
    (arg15 : Memref sig .tc .vmem S1x2x64x236 .i8) (harg15 : arg15.IsWhole) (arg16 : Memref sig .tc .vmem S1x64x128 .f32) (harg16 : arg16.IsWhole)
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (X1 : S32x8x128.Idx → Elt F .i32) (X2 : S128x960.Idx → Elt F .bf16) (X3 : S3x128x768.Idx → Elt F .bf16) (X4 : S4x64x128.Idx → Elt F .f32) (X5 : S4x64x128.Idx → Elt F .f32) (X6 : S4.Idx → Elt F .f32) (X12 : S1x2x64x236.Idx → Elt F .i8) (X13 : S1x2x64x236.Idx → Elt F .i8) (X14 : S1x2x64x236.Idx → Elt F .i8) (X15 : S1x2x64x236.Idx → Elt F .i8) (X16 : S1x64x128.Idx → Elt F .f32) (X17 : S3x1536x256.Idx → Elt F .bf16) (X18 : S192x256.Idx → Elt F .bf16) (X19 : S64x256.Idx → Elt F .f32)
    (Q : ((S1x2x64x236.Idx → Elt F .i8) → (S1x2x64x236.Idx → Elt F .i8) → (S1x2x64x236.Idx → Elt F .i8) → (S1x2x64x236.Idx → Elt F .i8) → (S1x64x128.Idx → Elt F .f32) → (S3x1536x256.Idx → Elt F .bf16) → (S192x256.Idx → Elt F .bf16) → (S64x256.Idx → Elt F .f32) → Prop))
    (h : Leads c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X5 X6 X12 X13 X14 X15 X16 X17 X18 X19 Q)
    (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19
      ∗ (∀ (Z12 : S1x2x64x236.Idx → Elt F .i8) (Z13 : S1x2x64x236.Idx → Elt F .i8) (Z14 : S1x2x64x236.Idx → Elt F .i8) (Z15 : S1x2x64x236.Idx → Elt F .i8) (Z16 : S1x64x128.Idx → Elt F .f32) (Z17 : S3x1536x256.Idx → Elt F .bf16) (Z18 : S192x256.Idx → Elt F .bf16) (Z19 : S64x256.Idx → Elt F .f32), ⌜Q Z12 Z13 Z14 Z15 Z16 Z17 Z18 Z19⌝ -∗
          iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg12 fullShare Z12 ∗ owns (c : Thread nD τ) arg13 fullShare Z13 ∗ owns (c : Thread nD τ) arg14 fullShare Z14 ∗ owns (c : Thread nD τ) arg15 fullShare Z15 ∗ owns (c : Thread nD τ) arg16 fullShare Z16 ∗ owns (c : Thread nD τ) arg17 fullShare Z17 ∗ owns (c : Thread nD τ) arg18 fullShare Z18 ∗ owns (c : Thread nD τ) arg19 fullShare Z19) -∗ K ⟨⟩))
    ⊢ wp frame (wpE (defs₀ (F := F)) Variants.none c none) Set.univ (cc1_backbone1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, HK⟩
  iapply ((body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 f17 f18 f19).2 K)
  iframe H1 H2 H3 H4 H5 H6 H12 H13 H14 H15 H16 H17 H18 H19
  iintro ⟨H1, H2, H3, H4, H5, H6, H12, H13, H14, H15, H16, H17, H18, H19⟩
  iapply HK $$ [] [H1 H2 H3 H4 H5 H6 H12 H13 H14 H15 H16 H17 H18 H19]
  · ipureintro
    exact h f1 f2 f3 f4 f5 f6 f12 f13 f14 f15 f16 f17 f18 f19 h1 h2 h3 h4 h5 h6 h12 h13 h14 h15 h16 h17 h18 h19
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H12]
  · iexists _; isplitr
    · ipureintro; rfl
    · iexact H12
  isplitl [H13]
  · iexists _; isplitr
    · ipureintro; rfl
    · iexact H13
  isplitl [H14]
  · iexists _; isplitr
    · ipureintro; rfl
    · iexact H14
  isplitl [H15]
  · iexists _; isplitr
    · ipureintro; rfl
    · iexact H15
  isplitl [H16]
  · iexists _; isplitr
    · ipureintro; rfl
    · iexact H16
  isplitl [H17]
  · iexists _; isplitr
    · ipureintro; rfl
    · iexact H17
  isplitl [H18]
  · iexists _; isplitr
    · ipureintro; rfl
    · iexact H18
  iexists _; isplitr
  · ipureintro; rfl
  · iexact H19

/-- What a proof carries along the grid: an invariant over the scratches before each step, and what each result window holds after it. -/
structure Track (D : Call) (F : FTy → Type) where
  inv : ℕ → (S3x1536x256.Idx → Elt F .bf16) → (S192x256.Idx → Elt F .bf16) → (S64x256.Idx → Elt F .f32) → Prop
  rl : (w : Fin D.cfg.W) → Fin D.cfg.N → ((D.cfg.win w).block.Idx → Elt F (D.cfg.win w).elt) → Prop

/-- The windows held to a predicate: the results'. -/
abbrev held (w : Fin 11) : Bool := match w with
  | ⟨0, _⟩ => false | ⟨1, _⟩ => false | ⟨2, _⟩ => false | ⟨3, _⟩ => false | ⟨4, _⟩ => false | ⟨5, _⟩ => false
  | ⟨_ + 6, _⟩ => true

/-- The assertions of the run. -/
abbrev Asn (F : FTy → Type) : Type := sProp (MT nD τ sig Unit (Elt F) ℕ (Cert.Hand.Chain.UU sig nD τ) ℕ)

section Call

variable (D : Call) (V : Valuation τ sig (Elt F)) (K : Track D F) (Z : Asn F) (c : Dev nD)

/-- The block of window `w` at step `t`, at the contents the call is entered with. -/
def iblk (w : Fin D.cfg.W) (t : Fin D.cfg.N) : ((D.cfg.win w).xblock (D.cfg.grid.coords t)).Idx → Elt F (D.cfg.win w).elt :=
  ((D.cfg.win w).blk t).view.read (Elt F) (V (Proc.devRef .tc (Pipeline.arrRef D.cfg.spec w)))

def inv (n : ℕ) : sProp 𝕄 :=
  iprop((∃ R E T, ⌜K.inv n R E T⌝ ∗ owns (c : Thread nD τ) D.scR fullShare R ∗ owns (c : Thread nD τ) D.scE fullShare E ∗ owns (c : Thread nD τ) D.scT fullShare T)
    ∗ Z ∗ ∃ r, prngReg c r)

def dat : Dat τ (Elt F) Unit ℕ (Cert.Hand.Chain.UU sig nD τ) ℕ D.cfg c where
  A w := V (Proc.devRef .tc (Pipeline.arrRef D.cfg.spec w))
  after w t := match w with
    | ⟨0, _⟩ => iblk D V 0 t
    | ⟨1, _⟩ => iblk D V 1 t
    | ⟨2, _⟩ => iblk D V 2 t
    | ⟨3, _⟩ => iblk D V 3 t
    | ⟨4, _⟩ => iblk D V 4 t
    | ⟨5, _⟩ => iblk D V 5 t
    | ⟨n + 6, h⟩ => Dat.unnamed (cfg := D.cfg) ⟨n + 6, h⟩ t
  Φ t := inv D K Z c t.val
  q _ := fullShare
  owed _ := 0

theorem A_eq (w : Fin D.cfg.W) : (dat D V K Z c).A w = V (Proc.devRef .tc (Pipeline.arrRef D.cfg.spec w)) := by
  dsimp only [dat]

theorem after_0 (t : Fin D.cfg.N) : (dat D V K Z c).after 0 t = iblk D V 0 t := rfl
theorem before_0 (t : Fin D.cfg.N) (d) : (dat D V K Z c).before 0 t d = iblk D V 0 t :=
  ((dat D V K Z c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (t : Fin D.cfg.N) : (dat D V K Z c).after 1 t = iblk D V 1 t := rfl
theorem before_1 (t : Fin D.cfg.N) (d) : (dat D V K Z c).before 1 t d = iblk D V 1 t :=
  ((dat D V K Z c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (t : Fin D.cfg.N) : (dat D V K Z c).after 2 t = iblk D V 2 t := rfl
theorem before_2 (t : Fin D.cfg.N) (d) : (dat D V K Z c).before 2 t d = iblk D V 2 t :=
  ((dat D V K Z c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (t : Fin D.cfg.N) : (dat D V K Z c).after 3 t = iblk D V 3 t := rfl
theorem before_3 (t : Fin D.cfg.N) (d) : (dat D V K Z c).before 3 t d = iblk D V 3 t :=
  ((dat D V K Z c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (t : Fin D.cfg.N) : (dat D V K Z c).after 4 t = iblk D V 4 t := rfl
theorem before_4 (t : Fin D.cfg.N) (d) : (dat D V K Z c).before 4 t d = iblk D V 4 t :=
  ((dat D V K Z c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (t : Fin D.cfg.N) : (dat D V K Z c).after 5 t = iblk D V 5 t := rfl
theorem before_5 (t : Fin D.cfg.N) (d) : (dat D V K Z c).before 5 t d = iblk D V 5 t :=
  ((dat D V K Z c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The proof data with the result windows held to `K.rl`. -/
abbrev rdat := (dat D V K Z c).toRRel held K.rl

/-- The step facts: from the invariant before step `t`, the input windows at their blocks and the result windows at what they may hold, the body leads to the
    invariant before step `t + 1` and each result window at its predicate. -/
def Step : Prop := ∀ (t : Fin D.cfg.N) (Y12 : S1x2x64x236.Idx → Elt F .i8) (Y13 : S1x2x64x236.Idx → Elt F .i8) (Y14 : S1x2x64x236.Idx → Elt F .i8) (Y15 : S1x2x64x236.Idx → Elt F .i8) (Y16 : S1x64x128.Idx → Elt F .f32) (Y17 : S3x1536x256.Idx → Elt F .bf16) (Y18 : S192x256.Idx → Elt F .bf16) (Y19 : S64x256.Idx → Elt F .f32),
  K.inv t.val Y17 Y18 Y19 → (rdat D V K Z c).Finds 6 t Y12 → (rdat D V K Z c).Finds 7 t Y13 → (rdat D V K Z c).Finds 8 t Y14 → (rdat D V K Z c).Finds 9 t Y15 → (rdat D V K Z c).Finds 10 t Y16 →
  Leads c (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT
    (iblk D V 0 t) (iblk D V 1 t) (iblk D V 2 t) (iblk D V 3 t) (iblk D V 4 t) (iblk D V 5 t) Y12 Y13 Y14 Y15 Y16 Y17 Y18 Y19
    fun Z12 Z13 Z14 Z15 Z16 Z17 Z18 Z19 => K.inv (t.val + 1) Z17 Z18 Z19 ∧ K.rl 6 t Z12 ∧ K.rl 7 t Z13 ∧ K.rl 8 t Z14 ∧ K.rl 9 t Z15 ∧ K.rl 10 t Z16

/-- The body at step `t`. -/
abbrev bodyAt (F : FTy → Type) [BitOps F] (t : Fin D.cfg.N) : Prog (TpuEff nD τ sig (Elt F) Λ₀ .tc) PUnit :=
  cc1_backbone1 (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT

def bodyPre (t : Fin D.cfg.N) : sProp 𝕄 :=
  iprop((dat D V K Z c).Φ t.castSucc ∗ (dat D V K Z c).owesAt () t.castSucc
    ∗ (∃ d, owns (c : Thread nD τ) (D.win0.stage (D.cfg.slots t 0)) fullShare ((dat D V K Z c).before 0 t d)) ∗ (∃ d, owns (c : Thread nD τ) (D.win1.stage (D.cfg.slots t 1)) fullShare ((dat D V K Z c).before 1 t d)) ∗ (∃ d, owns (c : Thread nD τ) (D.win2.stage (D.cfg.slots t 2)) fullShare ((dat D V K Z c).before 2 t d)) ∗ (∃ d, owns (c : Thread nD τ) (D.win3.stage (D.cfg.slots t 3)) fullShare ((dat D V K Z c).before 3 t d)) ∗ (∃ d, owns (c : Thread nD τ) (D.win4.stage (D.cfg.slots t 4)) fullShare ((dat D V K Z c).before 4 t d)) ∗ (∃ d, owns (c : Thread nD τ) (D.win5.stage (D.cfg.slots t 5)) fullShare ((dat D V K Z c).before 5 t d)) ∗ (∃ Y, ⌜(rdat D V K Z c).Finds 6 t Y⌝ ∗ owns (c : Thread nD τ) ((D.wino 0).stage (D.cfg.slots t 6)) fullShare Y) ∗ (∃ Y, ⌜(rdat D V K Z c).Finds 7 t Y⌝ ∗ owns (c : Thread nD τ) ((D.wino 1).stage (D.cfg.slots t 7)) fullShare Y) ∗ (∃ Y, ⌜(rdat D V K Z c).Finds 8 t Y⌝ ∗ owns (c : Thread nD τ) ((D.wino 2).stage (D.cfg.slots t 8)) fullShare Y) ∗ (∃ Y, ⌜(rdat D V K Z c).Finds 9 t Y⌝ ∗ owns (c : Thread nD τ) ((D.wino 3).stage (D.cfg.slots t 9)) fullShare Y) ∗ (∃ Y, ⌜(rdat D V K Z c).Finds 10 t Y⌝ ∗ owns (c : Thread nD τ) (D.win10.stage (D.cfg.slots t 10)) fullShare Y))

def bodyPost (t : Fin D.cfg.N) : sProp 𝕄 :=
  iprop((dat D V K Z c).Φ t.succ ∗ (dat D V K Z c).owesAt () t.succ
    ∗ owns (c : Thread nD τ) (D.win0.stage (D.cfg.slots t 0)) fullShare ((dat D V K Z c).after 0 t) ∗ owns (c : Thread nD τ) (D.win1.stage (D.cfg.slots t 1)) fullShare ((dat D V K Z c).after 1 t) ∗ owns (c : Thread nD τ) (D.win2.stage (D.cfg.slots t 2)) fullShare ((dat D V K Z c).after 2 t) ∗ owns (c : Thread nD τ) (D.win3.stage (D.cfg.slots t 3)) fullShare ((dat D V K Z c).after 3 t) ∗ owns (c : Thread nD τ) (D.win4.stage (D.cfg.slots t 4)) fullShare ((dat D V K Z c).after 4 t) ∗ owns (c : Thread nD τ) (D.win5.stage (D.cfg.slots t 5)) fullShare ((dat D V K Z c).after 5 t) ∗ (∃ X, ⌜K.rl 6 t X⌝ ∗ owns (c : Thread nD τ) ((D.wino 0).stage (D.cfg.slots t 6)) fullShare X) ∗ (∃ X, ⌜K.rl 7 t X⌝ ∗ owns (c : Thread nD τ) ((D.wino 1).stage (D.cfg.slots t 7)) fullShare X) ∗ (∃ X, ⌜K.rl 8 t X⌝ ∗ owns (c : Thread nD τ) ((D.wino 2).stage (D.cfg.slots t 8)) fullShare X) ∗ (∃ X, ⌜K.rl 9 t X⌝ ∗ owns (c : Thread nD τ) ((D.wino 3).stage (D.cfg.slots t 9)) fullShare X) ∗ (∃ X, ⌜K.rl 10 t X⌝ ∗ owns (c : Thread nD τ) (D.win10.stage (D.cfg.slots t 10)) fullShare X))

theorem sound_body (hs : Step D V K Z c) (t : Fin D.cfg.N) :
    bodyPre D V K Z c t ⊢ wp frame (wpE (defs₀ (F := F)) Variants.none c none) Set.univ (bodyAt D F t) (fun _ => bodyPost D V K Z c t) := by
  unfold bodyPre bodyPost bodyAt
  simp only [before_0, before_1, before_2, before_3, before_4, before_5, after_0, after_1, after_2, after_3, after_4, after_5]
  rw [show (dat D V K Z c).Φ t.succ = inv D K Z c (t.val + 1) from rfl, show (dat D V K Z c).Φ t.castSucc = inv D K Z c t.val from rfl,
    show (dat D V K Z c).owesAt () t.succ = (dat D V K Z c).owesAt () t.castSucc from rfl]
  unfold inv
  iintro ⟨⟨⟨%R, %E, %T, %hI, HR, HE, HT⟩, HZ, HP⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩, ⟨%Y10, %hY10, H10⟩⟩
  iapply (body_owns c (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT
    (iblk D V 0 t) (iblk D V 1 t) (iblk D V 2 t) (iblk D V 3 t) (iblk D V 4 t) (iblk D V 5 t) Y6 Y7 Y8 Y9 Y10 R E T _ (hs t _ _ _ _ _ _ _ _ hI hY6 hY7 hY8 hY9 hY10))
  iframe H0 H1 H2 H3 H4 H5 H6 H7 H8 H9 H10 HR HE HT
  iintro %Z12 %Z13 %Z14 %Z15 %Z16 %Z17 %Z18 %Z19 %hQ ⟨H0, H1, H2, H3, H4, H5, H6, H7, H8, H9, H10, HR, HE, HT⟩
  obtain ⟨hQ, q6, q7, q8, q9, q10⟩ := hQ
  isplitl [HR HE HT HZ HP]
  · isplitr [HZ HP]
    · iexists Z17; iexists Z18; iexists Z19
      iframe HR HE HT
      ipureintro; exact hQ
    isplitl [HZ]
    · iexact HZ
    iexact HP
  iframe Ho H0 H1 H2 H3 H4 H5
  isplitl [H6]
  · iexists Z12; isplitr
    · ipureintro; exact q6
    · iexact H6
  isplitl [H7]
  · iexists Z13; isplitr
    · ipureintro; exact q7
    · iexact H7
  isplitl [H8]
  · iexists Z14; isplitr
    · ipureintro; exact q8
    · iexact H8
  isplitl [H9]
  · iexists Z15; isplitr
    · ipureintro; exact q9
    · iexact H9
  iexists Z16; isplitr
  · ipureintro; exact q10
  · iexact H10

theorem body_obligation (hrow : ∀ t, defs₀ (F := F) .tc D.cfg.body (D.cfg.bodyArgs t (D.cfg.slots t)) = bodyAt D F t) (hs : Step D V K Z c) :
    BodyObligationRel (dat D V K Z c) (defs₀ (F := F)) Variants.none () Set.univ held K.rl := fun t => by
  rw [bigSep_W1, bigSep_W1, hrow]
  exact triple_restated (sound_body D V K Z c hs t) rfl .rfl fun _ => .rfl

variable (hZ : (Pipeline.scopedRest D.cfg.spec c : Asn F) = iprop(iprop((∃ R, owns (c : Thread nD τ) D.scR fullShare R) ∗ (∃ E, owns (c : Thread nD τ) D.scE fullShare E) ∗ (∃ T, owns (c : Thread nD τ) D.scT fullShare T)) ∗ Z))

include hZ in
theorem inv_in (h0 : ∀ R E T, K.inv 0 R E T) : iprop(Pipeline.scopedRest D.cfg.spec c ∗ ∃ r, prngReg c r) ⊢ inv D K Z c 0 := by
  unfold inv
  rw [hZ]
  iintro ⟨⟨⟨⟨%R, HR⟩, ⟨%E, HE⟩, ⟨%T, HT⟩⟩, HZ⟩, HP⟩
  isplitl [HR HE HT]
  · iexists R; iexists E; iexists T
    iframe HR HE HT
    ipureintro; exact h0 R E T
  isplitl [HZ]
  · iexact HZ
  iexact HP

include hZ in
theorem inv_out (n : ℕ) : inv D K Z c n ⊢ iprop(Pipeline.scopedRest D.cfg.spec c ∗ ∃ r, prngReg c r) := by
  unfold inv
  rw [hZ]
  iintro ⟨⟨%R, %E, %T, %hI, HR, HE, HT⟩, HZ, HP⟩
  isplitr [HP]
  · isplitl [HR HE HT]
    · isplitl [HR]; · iexists R; iexact HR
      isplitl [HE]; · iexists E; iexact HE
      iexists T; iexact HT
    iexact HZ
  · iexact HP

end Call

/-- The calls, in order. -/
abbrev calls : Fin 5 → Call := fun | 0 => call0 | 1 => call1 | 2 => call2 | 3 => call3 | 4 => call4

/-- What is scoped and not a call's own. -/
def others (F : FTy → Type) (c : Dev nD) : Fin 5 → sProp (MT nD τ sig Unit (Elt F) ℕ (Cert.Hand.Chain.UU sig nD τ) ℕ) := fun
  | 0 => Pipeline.scopedRestBut spec0 c [cc0_scratch0, cc0_scratch1, cc0_scratch2]
  | 1 => Pipeline.scopedRestBut spec1 c [cc1_scratch0, cc1_scratch1, cc1_scratch2]
  | 2 => Pipeline.scopedRestBut spec2 c [cc2_scratch0, cc2_scratch1, cc2_scratch2]
  | 3 => Pipeline.scopedRestBut spec3 c [cc3_scratch0, cc3_scratch1, cc3_scratch2]
  | 4 => Pipeline.scopedRestBut spec4 c [cc4_scratch0, cc4_scratch1, cc4_scratch2]

theorem scoped_split (c : Dev nD) : ∀ k : Fin 5, (Pipeline.scopedRest (calls k).cfg.spec c : sProp 𝕄)
    = iprop(iprop((∃ R, owns (c : Thread nD τ) (calls k).scR fullShare R) ∗ (∃ E, owns (c : Thread nD τ) (calls k).scE fullShare E) ∗ (∃ T, owns (c : Thread nD τ) (calls k).scT fullShare T)) ∗ others F c k) := by
  intro k
  match k with
  | 0 => simp only [owns_whole]; exact scopedRest0_split c
  | 1 => simp only [owns_whole]; exact scopedRest1_split c
  | 2 => simp only [owns_whole]; exact scopedRest2_split c
  | 3 => simp only [owns_whole]; exact scopedRest3_split c
  | 4 => simp only [owns_whole]; exact scopedRest4_split c

theorem row : ∀ (k : Fin 5) t, defs₀ (F := F) .tc (calls k).cfg.body ((calls k).cfg.bodyArgs t ((calls k).cfg.slots t)) = bodyAt (calls k) F t := by
  intro k t
  match k with
  | 0 | 1 | 2 | 3 | 4 => unfold defs₀; rw [Defs.onTc_tc]; rfl

end Cert.Kernel.Hand

end
-- ==== Proof.Hand.Kernel.Calls.lean ====
/-
  Hand-written, untrusted. The run of the whole program: the host operations and the five calls in turn, from the launch contents, with a predicate on the
  buffers carried from call to call (`run`); and the arguments kept by all of them (`frame`).
-/
module

public import proofs.«01_k».proof.Proof.Hand.Kernel.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf BodyObligationRel)

variable {F : FTy → Type} [BitOps F]

local notation "𝕄" => MT nD τ sig Unit (Elt F) ℕ (Cert.Hand.Chain.UU sig nD τ) ℕ

/-- The host operations after each call. -/
abbrev hostAfter : Fin 5 → Valuation τ sig (Elt F) → Valuation τ sig (Elt F) := fun
  | 0 => StableHlo.after hostOps1 | 1 => StableHlo.after hostOps2 | 2 => StableHlo.after hostOps3 | 3 => StableHlo.after hostOps4 | 4 => id

variable (m : (ℓ : Loc nD τ sig) → Buf (Elt F) ℓ) (ρ : Dev nD → PrngReg) (K : (k : Fin 5) → Dev nD → Track (calls k) F)

/-- The proof data of call `k`, entered at the contents `V`. -/
abbrev rd (k : Fin 5) (V : Valuation τ sig (Elt F)) (c : Dev nD) : RDat τ (Elt F) Unit ℕ (Cert.Hand.Chain.UU sig nD τ) ℕ (calls k).cfg c :=
  rdat (calls k) V (K k c) (others F c k) c

theorem fit (k : Fin 5) (V : Valuation τ sig (Elt F)) (c : Dev nD) (h0 : ∀ R E T, (K k c).inv 0 R E T) (hs : Step (calls k) V (K k c) (others F c k) c) :
    Cert.Hand.Chain.Fit (defs₀ (F := F)) Variants.none (rd K k V c) V where
  hbody := (body_obligation (calls k) V (K k c) (others F c k) c (row k) hs).toRRel
  howed _ := rfl
  hrec := rfl
  hshare := (dat (calls k) V (K k c) (others F c k) c).share_full fun _ => rfl
  hA := A_eq (calls k) V (K k c) (others F c k) c
  hin := inv_in (calls k) (K k c) (others F c k) c (scoped_split c k) h0
  hout := inv_out (calls k) (K k c) (others F c k) c (scoped_split c k) _

/-- The contents after a call, from contents that meet `q`. -/
abbrev Left (k : Fin 5) (q : Dev nD → Valuation τ sig (Elt F) → Prop) (c : Dev nD) (V' : Valuation τ sig (Elt F)) : Prop :=
  ∃ V, q c V ∧ Cert.Hand.Chain.After (rd K k V c) V V'

variable (Q : Fin 6 → Dev nD → Valuation τ sig (Elt F) → Prop)
  (h0 : ∀ c, Q 0 c (StableHlo.after hostOps0 (StableHlo.launchContents m c)))
  (hinv : ∀ k c R E T, (K k c).inv 0 R E T)
  (hs : ∀ (k : Fin 5) c V, Q k.castSucc c V → Step (calls k) V (K k c) (others F c k) c)
  (hQ : ∀ (k : Fin 5) c V V', Q k.castSucc c V → Cert.Hand.Chain.After (rd K k V c) V V' → Q k.succ c (hostAfter k V'))

/-- No call waits for another core. -/
abbrev lv0 : GSem nD τ sig → Unit → ℕ := fun _ _ => 0
abbrev L0 : GSem nD τ sig → Finset Unit := fun _ => ∅

/-- The calls still to come. -/
abbrev todo : Fin 6 → Finset (Fin 5) := fun
  | 0 => Finset.univ | 1 => Finset.univ.erase 0 | 2 => (Finset.univ.erase 0).erase 1 | 3 => ((Finset.univ.erase 0).erase 1).erase 2
  | 4 => (((Finset.univ.erase 0).erase 1).erase 2).erase 3 | 5 => ((((Finset.univ.erase 0).erase 1).erase 2).erase 3).erase 4

/-- The ghost state of the calls still to come. -/
abbrev gh (S : Finset (Fin 5)) (c : Dev nD) : Asn F := Pipeline.ghostOn (pcfgs (F := F)) adm embR S c

def seg0 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 0 launch0.toP rfl (todo 0) (by decide) (Q 0) (rd K 0)
    (fun c V hV => fit K 0 V c (hinv 0 c) (hs 0 c V hV))

def seg1 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 1 launch1.toP rfl (todo 1) (by decide) (Q 1) (rd K 1)
    (fun c V hV => fit K 1 V c (hinv 1 c) (hs 1 c V hV))

def seg2 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 2 launch2.toP rfl (todo 2) (by decide) (Q 2) (rd K 2)
    (fun c V hV => fit K 2 V c (hinv 2 c) (hs 2 c V hV))

def seg3 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 3 launch3.toP rfl (todo 3) (by decide) (Q 3) (rd K 3)
    (fun c V hV => fit K 3 V c (hinv 3 c) (hs 3 c V hV))

def seg4 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 4 launch4.toP rfl (todo 4) (by decide) (Q 4) (rd K 4)
    (fun c V hV => fit K 4 V c (hinv 4 c) (hs 4 c V hV))

def ops0 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps0 (fun op h => Pipeline.sub_ucRefs op ((List.forall_iff_forall_mem.mp hostOps0_sub) op h))
    (fun op h => (List.forall_iff_forall_mem.mp hostOps0_fresh) op h) (fun c V => V = StableHlo.launchContents m c) (gh (todo 0))

def ops1 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps1 (fun op h => Pipeline.sub_ucRefs op ((List.forall_iff_forall_mem.mp hostOps1_sub) op h))
    (fun op h => (List.forall_iff_forall_mem.mp hostOps1_fresh) op h) (Left K 0 (Q 0)) (gh (todo 1))

def ops2 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps2 (fun op h => Pipeline.sub_ucRefs op ((List.forall_iff_forall_mem.mp hostOps2_sub) op h))
    (fun op h => (List.forall_iff_forall_mem.mp hostOps2_fresh) op h) (Left K 1 (Q 1)) (gh (todo 2))

def ops3 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps3 (fun op h => Pipeline.sub_ucRefs op ((List.forall_iff_forall_mem.mp hostOps3_sub) op h))
    (fun op h => (List.forall_iff_forall_mem.mp hostOps3_fresh) op h) (Left K 2 (Q 2)) (gh (todo 3))

def ops4 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps4 (fun op h => Pipeline.sub_ucRefs op ((List.forall_iff_forall_mem.mp hostOps4_sub) op h))
    (fun op h => (List.forall_iff_forall_mem.mp hostOps4_fresh) op h) (Left K 3 (Q 3)) (gh (todo 4))

include h0 hinv hs hQ in
set_option backward.isDefEq.respectTransparency.types false in
/-- THE LAUNCH: every execution of @main ends with the buffers at contents that meet the last predicate, every counter at zero. -/
theorem run : θ_run defs (onTc (τ := τ) (main (F := F))) ⟨m, fun _ => 0, ρ⟩ (fun r =>
    (∀ c : Dev nD, ∃ V, Q 5 c V ∧ ∀ b ∈ Pipeline.ucRefs τ sig, r.2.mem (c, b) = V b) ∧ r.2.sem = fun _ => 0) := by
  refine Cert.Hand.Chain.launch (pcfgs (F := F)) adm defs₀ Variants.none L0 lv0 cellOf_inj (fun p c => match p with | 0 => rd K 0 (StableHlo.launchContents m c) c | 1 => rd K 1 (StableHlo.launchContents m c) c | 2 => rd K 2 (StableHlo.launchContents m c) c | 3 => rd K 3 (StableHlo.launchContents m c) c | 4 => rd K 4 (StableHlo.launchContents m c) c) m ρ main
    [.host (ops0 m), .host (seg0 K Q hinv hs), .host (ops1 K Q), .host (seg1 K Q hinv hs), .host (ops2 K Q), .host (seg2 K Q hinv hs), .host (ops3 K Q), .host (seg3 K Q hinv hs), .host (ops4 K Q), .host (seg4 K Q hinv hs)]
    (fun c P => by
      rewrite [main_chain c, Pipeline.RDat.Seg.run_eq_chain]
      dsimp (config := { failIfUnchanged := false }) only
      exact .rfl)
    (by simp only [Pipeline.RDat.Seg.pipes_host, Pipeline.RDat.Seg.pipes_nil]; decide) (fun _ _ => rfl) (Q 5)
    (fun c => ⟨.rfl, Cert.Hand.Chain.stg_mono _ _ _ c fun V' ⟨V, hV, e⟩ => e ▸ hV ▸ h0 c, .rfl, Cert.Hand.Chain.stg_mono _ _ _ c fun V' ⟨V, hV, e⟩ => e ▸ (let ⟨V₀, hq, ha⟩ := hV; hQ 0 c V₀ V hq ha), .rfl, Cert.Hand.Chain.stg_mono _ _ _ c fun V' ⟨V, hV, e⟩ => e ▸ (let ⟨V₀, hq, ha⟩ := hV; hQ 1 c V₀ V hq ha), .rfl, Cert.Hand.Chain.stg_mono _ _ _ c fun V' ⟨V, hV, e⟩ => e ▸ (let ⟨V₀, hq, ha⟩ := hV; hQ 2 c V₀ V hq ha), .rfl, Cert.Hand.Chain.stg_mono _ _ _ c fun V' ⟨V, hV, e⟩ => e ▸ (let ⟨V₀, hq, ha⟩ := hV; hQ 3 c V₀ V hq ha), ?_⟩) regions_no_unscoped
  refine (Cert.Hand.Chain.stg_mono _ _ _ c (q' := Q 5) fun V' ⟨V, hV, ha⟩ => hQ 4 c V V' hV ha).trans (Cert.Hand.Chain.stg_end _ _ _ _ c)

/-- The arguments' buffers. -/
abbrev argRefs : List (Ref sig .tc) := [main_arg0, main_arg1, main_arg2, main_arg3, main_arg4, main_arg5, main_arg6, main_arg7, main_arg8, main_arg9]

/-- The buffers no call and no later host operation writes: the arguments and the arrays the first host operations prepare. -/
abbrev keptRefs : List (Ref sig .tc) := argRefs ++ [main_v13, main_v15, main_v22, main_v24]

theorem args_in : ∀ (k : Fin 5) (w : Fin 11), Pipeline.arrRef (calls k).spec w ∈ keptRefs → ((calls k).cfg.win w).isOut = false := by decide +kernel

/-- A call keeps the buffers that are no result of it. -/
theorem kept (k : Fin 5) (c : Dev nD) {V V' : Valuation τ sig (Elt F)} (h : Cert.Hand.Chain.After (rd K k V c) V V') (b : Ref sig .tc)
    (hb : ∀ w, Pipeline.arrRef (calls k).spec w = b → ((calls k).cfg.win w).isOut = false) : V' (Proc.devRef .tc b) = V (Proc.devRef .tc b) := by
  by_cases hw : ∃ w, Pipeline.arrRef (calls k).spec w = b
  · obtain ⟨w, rfl⟩ := hw
    have e := (rd K k V c).ArrAt_in w (hb w rfl)
    exact (congrFun (e _) _ ▸ h.1 w : V' (Proc.devRef .tc (Pipeline.arrRef (calls k).cfg.spec w)) = _).trans (A_eq (calls k) V (K k c) (others F c k) c w)
  · refine h.2 _ fun hm => hw ?_
    unfold Pipeline.arrRefs at hm
    obtain ⟨r, hr, e⟩ := Finset.mem_map.mp hm
    obtain ⟨w, -, rfl⟩ := Finset.mem_image.mp hr
    exact ⟨w, Proc.devRef_injective _ e⟩

/-- The kept buffers as the first host operations leave them. -/
def Same (c : Dev nD) (V : Valuation τ sig (Elt F)) : Prop := ∀ b ∈ keptRefs, V (Proc.devRef .tc b) = V1 m c (Proc.devRef .tc b)

theorem same_host (c : Dev nD) (k : Fin 5) {V : Valuation τ sig (Elt F)} (h : Same m c V) : Same m c (hostAfter k V) := by
  intro b hb
  refine Eq.trans ?_ (h b hb)
  match k with
  | 0 => exact StableHlo.after_of_writes_sub hostOps1 _ hostOps1_writes ((by decide : ∀ b ∈ keptRefs, b ∉ hostOps1_W) b hb)
  | 1 => exact StableHlo.after_of_writes_sub hostOps2 _ hostOps2_writes ((by decide : ∀ b ∈ keptRefs, b ∉ hostOps2_W) b hb)
  | 2 => exact StableHlo.after_of_writes_sub hostOps3 _ hostOps3_writes ((by decide : ∀ b ∈ keptRefs, b ∉ hostOps3_W) b hb)
  | 3 => exact StableHlo.after_of_writes_sub hostOps4 _ hostOps4_writes ((by decide : ∀ b ∈ keptRefs, b ∉ hostOps4_W) b hb)
  | 4 => rfl

theorem same_launch (c : Dev nD) : Same m c (StableHlo.after hostOps0 (StableHlo.launchContents m c)) := fun _ _ => rfl

theorem same_call (k : Fin 5) (c : Dev nD) {V V' : Valuation τ sig (Elt F)} (h : Same m c V) (ha : Cert.Hand.Chain.After (rd K k V c) V V') : Same m c V' :=
  fun b hb => (kept K k c ha b fun w e => args_in k w (e ▸ hb)).trans (h b hb)

theorem args_uc : ∀ b ∈ argRefs, (Proc.devRef .tc b : DevRef τ sig) ∈ Pipeline.ucRefs τ sig := by decide

/-- The arguments at the end. -/
theorem args_of (r : PUnit × MemSt nD τ sig (Elt F)) (c : Dev nD) (V : Valuation τ sig (Elt F)) (h : Same m c V) (hr : ∀ b ∈ Pipeline.ucRefs τ sig, r.2.mem (c, b) = V b) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  have e : ∀ b ∈ argRefs, r.2.mem (c, Proc.devRef .tc b) = m (c, Proc.devRef .tc b) := fun b hb =>
    (hr _ (args_uc b hb)).trans ((h b (List.mem_append_left _ hb)).trans (V1_of m c b ((by decide : ∀ b ∈ argRefs, b ∉ hostOps0_W) b hb)))
  exact ⟨e main_arg0 (by decide), e main_arg1 (by decide), e main_arg2 (by decide), e main_arg3 (by decide), e main_arg4 (by decide), e main_arg5 (by decide), e main_arg6 (by decide), e main_arg7 (by decide), e main_arg8 (by decide), e main_arg9 (by decide)⟩

/-- Nothing tracked. -/
def trivialTrack (k : Fin 5) : Track (calls k) F := ⟨fun _ _ _ _ => True, fun _ _ _ => True⟩

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0) :=
  (θ_run defs _ _).mono (fun r h => ⟨fun c => let ⟨V, hV, hr⟩ := h.1 c; args_of m r c V hV hr, h.2⟩)
    (run m ρ (fun k _ => trivialTrack k) (fun _ => Same m) (same_launch m) (fun _ _ _ _ _ => trivial)
      (fun _ _ _ _ _ _ _ _ _ _ _ _ _ _ _ _ _ _ _ => by unfold Leads; intros; exact ⟨trivial, trivial, trivial, trivial, trivial, trivial⟩)
      fun k c V V' h ha => same_host m c k (same_call m _ k c h ha))

end Cert.Kernel.Hand

end
-- ==== Proof.Hand.KernelIdeal.Call.lean ====
/-
  Hand-written, untrusted. The five calls of the program as one kind of call: the same grid, body and layout at buffers and a batch element of its own.
-/
module

public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Cfg Window)

/-- The buffers, semaphores and index maps of a call's windows. -/
structure Wins where
  src : Memref sig .tc .hbm S3744x8x128 .i32
  hsrc : src.IsWhole
  out : Fin 4 → Memref sig .tc .hbm S5x234x64x236 .i8
  hout : ∀ l, (out l).IsWhole
  mx : Memref sig .tc .hbm S5x64x128 .f32
  hmx : mx.IsWhole
  stg0 : Fin 2 → Memref sig .tc .vmem S32x8x128 .i32
  hstg0 : ∀ j, (stg0 j).IsWhole
  sem0 : Fin 2 → DmaSem sig
  stg1 : Fin 1 → Memref sig .tc .vmem S128x960 .bf16
  hstg1 : ∀ j, (stg1 j).IsWhole
  sem1 : Fin 1 → DmaSem sig
  stg2 : Fin 1 → Memref sig .tc .vmem S3x128x768 .bf16
  hstg2 : ∀ j, (stg2 j).IsWhole
  sem2 : Fin 1 → DmaSem sig
  stg3 : Fin 1 → Memref sig .tc .vmem S4x64x128 .f32
  hstg3 : ∀ j, (stg3 j).IsWhole
  sem3 : Fin 1 → DmaSem sig
  stg4 : Fin 1 → Memref sig .tc .vmem S4x64x128 .f32
  hstg4 : ∀ j, (stg4 j).IsWhole
  sem4 : Fin 1 → DmaSem sig
  stg5 : Fin 1 → Memref sig .tc .smem S4 .f32
  hstg5 : ∀ j, (stg5 j).IsWhole
  sem5 : Fin 1 → DmaSem sig
  stg10 : Fin 1 → Memref sig .tc .vmem S1x64x128 .f32
  hstg10 : ∀ j, (stg10 j).IsWhole
  sem10 : Fin 1 → DmaSem sig
  stgo : Fin 4 → Fin 2 → Memref sig .tc .vmem S1x2x64x236 .i8
  hstgo : ∀ l j, (stgo l j).IsWhole
  semo : Fin 4 → Fin 2 → DmaSem sig
  ixo : Fin 4 → grid1.Coords → Fin 4 → ℕ
  hro : ∀ l (i i' : grid1.Coords), (∀ a, reads1_6 a = true → i a = i' a) → ixo l i = ixo l i'
  hinbo : ∀ l (i : grid1.Coords) a, (ixo l i a + 1) * S1x2x64x236.size a ≤ S5x234x64x236.size a
  hwxo : ∀ l (i : grid1.Coords), EltTy.bits .i8 = 32 ∨ (Rect.block (s := S5x234x64x236) S1x2x64x236.size (ixo l i) (hinbo l i)).WholeWords (EltTy.packing .i8)
  ixm : grid1.Coords → Fin 3 → ℕ
  hrm : ∀ i i' : grid1.Coords, (∀ a, reads1_10 a = true → i a = i' a) → ixm i = ixm i'
  hinbm : ∀ (i : grid1.Coords) a, (ixm i a + 1) * S1x64x128.size a ≤ S5x64x128.size a

namespace Wins

variable (D : Wins)

abbrev win0 : Window sig grid1 :=
  Window.ofSpec D.src S32x8x128.size cc1_transform_0 reads1_0 false false 2 D.stg0 D.sem0 hrank1 hreads1_0 hinb1_0 nbuf1_0 D.hsrc hwx1_0 D.hstg0
abbrev win1 : Window sig grid1 :=
  Window.ofSpec (Memref.whole main_v13) S128x960.size cc1_transform_1 reads1_1 false true 1 D.stg1 D.sem1 hrank1 hreads1_1 hinb1_1 nbuf1_1 (Memref.isWhole_whole _) hwx1_1 D.hstg1
abbrev win2 : Window sig grid1 :=
  Window.ofSpec (Memref.whole main_v15) S3x128x768.size cc1_transform_2 reads1_2 false true 1 D.stg2 D.sem2 hrank1 hreads1_2 hinb1_2 nbuf1_2 (Memref.isWhole_whole _) hwx1_2 D.hstg2
abbrev win3 : Window sig grid1 :=
  Window.ofSpec (Memref.whole main_v22) S4x64x128.size cc1_transform_3 reads1_3 false true 1 D.stg3 D.sem3 hrank1 hreads1_3 hinb1_3 nbuf1_3 (Memref.isWhole_whole _) hwx1_3 D.hstg3
abbrev win4 : Window sig grid1 :=
  Window.ofSpec (Memref.whole main_v24) S4x64x128.size cc1_transform_4 reads1_4 false true 1 D.stg4 D.sem4 hrank1 hreads1_4 hinb1_4 nbuf1_4 (Memref.isWhole_whole _) hwx1_4 D.hstg4
abbrev win5 : Window sig grid1 :=
  Window.ofSpec (Memref.whole main_arg9) S4.size cc1_transform_5 reads1_5 false false 1 D.stg5 D.sem5 hrank1 hreads1_5 hinb1_5 nbuf1_5 (Memref.isWhole_whole _) hwx1_5 D.hstg5
abbrev wino (l : Fin 4) : Window sig grid1 :=
  Window.ofSpec (D.out l) S1x2x64x236.size (D.ixo l) reads1_6 true false 2 (D.stgo l) (D.semo l) hrank1 (D.hro l) (D.hinbo l) nbuf1_6 (D.hout l) (D.hwxo l) (D.hstgo l)
abbrev win10 : Window sig grid1 :=
  Window.ofSpec D.mx S1x64x128.size D.ixm reads1_10 true false 1 D.stg10 D.sem10 hrank1 D.hrm D.hinbm nbuf1_10 D.hmx (fun _ => Or.inl rfl) D.hstg10
abbrev win : Fin 11 → Window sig grid1 := fun | 0 => D.win0 | 1 => D.win1 | 2 => D.win2 | 3 => D.win3 | 4 => D.win4 | 5 => D.win5 | 6 => D.wino 0 | 7 => D.wino 1 | 8 => D.wino 2 | 9 => D.wino 3 | 10 => D.win10 | ⟨_ + 11, h⟩ => absurd h (Nat.not_lt.2 (Nat.le_add_left _ _))

end Wins

/-- A call: its windows, its label and the scratches. -/
structure Call extends Wins where
  b : Fin 5
  lbl : Fin 5
  args : Fin grid1.N → ((w : Fin 11) → Fin (toWins.win w).nbuf) → Λ₀.Args lbl
  scR : Memref sig .tc .vmem S3x1536x256 .bf16
  hscR : scR.IsWhole
  scE : Memref sig .tc .vmem S192x256 .bf16
  hscE : scE.IsWhole
  scT : Memref sig .tc .vmem S64x256 .f32
  hscT : scT.IsWhole

/-- A call as a pipeline. -/
abbrev Call.cfg (D : Call) : Cfg sig Λ₀ where
  grid := grid1
  W := 11
  win := D.toWins.win
  body := D.lbl
  bodyArgs t s := D.args t s
  idle := idle1

abbrev Call.spec (D : Call) : Fin 11 → Pipeline.WinSpec sig grid1.rank := fun w => (D.toWins.win w).toWinSpec

/-- Call 0. -/
abbrev call0 : Call where
  src := Memref.whole main_arg0
  hsrc := Memref.isWhole_whole _
  out := fun | 0 => Memref.whole main_v25_0 | 1 => Memref.whole main_v25_1 | 2 => Memref.whole main_v25_2 | 3 => Memref.whole main_v25_3
  hout := fun | 0 => Memref.isWhole_whole _ | 1 => Memref.isWhole_whole _ | 2 => Memref.isWhole_whole _ | 3 => Memref.isWhole_whole _
  mx := Memref.whole main_v25_4
  hmx := Memref.isWhole_whole _
  stg0 := stage0_0
  hstg0 := hstage0_0
  sem0 := sem0_0
  stg1 := stage0_1
  hstg1 := hstage0_1
  sem1 := sem0_1
  stg2 := stage0_2
  hstg2 := hstage0_2
  sem2 := sem0_2
  stg3 := stage0_3
  hstg3 := hstage0_3
  sem3 := sem0_3
  stg4 := stage0_4
  hstg4 := hstage0_4
  sem4 := sem0_4
  stg5 := stage0_5
  hstg5 := hstage0_5
  sem5 := sem0_5
  stg10 := stage0_10
  hstg10 := hstage0_10
  sem10 := sem0_10
  stgo := fun | 0 => stage0_6 | 1 => stage0_7 | 2 => stage0_8 | 3 => stage0_9
  hstgo := fun | 0 => hstage0_6 | 1 => hstage0_7 | 2 => hstage0_8 | 3 => hstage0_9
  semo := fun | 0 => sem0_6 | 1 => sem0_7 | 2 => sem0_8 | 3 => sem0_9
  ixo := fun | 0 => cc0_transform_6 | 1 => cc0_transform_7 | 2 => cc0_transform_8 | 3 => cc0_transform_9
  hro := fun | 0 => hreads0_6 | 1 => hreads0_7 | 2 => hreads0_8 | 3 => hreads0_9
  hinbo := fun | 0 => hinb0_6 | 1 => hinb0_7 | 2 => hinb0_8 | 3 => hinb0_9
  hwxo := fun | 0 => hwx0_6 | 1 => hwx0_7 | 2 => hwx0_8 | 3 => hwx0_9
  ixm := cc0_transform_10
  hrm := hreads0_10
  hinbm := hinb0_10
  b := 0
  lbl := 0
  args t s := (t, s)
  scR := Memref.whole cc0_scratch0
  hscR := Memref.isWhole_whole _
  scE := Memref.whole cc0_scratch1
  hscE := Memref.isWhole_whole _
  scT := Memref.whole cc0_scratch2
  hscT := Memref.isWhole_whole _

theorem cfg_call0 : cfg0 = call0.cfg := rfl

/-- Call 1. -/
abbrev call1 : Call where
  src := Memref.whole main_arg1
  hsrc := Memref.isWhole_whole _
  out := fun | 0 => Memref.whole main_v26_0 | 1 => Memref.whole main_v26_1 | 2 => Memref.whole main_v26_2 | 3 => Memref.whole main_v26_3
  hout := fun | 0 => Memref.isWhole_whole _ | 1 => Memref.isWhole_whole _ | 2 => Memref.isWhole_whole _ | 3 => Memref.isWhole_whole _
  mx := Memref.whole main_v26_4
  hmx := Memref.isWhole_whole _
  stg0 := stage1_0
  hstg0 := hstage1_0
  sem0 := sem1_0
  stg1 := stage1_1
  hstg1 := hstage1_1
  sem1 := sem1_1
  stg2 := stage1_2
  hstg2 := hstage1_2
  sem2 := sem1_2
  stg3 := stage1_3
  hstg3 := hstage1_3
  sem3 := sem1_3
  stg4 := stage1_4
  hstg4 := hstage1_4
  sem4 := sem1_4
  stg5 := stage1_5
  hstg5 := hstage1_5
  sem5 := sem1_5
  stg10 := stage1_10
  hstg10 := hstage1_10
  sem10 := sem1_10
  stgo := fun | 0 => stage1_6 | 1 => stage1_7 | 2 => stage1_8 | 3 => stage1_9
  hstgo := fun | 0 => hstage1_6 | 1 => hstage1_7 | 2 => hstage1_8 | 3 => hstage1_9
  semo := fun | 0 => sem1_6 | 1 => sem1_7 | 2 => sem1_8 | 3 => sem1_9
  ixo := fun | 0 => cc1_transform_11 | 1 => cc1_transform_12 | 2 => cc1_transform_13 | 3 => cc1_transform_14
  hro := fun | 0 => hreads1_6 | 1 => hreads1_7 | 2 => hreads1_8 | 3 => hreads1_9
  hinbo := fun | 0 => hinb1_6 | 1 => hinb1_7 | 2 => hinb1_8 | 3 => hinb1_9
  hwxo := fun | 0 => hwx1_6 | 1 => hwx1_7 | 2 => hwx1_8 | 3 => hwx1_9
  ixm := cc1_transform_15
  hrm := hreads1_10
  hinbm := hinb1_10
  b := 1
  lbl := 1
  args t s := (t, s)
  scR := Memref.whole cc1_scratch0
  hscR := Memref.isWhole_whole _
  scE := Memref.whole cc1_scratch1
  hscE := Memref.isWhole_whole _
  scT := Memref.whole cc1_scratch2
  hscT := Memref.isWhole_whole _

theorem cfg_call1 : cfg1 = call1.cfg := rfl

/-- Call 2. -/
abbrev call2 : Call where
  src := Memref.whole main_arg2
  hsrc := Memref.isWhole_whole _
  out := fun | 0 => Memref.whole main_v27_0 | 1 => Memref.whole main_v27_1 | 2 => Memref.whole main_v27_2 | 3 => Memref.whole main_v27_3
  hout := fun | 0 => Memref.isWhole_whole _ | 1 => Memref.isWhole_whole _ | 2 => Memref.isWhole_whole _ | 3 => Memref.isWhole_whole _
  mx := Memref.whole main_v27_4
  hmx := Memref.isWhole_whole _
  stg0 := stage2_0
  hstg0 := hstage2_0
  sem0 := sem2_0
  stg1 := stage2_1
  hstg1 := hstage2_1
  sem1 := sem2_1
  stg2 := stage2_2
  hstg2 := hstage2_2
  sem2 := sem2_2
  stg3 := stage2_3
  hstg3 := hstage2_3
  sem3 := sem2_3
  stg4 := stage2_4
  hstg4 := hstage2_4
  sem4 := sem2_4
  stg5 := stage2_5
  hstg5 := hstage2_5
  sem5 := sem2_5
  stg10 := stage2_10
  hstg10 := hstage2_10
  sem10 := sem2_10
  stgo := fun | 0 => stage2_6 | 1 => stage2_7 | 2 => stage2_8 | 3 => stage2_9
  hstgo := fun | 0 => hstage2_6 | 1 => hstage2_7 | 2 => hstage2_8 | 3 => hstage2_9
  semo := fun | 0 => sem2_6 | 1 => sem2_7 | 2 => sem2_8 | 3 => sem2_9
  ixo := fun | 0 => cc2_transform_11 | 1 => cc2_transform_12 | 2 => cc2_transform_13 | 3 => cc2_transform_14
  hro := fun | 0 => hreads2_6 | 1 => hreads2_7 | 2 => hreads2_8 | 3 => hreads2_9
  hinbo := fun | 0 => hinb2_6 | 1 => hinb2_7 | 2 => hinb2_8 | 3 => hinb2_9
  hwxo := fun | 0 => hwx2_6 | 1 => hwx2_7 | 2 => hwx2_8 | 3 => hwx2_9
  ixm := cc2_transform_15
  hrm := hreads2_10
  hinbm := hinb2_10
  b := 2
  lbl := 2
  args t s := (t, s)
  scR := Memref.whole cc2_scratch0
  hscR := Memref.isWhole_whole _
  scE := Memref.whole cc2_scratch1
  hscE := Memref.isWhole_whole _
  scT := Memref.whole cc2_scratch2
  hscT := Memref.isWhole_whole _

theorem cfg_call2 : cfg2 = call2.cfg := rfl

/-- Call 3. -/
abbrev call3 : Call where
  src := Memref.whole main_arg3
  hsrc := Memref.isWhole_whole _
  out := fun | 0 => Memref.whole main_v28_0 | 1 => Memref.whole main_v28_1 | 2 => Memref.whole main_v28_2 | 3 => Memref.whole main_v28_3
  hout := fun | 0 => Memref.isWhole_whole _ | 1 => Memref.isWhole_whole _ | 2 => Memref.isWhole_whole _ | 3 => Memref.isWhole_whole _
  mx := Memref.whole main_v28_4
  hmx := Memref.isWhole_whole _
  stg0 := stage3_0
  hstg0 := hstage3_0
  sem0 := sem3_0
  stg1 := stage3_1
  hstg1 := hstage3_1
  sem1 := sem3_1
  stg2 := stage3_2
  hstg2 := hstage3_2
  sem2 := sem3_2
  stg3 := stage3_3
  hstg3 := hstage3_3
  sem3 := sem3_3
  stg4 := stage3_4
  hstg4 := hstage3_4
  sem4 := sem3_4
  stg5 := stage3_5
  hstg5 := hstage3_5
  sem5 := sem3_5
  stg10 := stage3_10
  hstg10 := hstage3_10
  sem10 := sem3_10
  stgo := fun | 0 => stage3_6 | 1 => stage3_7 | 2 => stage3_8 | 3 => stage3_9
  hstgo := fun | 0 => hstage3_6 | 1 => hstage3_7 | 2 => hstage3_8 | 3 => hstage3_9
  semo := fun | 0 => sem3_6 | 1 => sem3_7 | 2 => sem3_8 | 3 => sem3_9
  ixo := fun | 0 => cc3_transform_11 | 1 => cc3_transform_12 | 2 => cc3_transform_13 | 3 => cc3_transform_14
  hro := fun | 0 => hreads3_6 | 1 => hreads3_7 | 2 => hreads3_8 | 3 => hreads3_9
  hinbo := fun | 0 => hinb3_6 | 1 => hinb3_7 | 2 => hinb3_8 | 3 => hinb3_9
  hwxo := fun | 0 => hwx3_6 | 1 => hwx3_7 | 2 => hwx3_8 | 3 => hwx3_9
  ixm := cc3_transform_15
  hrm := hreads3_10
  hinbm := hinb3_10
  b := 3
  lbl := 3
  args t s := (t, s)
  scR := Memref.whole cc3_scratch0
  hscR := Memref.isWhole_whole _
  scE := Memref.whole cc3_scratch1
  hscE := Memref.isWhole_whole _
  scT := Memref.whole cc3_scratch2
  hscT := Memref.isWhole_whole _

theorem cfg_call3 : cfg3 = call3.cfg := rfl

/-- Call 4. -/
abbrev call4 : Call where
  src := Memref.whole main_arg4
  hsrc := Memref.isWhole_whole _
  out := fun | 0 => Memref.whole main_v29_0 | 1 => Memref.whole main_v29_1 | 2 => Memref.whole main_v29_2 | 3 => Memref.whole main_v29_3
  hout := fun | 0 => Memref.isWhole_whole _ | 1 => Memref.isWhole_whole _ | 2 => Memref.isWhole_whole _ | 3 => Memref.isWhole_whole _
  mx := Memref.whole main_v29_4
  hmx := Memref.isWhole_whole _
  stg0 := stage4_0
  hstg0 := hstage4_0
  sem0 := sem4_0
  stg1 := stage4_1
  hstg1 := hstage4_1
  sem1 := sem4_1
  stg2 := stage4_2
  hstg2 := hstage4_2
  sem2 := sem4_2
  stg3 := stage4_3
  hstg3 := hstage4_3
  sem3 := sem4_3
  stg4 := stage4_4
  hstg4 := hstage4_4
  sem4 := sem4_4
  stg5 := stage4_5
  hstg5 := hstage4_5
  sem5 := sem4_5
  stg10 := stage4_10
  hstg10 := hstage4_10
  sem10 := sem4_10
  stgo := fun | 0 => stage4_6 | 1 => stage4_7 | 2 => stage4_8 | 3 => stage4_9
  hstgo := fun | 0 => hstage4_6 | 1 => hstage4_7 | 2 => hstage4_8 | 3 => hstage4_9
  semo := fun | 0 => sem4_6 | 1 => sem4_7 | 2 => sem4_8 | 3 => sem4_9
  ixo := fun | 0 => cc4_transform_11 | 1 => cc4_transform_12 | 2 => cc4_transform_13 | 3 => cc4_transform_14
  hro := fun | 0 => hreads4_6 | 1 => hreads4_7 | 2 => hreads4_8 | 3 => hreads4_9
  hinbo := fun | 0 => hinb4_6 | 1 => hinb4_7 | 2 => hinb4_8 | 3 => hinb4_9
  hwxo := fun | 0 => hwx4_6 | 1 => hwx4_7 | 2 => hwx4_8 | 3 => hwx4_9
  ixm := cc4_transform_15
  hrm := hreads4_10
  hinbm := hinb4_10
  b := 4
  lbl := 4
  args t s := (t, s)
  scR := Memref.whole cc4_scratch0
  hscR := Memref.isWhole_whole _
  scE := Memref.whole cc4_scratch1
  hscE := Memref.isWhole_whole _
  scT := Memref.whole cc4_scratch2
  hscT := Memref.isWhole_whole _

theorem cfg_call4 : cfg4 = call4.cfg := rfl

end Cert.KernelIdeal.Hand

end
-- ==== Proof.Hand.KernelIdeal.Offsets.lean ====
/-
  Hand-written, untrusted. Closed forms of the ring offsets of the printed body: the slot of column `x` in a ring begins at row
  `(x mod 8) * 192`, its three taps 64 rows apart. Layer `l` works on columns `2 (t - 2 l) + c` at step `t`; the forms add a
  multiple of 8 where that would be negative.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Covers
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic

/-- The step number. -/
abbrev tv (i : grid1.Coords) : ℕ := (i 0).val

theorem coords_forall {P : grid1.Coords → Prop} (h : ∀ t : Fin 123, P (grid1.coords t)) (i : grid1.Coords) : P i := by
  obtain ⟨t, rfl⟩ := grid1.coords_surjective i; exact h t

theorem off1_eq (i : grid1.Coords) (r₁ : Fin 2) (r₂ : Fin 3) :
    k1_off1 i (BitVec.ofNat 32 r₁.val) (BitVec.ofNat 32 (64 * r₂.val)) = ![0, (2 * tv i + (0 + r₁.val)) % 8 * 192 + 64 * r₂.val, 0] := by
  revert r₁ r₂; revert i; refine coords_forall ?_; decide +kernel
theorem off3_eq (i : grid1.Coords) (r₁ : Fin 2) (r₂ : Fin 3) :
    k1_off3 i (BitVec.ofNat 32 r₁.val) (BitVec.ofNat 32 (64 * r₂.val)) = ![1, (2 * tv i + (4 + r₁.val)) % 8 * 192 + 64 * r₂.val, 0] := by
  revert r₁ r₂; revert i; refine coords_forall ?_; decide +kernel
theorem off5_eq (i : grid1.Coords) (r₁ : Fin 2) (r₂ : Fin 3) :
    k1_off5 i (BitVec.ofNat 32 r₁.val) (BitVec.ofNat 32 (64 * r₂.val)) = ![2, (2 * tv i + (0 + r₁.val)) % 8 * 192 + 64 * r₂.val, 0] := by
  revert r₁ r₂; revert i; refine coords_forall ?_; decide +kernel
theorem off2_eq (i : grid1.Coords) (r : Fin 4) :
    k1_off2 i (BitVec.ofNat 32 r.val) = ![0, (2 * tv i + (3 + r.val)) % 8 * 192, 0] := by
  revert r; revert i; refine coords_forall ?_; decide +kernel
theorem off4_eq (i : grid1.Coords) (r : Fin 4) :
    k1_off4 i (BitVec.ofNat 32 r.val) = ![1, (2 * tv i + (7 + r.val)) % 8 * 192, 0] := by
  revert r; revert i; refine coords_forall ?_; decide +kernel
theorem off6_eq (i : grid1.Coords) (r : Fin 4) :
    k1_off6 i (BitVec.ofNat 32 r.val) = ![2, (2 * tv i + (3 + r.val)) % 8 * 192, 0] := by
  revert r; revert i; refine coords_forall ?_; decide +kernel

instance (i : grid1.Coords) : ClosedOff (k1_off1 i 0#32 0#32) := ⟨![0, (2 * tv i + 0) % 8 * 192 + 0, 0], off1_eq i 0 0⟩
instance (i : grid1.Coords) : ClosedOff (k1_off1 i 0#32 64#32) := ⟨![0, (2 * tv i + 0) % 8 * 192 + 64, 0], off1_eq i 0 1⟩
instance (i : grid1.Coords) : ClosedOff (k1_off1 i 0#32 128#32) := ⟨![0, (2 * tv i + 0) % 8 * 192 + 128, 0], off1_eq i 0 2⟩
instance (i : grid1.Coords) : ClosedOff (k1_off1 i 1#32 0#32) := ⟨![0, (2 * tv i + 1) % 8 * 192 + 0, 0], off1_eq i 1 0⟩
instance (i : grid1.Coords) : ClosedOff (k1_off1 i 1#32 64#32) := ⟨![0, (2 * tv i + 1) % 8 * 192 + 64, 0], off1_eq i 1 1⟩
instance (i : grid1.Coords) : ClosedOff (k1_off1 i 1#32 128#32) := ⟨![0, (2 * tv i + 1) % 8 * 192 + 128, 0], off1_eq i 1 2⟩
instance (i : grid1.Coords) : ClosedOff (k1_off3 i 0#32 0#32) := ⟨![1, (2 * tv i + 4) % 8 * 192 + 0, 0], off3_eq i 0 0⟩
instance (i : grid1.Coords) : ClosedOff (k1_off3 i 0#32 64#32) := ⟨![1, (2 * tv i + 4) % 8 * 192 + 64, 0], off3_eq i 0 1⟩
instance (i : grid1.Coords) : ClosedOff (k1_off3 i 0#32 128#32) := ⟨![1, (2 * tv i + 4) % 8 * 192 + 128, 0], off3_eq i 0 2⟩
instance (i : grid1.Coords) : ClosedOff (k1_off3 i 1#32 0#32) := ⟨![1, (2 * tv i + 5) % 8 * 192 + 0, 0], off3_eq i 1 0⟩
instance (i : grid1.Coords) : ClosedOff (k1_off3 i 1#32 64#32) := ⟨![1, (2 * tv i + 5) % 8 * 192 + 64, 0], off3_eq i 1 1⟩
instance (i : grid1.Coords) : ClosedOff (k1_off3 i 1#32 128#32) := ⟨![1, (2 * tv i + 5) % 8 * 192 + 128, 0], off3_eq i 1 2⟩
instance (i : grid1.Coords) : ClosedOff (k1_off5 i 0#32 0#32) := ⟨![2, (2 * tv i + 0) % 8 * 192 + 0, 0], off5_eq i 0 0⟩
instance (i : grid1.Coords) : ClosedOff (k1_off5 i 0#32 64#32) := ⟨![2, (2 * tv i + 0) % 8 * 192 + 64, 0], off5_eq i 0 1⟩
instance (i : grid1.Coords) : ClosedOff (k1_off5 i 0#32 128#32) := ⟨![2, (2 * tv i + 0) % 8 * 192 + 128, 0], off5_eq i 0 2⟩
instance (i : grid1.Coords) : ClosedOff (k1_off5 i 1#32 0#32) := ⟨![2, (2 * tv i + 1) % 8 * 192 + 0, 0], off5_eq i 1 0⟩
instance (i : grid1.Coords) : ClosedOff (k1_off5 i 1#32 64#32) := ⟨![2, (2 * tv i + 1) % 8 * 192 + 64, 0], off5_eq i 1 1⟩
instance (i : grid1.Coords) : ClosedOff (k1_off5 i 1#32 128#32) := ⟨![2, (2 * tv i + 1) % 8 * 192 + 128, 0], off5_eq i 1 2⟩
instance (i : grid1.Coords) : ClosedOff (k1_off2 i 0#32) := ⟨![0, (2 * tv i + 3) % 8 * 192, 0], off2_eq i 0⟩
instance (i : grid1.Coords) : ClosedOff (k1_off2 i 1#32) := ⟨![0, (2 * tv i + 4) % 8 * 192, 0], off2_eq i 1⟩
instance (i : grid1.Coords) : ClosedOff (k1_off2 i 2#32) := ⟨![0, (2 * tv i + 5) % 8 * 192, 0], off2_eq i 2⟩
instance (i : grid1.Coords) : ClosedOff (k1_off2 i 3#32) := ⟨![0, (2 * tv i + 6) % 8 * 192, 0], off2_eq i 3⟩
instance (i : grid1.Coords) : ClosedOff (k1_off4 i 0#32) := ⟨![1, (2 * tv i + 7) % 8 * 192, 0], off4_eq i 0⟩
instance (i : grid1.Coords) : ClosedOff (k1_off4 i 1#32) := ⟨![1, (2 * tv i + 8) % 8 * 192, 0], off4_eq i 1⟩
instance (i : grid1.Coords) : ClosedOff (k1_off4 i 2#32) := ⟨![1, (2 * tv i + 9) % 8 * 192, 0], off4_eq i 2⟩
instance (i : grid1.Coords) : ClosedOff (k1_off4 i 3#32) := ⟨![1, (2 * tv i + 10) % 8 * 192, 0], off4_eq i 3⟩
instance (i : grid1.Coords) : ClosedOff (k1_off6 i 0#32) := ⟨![2, (2 * tv i + 3) % 8 * 192, 0], off6_eq i 0⟩
instance (i : grid1.Coords) : ClosedOff (k1_off6 i 1#32) := ⟨![2, (2 * tv i + 4) % 8 * 192, 0], off6_eq i 1⟩
instance (i : grid1.Coords) : ClosedOff (k1_off6 i 2#32) := ⟨![2, (2 * tv i + 5) % 8 * 192, 0], off6_eq i 2⟩
instance (i : grid1.Coords) : ClosedOff (k1_off6 i 3#32) := ⟨![2, (2 * tv i + 6) % 8 * 192, 0], off6_eq i 3⟩

end Cert.KernelIdeal.Hand

end
-- ==== Proof.Hand.KernelIdeal.Body.lean ====
/-
  Hand-written, untrusted. The run of the printed body.
-/
module

public import proofs.«01_k».proof.Proof.Gen.KernelIdeal.Launch
public import proofs.«01_k».proof.Proof.Gen.KernelIdeal.Skeleton
public import proofs.«01_k».proof.Proof.Hand.Chain
public import proofs.«01_k».proof.Proof.Gen.KernelIdeal.Points
public import proofs.«01_k».proof.Proof.Hand.KernelIdeal.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Cert.Hand.Chain.UU sig nD τ) ℕ

set_option maxHeartbeats 4000000 in
/-- The body's run at any step, on whole buffers with any contents: it ends, its inputs unchanged, and the contents `L` it leaves in the five
    result windows and the three scratches (in the order of the arguments) are read off the run. -/
def body_run (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole)
    (arg12 : Memref sig .tc .vmem S1x2x64x236 .i8) (harg12 : arg12.IsWhole) (arg13 : Memref sig .tc .vmem S1x2x64x236 .i8) (harg13 : arg13.IsWhole)
    (arg14 : Memref sig .tc .vmem S1x2x64x236 .i8) (harg14 : arg14.IsWhole) (arg15 : Memref sig .tc .vmem S1x2x64x236 .i8) (harg15 : arg15.IsWhole)
    (arg16 : Memref sig .tc .vmem S1x64x128 .f32) (harg16 : arg16.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f12 : Buf (Elt F) (arg12.view.loc (c : Thread nD τ))) (f13 : Buf (Elt F) (arg13.view.loc (c : Thread nD τ)))
    (f14 : Buf (Elt F) (arg14.view.loc (c : Thread nD τ))) (f15 : Buf (Elt F) (arg15.view.loc (c : Thread nD τ)))
    (f16 : Buf (Elt F) (arg16.view.loc (c : Thread nD τ)))
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (R : Buf (Elt F) (arg17.view.loc (c : Thread nD τ))) (E : Buf (Elt F) (arg18.view.loc (c : Thread nD τ)))
    (T : Buf (Elt F) (arg19.view.loc (c : Thread nD τ))) :
    { L : Buf (Elt F) (arg12.view.loc (c : Thread nD τ)) × Buf (Elt F) (arg13.view.loc (c : Thread nD τ)) × Buf (Elt F) (arg14.view.loc (c : Thread nD τ)) × Buf (Elt F) (arg15.view.loc (c : Thread nD τ)) × Buf (Elt F) (arg16.view.loc (c : Thread nD τ)) × Buf (Elt F) (arg17.view.loc (c : Thread nD τ)) × Buf (Elt F) (arg18.view.loc (c : Thread nD τ)) × Buf (Elt F) (arg19.view.loc (c : Thread nD τ)) //
      ∀ K : PUnit → sProp 𝕄,
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} R) ∗ (arg18.view.loc (c : Thread nD τ) ↦[arg18.view.set]{fullShare} E) ∗ (arg19.view.loc (c : Thread nD τ) ↦[arg19.view.set]{fullShare} T)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} L.1) ∗ (arg13.view.loc (c : Thread nD τ) ↦[arg13.view.set]{fullShare} L.2.1) ∗ (arg14.view.loc (c : Thread nD τ) ↦[arg14.view.set]{fullShare} L.2.2.1) ∗ (arg15.view.loc (c : Thread nD τ) ↦[arg15.view.set]{fullShare} L.2.2.2.1) ∗ (arg16.view.loc (c : Thread nD τ) ↦[arg16.view.set]{fullShare} L.2.2.2.2.1) ∗ (arg17.view.loc (c : Thread nD τ) ↦[arg17.view.set]{fullShare} L.2.2.2.2.2.1) ∗ (arg18.view.loc (c : Thread nD τ) ↦[arg18.view.set]{fullShare} L.2.2.2.2.2.2.1) ∗ (arg19.view.loc (c : Thread nD τ) ↦[arg19.view.set]{fullShare} L.2.2.2.2.2.2.2)) -∗ K ⟨⟩))
        ⊢ wp frame (wpE (defs₀ (F := F)) Variants.none c none) Set.univ
            (cc1_backbone1 i arg1 harg1 arg2 harg2 arg3 harg3 arg4 harg4 arg5 harg5 arg6 harg6 arg7 harg7 arg8 harg8 arg9 harg9 arg10 harg10
              arg11 harg11 arg12 harg12 arg13 harg13 arg14 harg14 arg15 harg15 arg16 harg16 arg17 harg17 arg18 harg18
              arg19 harg19) K } := by
  refine ⟨⟨?_, ?_, ?_, ?_, ?_, ?_, ?_, ?_⟩, fun K => ?run⟩
  case run =>
    simp only [cc1_backbone1_eq_skeleton]; unfold cc1_backbone1_skel
    simp only [k1_part1_eq_skeleton, k1_part2_eq_skeleton, k1_part3_eq_skeleton, k1_part4_eq_skeleton, k1_part5_eq_skeleton, k1_part6_eq_skeleton,
      k1_part7_eq_skeleton, k1_part8_eq_skeleton, k1_part9_eq_skeleton, k1_part10_eq_skeleton, k1_part11_eq_skeleton, k1_part12_eq_skeleton,
      k1_part13_eq_skeleton, k1_part14_eq_skeleton, k1_part15_eq_skeleton, k1_part16_eq_skeleton, k1_part17_eq_skeleton, k1_part18_eq_skeleton]
    iintro ⟨H1, H2, H3, H4, H5, H6, H12, H13, H14, H15, H16, HR, HE, HT, Hk⟩
    sl_exec
    sl_step
    iapply Hk
    iframe H1 H2 H3 H4 H5 H6 H12 H13 H14 H15 H16 HR HE
    iexact HT

end Cert.KernelIdeal.Hand

end
-- ==== Proof.Hand.KernelIdeal.Run.lean ====
/-
  Hand-written, untrusted. The run of the printed program, with an invariant over the three scratches and a predicate per result window carried along
  the grid of each call, and a predicate on the buffers carried from call to call: `run`, at any step facts (`Step`); and `frame`, at the trivial ones.
-/
module

public import proofs.«01_k».proof.Proof.Gen.KernelIdeal.Regions
public import proofs.«01_k».proof.Proof.Gen.KernelIdeal.Points
public import proofs.«01_k».proof.Proof.Hand.Chain
public import proofs.«01_k».proof.Proof.Hand.KernelIdeal.Call
public import proofs.«01_k».proof.Proof.Hand.KernelIdeal.Body
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf BodyObligationRel)

variable {F : FTy → Type} [FloatOps F]

local notation "𝕄" => MT nD τ sig Unit (Elt F) ℕ (Cert.Hand.Chain.UU sig nD τ) ℕ

/-- The body at step `i`, on whole buffers that read `X…`, leaves contents that meet `Q` (read through the memrefs) in the result windows and the scratches. -/
def Leads (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole) (arg12 : Memref sig .tc .vmem S1x2x64x236 .i8) (harg12 : arg12.IsWhole)
    (arg13 : Memref sig .tc .vmem S1x2x64x236 .i8) (harg13 : arg13.IsWhole) (arg14 : Memref sig .tc .vmem S1x2x64x236 .i8) (harg14 : arg14.IsWhole)
    (arg15 : Memref sig .tc .vmem S1x2x64x236 .i8) (harg15 : arg15.IsWhole) (arg16 : Memref sig .tc .vmem S1x64x128 .f32) (harg16 : arg16.IsWhole)
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (X1 : S32x8x128.Idx → Elt F .i32) (X2 : S128x960.Idx → Elt F .bf16) (X3 : S3x128x768.Idx → Elt F .bf16) (X4 : S4x64x128.Idx → Elt F .f32) (X5 : S4x64x128.Idx → Elt F .f32) (X6 : S4.Idx → Elt F .f32) (X12 : S1x2x64x236.Idx → Elt F .i8) (X13 : S1x2x64x236.Idx → Elt F .i8) (X14 : S1x2x64x236.Idx → Elt F .i8) (X15 : S1x2x64x236.Idx → Elt F .i8) (X16 : S1x64x128.Idx → Elt F .f32) (X17 : S3x1536x256.Idx → Elt F .bf16) (X18 : S192x256.Idx → Elt F .bf16) (X19 : S64x256.Idx → Elt F .f32)
    (Q : ((S1x2x64x236.Idx → Elt F .i8) → (S1x2x64x236.Idx → Elt F .i8) → (S1x2x64x236.Idx → Elt F .i8) → (S1x2x64x236.Idx → Elt F .i8) → (S1x64x128.Idx → Elt F .f32) → (S3x1536x256.Idx → Elt F .bf16) → (S192x256.Idx → Elt F .bf16) → (S64x256.Idx → Elt F .f32) → Prop)) : Prop :=
  ∀ (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))),
    arg1.view.read (Elt F) f1 = X1 → arg2.view.read (Elt F) f2 = X2 → arg3.view.read (Elt F) f3 = X3 → arg4.view.read (Elt F) f4 = X4 → arg5.view.read (Elt F) f5 = X5 → arg6.view.read (Elt F) f6 = X6 → arg12.view.read (Elt F) f12 = X12 → arg13.view.read (Elt F) f13 = X13 → arg14.view.read (Elt F) f14 = X14 → arg15.view.read (Elt F) f15 = X15 → arg16.view.read (Elt F) f16 = X16 → arg17.view.read (Elt F) f17 = X17 → arg18.view.read (Elt F) f18 = X18 → arg19.view.read (Elt F) f19 = X19 →
    let L := (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 f17 f18 f19).1
    Q (arg12.view.read (Elt F) L.1) (arg13.view.read (Elt F) L.2.1) (arg14.view.read (Elt F) L.2.2.1) (arg15.view.read (Elt F) L.2.2.2.1) (arg16.view.read (Elt F) L.2.2.2.2.1) (arg17.view.read (Elt F) L.2.2.2.2.2.1) (arg18.view.read (Elt F) L.2.2.2.2.2.2.1) (arg19.view.read (Elt F) L.2.2.2.2.2.2.2)

theorem body_owns (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole) (arg12 : Memref sig .tc .vmem S1x2x64x236 .i8) (harg12 : arg12.IsWhole)
    (arg13 : Memref sig .tc .vmem S1x2x64x236 .i8) (harg13 : arg13.IsWhole) (arg14 : Memref sig .tc .vmem S1x2x64x236 .i8) (harg14 : arg14.IsWhole)
    (arg15 : Memref sig .tc .vmem S1x2x64x236 .i8) (harg15 : arg15.IsWhole) (arg16 : Memref sig .tc .vmem S1x64x128 .f32) (harg16 : arg16.IsWhole)
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (X1 : S32x8x128.Idx → Elt F .i32) (X2 : S128x960.Idx → Elt F .bf16) (X3 : S3x128x768.Idx → Elt F .bf16) (X4 : S4x64x128.Idx → Elt F .f32) (X5 : S4x64x128.Idx → Elt F .f32) (X6 : S4.Idx → Elt F .f32) (X12 : S1x2x64x236.Idx → Elt F .i8) (X13 : S1x2x64x236.Idx → Elt F .i8) (X14 : S1x2x64x236.Idx → Elt F .i8) (X15 : S1x2x64x236.Idx → Elt F .i8) (X16 : S1x64x128.Idx → Elt F .f32) (X17 : S3x1536x256.Idx → Elt F .bf16) (X18 : S192x256.Idx → Elt F .bf16) (X19 : S64x256.Idx → Elt F .f32)
    (Q : ((S1x2x64x236.Idx → Elt F .i8) → (S1x2x64x236.Idx → Elt F .i8) → (S1x2x64x236.Idx → Elt F .i8) → (S1x2x64x236.Idx → Elt F .i8) → (S1x64x128.Idx → Elt F .f32) → (S3x1536x256.Idx → Elt F .bf16) → (S192x256.Idx → Elt F .bf16) → (S64x256.Idx → Elt F .f32) → Prop))
    (h : Leads c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X5 X6 X12 X13 X14 X15 X16 X17 X18 X19 Q)
    (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19
      ∗ (∀ (Z12 : S1x2x64x236.Idx → Elt F .i8) (Z13 : S1x2x64x236.Idx → Elt F .i8) (Z14 : S1x2x64x236.Idx → Elt F .i8) (Z15 : S1x2x64x236.Idx → Elt F .i8) (Z16 : S1x64x128.Idx → Elt F .f32) (Z17 : S3x1536x256.Idx → Elt F .bf16) (Z18 : S192x256.Idx → Elt F .bf16) (Z19 : S64x256.Idx → Elt F .f32), ⌜Q Z12 Z13 Z14 Z15 Z16 Z17 Z18 Z19⌝ -∗
          iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg12 fullShare Z12 ∗ owns (c : Thread nD τ) arg13 fullShare Z13 ∗ owns (c : Thread nD τ) arg14 fullShare Z14 ∗ owns (c : Thread nD τ) arg15 fullShare Z15 ∗ owns (c : Thread nD τ) arg16 fullShare Z16 ∗ owns (c : Thread nD τ) arg17 fullShare Z17 ∗ owns (c : Thread nD τ) arg18 fullShare Z18 ∗ owns (c : Thread nD τ) arg19 fullShare Z19) -∗ K ⟨⟩))
    ⊢ wp frame (wpE (defs₀ (F := F)) Variants.none c none) Set.univ (cc1_backbone1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, HK⟩
  iapply ((body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 f17 f18 f19).2 K)
  iframe H1 H2 H3 H4 H5 H6 H12 H13 H14 H15 H16 H17 H18 H19
  iintro ⟨H1, H2, H3, H4, H5, H6, H12, H13, H14, H15, H16, H17, H18, H19⟩
  iapply HK $$ [] [H1 H2 H3 H4 H5 H6 H12 H13 H14 H15 H16 H17 H18 H19]
  · ipureintro
    exact h f1 f2 f3 f4 f5 f6 f12 f13 f14 f15 f16 f17 f18 f19 h1 h2 h3 h4 h5 h6 h12 h13 h14 h15 h16 h17 h18 h19
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H12]
  · iexists _; isplitr
    · ipureintro; rfl
    · iexact H12
  isplitl [H13]
  · iexists _; isplitr
    · ipureintro; rfl
    · iexact H13
  isplitl [H14]
  · iexists _; isplitr
    · ipureintro; rfl
    · iexact H14
  isplitl [H15]
  · iexists _; isplitr
    · ipureintro; rfl
    · iexact H15
  isplitl [H16]
  · iexists _; isplitr
    · ipureintro; rfl
    · iexact H16
  isplitl [H17]
  · iexists _; isplitr
    · ipureintro; rfl
    · iexact H17
  isplitl [H18]
  · iexists _; isplitr
    · ipureintro; rfl
    · iexact H18
  iexists _; isplitr
  · ipureintro; rfl
  · iexact H19

/-- What a proof carries along the grid: an invariant over the scratches before each step, and what each result window holds after it. -/
structure Track (D : Call) (F : FTy → Type) where
  inv : ℕ → (S3x1536x256.Idx → Elt F .bf16) → (S192x256.Idx → Elt F .bf16) → (S64x256.Idx → Elt F .f32) → Prop
  rl : (w : Fin D.cfg.W) → Fin D.cfg.N → ((D.cfg.win w).block.Idx → Elt F (D.cfg.win w).elt) → Prop

/-- The windows held to a predicate: the results'. -/
abbrev held (w : Fin 11) : Bool := match w with
  | ⟨0, _⟩ => false | ⟨1, _⟩ => false | ⟨2, _⟩ => false | ⟨3, _⟩ => false | ⟨4, _⟩ => false | ⟨5, _⟩ => false
  | ⟨_ + 6, _⟩ => true

/-- The assertions of the run. -/
abbrev Asn (F : FTy → Type) : Type := sProp (MT nD τ sig Unit (Elt F) ℕ (Cert.Hand.Chain.UU sig nD τ) ℕ)

section Call

variable (D : Call) (V : Valuation τ sig (Elt F)) (K : Track D F) (Z : Asn F) (c : Dev nD)

/-- The block of window `w` at step `t`, at the contents the call is entered with. -/
def iblk (w : Fin D.cfg.W) (t : Fin D.cfg.N) : ((D.cfg.win w).xblock (D.cfg.grid.coords t)).Idx → Elt F (D.cfg.win w).elt :=
  ((D.cfg.win w).blk t).view.read (Elt F) (V (Proc.devRef .tc (Pipeline.arrRef D.cfg.spec w)))

def inv (n : ℕ) : sProp 𝕄 :=
  iprop((∃ R E T, ⌜K.inv n R E T⌝ ∗ owns (c : Thread nD τ) D.scR fullShare R ∗ owns (c : Thread nD τ) D.scE fullShare E ∗ owns (c : Thread nD τ) D.scT fullShare T)
    ∗ Z ∗ ∃ r, prngReg c r)

def dat : Dat τ (Elt F) Unit ℕ (Cert.Hand.Chain.UU sig nD τ) ℕ D.cfg c where
  A w := V (Proc.devRef .tc (Pipeline.arrRef D.cfg.spec w))
  after w t := match w with
    | ⟨0, _⟩ => iblk D V 0 t
    | ⟨1, _⟩ => iblk D V 1 t
    | ⟨2, _⟩ => iblk D V 2 t
    | ⟨3, _⟩ => iblk D V 3 t
    | ⟨4, _⟩ => iblk D V 4 t
    | ⟨5, _⟩ => iblk D V 5 t
    | ⟨n + 6, h⟩ => Dat.unnamed (cfg := D.cfg) ⟨n + 6, h⟩ t
  Φ t := inv D K Z c t.val
  q _ := fullShare
  owed _ := 0

theorem A_eq (w : Fin D.cfg.W) : (dat D V K Z c).A w = V (Proc.devRef .tc (Pipeline.arrRef D.cfg.spec w)) := by
  dsimp only [dat]

theorem after_0 (t : Fin D.cfg.N) : (dat D V K Z c).after 0 t = iblk D V 0 t := rfl
theorem before_0 (t : Fin D.cfg.N) (d) : (dat D V K Z c).before 0 t d = iblk D V 0 t :=
  ((dat D V K Z c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (t : Fin D.cfg.N) : (dat D V K Z c).after 1 t = iblk D V 1 t := rfl
theorem before_1 (t : Fin D.cfg.N) (d) : (dat D V K Z c).before 1 t d = iblk D V 1 t :=
  ((dat D V K Z c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (t : Fin D.cfg.N) : (dat D V K Z c).after 2 t = iblk D V 2 t := rfl
theorem before_2 (t : Fin D.cfg.N) (d) : (dat D V K Z c).before 2 t d = iblk D V 2 t :=
  ((dat D V K Z c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (t : Fin D.cfg.N) : (dat D V K Z c).after 3 t = iblk D V 3 t := rfl
theorem before_3 (t : Fin D.cfg.N) (d) : (dat D V K Z c).before 3 t d = iblk D V 3 t :=
  ((dat D V K Z c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (t : Fin D.cfg.N) : (dat D V K Z c).after 4 t = iblk D V 4 t := rfl
theorem before_4 (t : Fin D.cfg.N) (d) : (dat D V K Z c).before 4 t d = iblk D V 4 t :=
  ((dat D V K Z c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (t : Fin D.cfg.N) : (dat D V K Z c).after 5 t = iblk D V 5 t := rfl
theorem before_5 (t : Fin D.cfg.N) (d) : (dat D V K Z c).before 5 t d = iblk D V 5 t :=
  ((dat D V K Z c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The proof data with the result windows held to `K.rl`. -/
abbrev rdat := (dat D V K Z c).toRRel held K.rl

/-- The step facts: from the invariant before step `t`, the input windows at their blocks and the result windows at what they may hold, the body leads to the
    invariant before step `t + 1` and each result window at its predicate. -/
def Step : Prop := ∀ (t : Fin D.cfg.N) (Y12 : S1x2x64x236.Idx → Elt F .i8) (Y13 : S1x2x64x236.Idx → Elt F .i8) (Y14 : S1x2x64x236.Idx → Elt F .i8) (Y15 : S1x2x64x236.Idx → Elt F .i8) (Y16 : S1x64x128.Idx → Elt F .f32) (Y17 : S3x1536x256.Idx → Elt F .bf16) (Y18 : S192x256.Idx → Elt F .bf16) (Y19 : S64x256.Idx → Elt F .f32),
  K.inv t.val Y17 Y18 Y19 → (rdat D V K Z c).Finds 6 t Y12 → (rdat D V K Z c).Finds 7 t Y13 → (rdat D V K Z c).Finds 8 t Y14 → (rdat D V K Z c).Finds 9 t Y15 → (rdat D V K Z c).Finds 10 t Y16 →
  Leads c (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT
    (iblk D V 0 t) (iblk D V 1 t) (iblk D V 2 t) (iblk D V 3 t) (iblk D V 4 t) (iblk D V 5 t) Y12 Y13 Y14 Y15 Y16 Y17 Y18 Y19
    fun Z12 Z13 Z14 Z15 Z16 Z17 Z18 Z19 => K.inv (t.val + 1) Z17 Z18 Z19 ∧ K.rl 6 t Z12 ∧ K.rl 7 t Z13 ∧ K.rl 8 t Z14 ∧ K.rl 9 t Z15 ∧ K.rl 10 t Z16

/-- The body at step `t`. -/
abbrev bodyAt (F : FTy → Type) [FloatOps F] (t : Fin D.cfg.N) : Prog (TpuEff nD τ sig (Elt F) Λ₀ .tc) PUnit :=
  cc1_backbone1 (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT

def bodyPre (t : Fin D.cfg.N) : sProp 𝕄 :=
  iprop((dat D V K Z c).Φ t.castSucc ∗ (dat D V K Z c).owesAt () t.castSucc
    ∗ (∃ d, owns (c : Thread nD τ) (D.win0.stage (D.cfg.slots t 0)) fullShare ((dat D V K Z c).before 0 t d)) ∗ (∃ d, owns (c : Thread nD τ) (D.win1.stage (D.cfg.slots t 1)) fullShare ((dat D V K Z c).before 1 t d)) ∗ (∃ d, owns (c : Thread nD τ) (D.win2.stage (D.cfg.slots t 2)) fullShare ((dat D V K Z c).before 2 t d)) ∗ (∃ d, owns (c : Thread nD τ) (D.win3.stage (D.cfg.slots t 3)) fullShare ((dat D V K Z c).before 3 t d)) ∗ (∃ d, owns (c : Thread nD τ) (D.win4.stage (D.cfg.slots t 4)) fullShare ((dat D V K Z c).before 4 t d)) ∗ (∃ d, owns (c : Thread nD τ) (D.win5.stage (D.cfg.slots t 5)) fullShare ((dat D V K Z c).before 5 t d)) ∗ (∃ Y, ⌜(rdat D V K Z c).Finds 6 t Y⌝ ∗ owns (c : Thread nD τ) ((D.wino 0).stage (D.cfg.slots t 6)) fullShare Y) ∗ (∃ Y, ⌜(rdat D V K Z c).Finds 7 t Y⌝ ∗ owns (c : Thread nD τ) ((D.wino 1).stage (D.cfg.slots t 7)) fullShare Y) ∗ (∃ Y, ⌜(rdat D V K Z c).Finds 8 t Y⌝ ∗ owns (c : Thread nD τ) ((D.wino 2).stage (D.cfg.slots t 8)) fullShare Y) ∗ (∃ Y, ⌜(rdat D V K Z c).Finds 9 t Y⌝ ∗ owns (c : Thread nD τ) ((D.wino 3).stage (D.cfg.slots t 9)) fullShare Y) ∗ (∃ Y, ⌜(rdat D V K Z c).Finds 10 t Y⌝ ∗ owns (c : Thread nD τ) (D.win10.stage (D.cfg.slots t 10)) fullShare Y))

def bodyPost (t : Fin D.cfg.N) : sProp 𝕄 :=
  iprop((dat D V K Z c).Φ t.succ ∗ (dat D V K Z c).owesAt () t.succ
    ∗ owns (c : Thread nD τ) (D.win0.stage (D.cfg.slots t 0)) fullShare ((dat D V K Z c).after 0 t) ∗ owns (c : Thread nD τ) (D.win1.stage (D.cfg.slots t 1)) fullShare ((dat D V K Z c).after 1 t) ∗ owns (c : Thread nD τ) (D.win2.stage (D.cfg.slots t 2)) fullShare ((dat D V K Z c).after 2 t) ∗ owns (c : Thread nD τ) (D.win3.stage (D.cfg.slots t 3)) fullShare ((dat D V K Z c).after 3 t) ∗ owns (c : Thread nD τ) (D.win4.stage (D.cfg.slots t 4)) fullShare ((dat D V K Z c).after 4 t) ∗ owns (c : Thread nD τ) (D.win5.stage (D.cfg.slots t 5)) fullShare ((dat D V K Z c).after 5 t) ∗ (∃ X, ⌜K.rl 6 t X⌝ ∗ owns (c : Thread nD τ) ((D.wino 0).stage (D.cfg.slots t 6)) fullShare X) ∗ (∃ X, ⌜K.rl 7 t X⌝ ∗ owns (c : Thread nD τ) ((D.wino 1).stage (D.cfg.slots t 7)) fullShare X) ∗ (∃ X, ⌜K.rl 8 t X⌝ ∗ owns (c : Thread nD τ) ((D.wino 2).stage (D.cfg.slots t 8)) fullShare X) ∗ (∃ X, ⌜K.rl 9 t X⌝ ∗ owns (c : Thread nD τ) ((D.wino 3).stage (D.cfg.slots t 9)) fullShare X) ∗ (∃ X, ⌜K.rl 10 t X⌝ ∗ owns (c : Thread nD τ) (D.win10.stage (D.cfg.slots t 10)) fullShare X))

theorem sound_body (hs : Step D V K Z c) (t : Fin D.cfg.N) :
    bodyPre D V K Z c t ⊢ wp frame (wpE (defs₀ (F := F)) Variants.none c none) Set.univ (bodyAt D F t) (fun _ => bodyPost D V K Z c t) := by
  unfold bodyPre bodyPost bodyAt
  simp only [before_0, before_1, before_2, before_3, before_4, before_5, after_0, after_1, after_2, after_3, after_4, after_5]
  rw [show (dat D V K Z c).Φ t.succ = inv D K Z c (t.val + 1) from rfl, show (dat D V K Z c).Φ t.castSucc = inv D K Z c t.val from rfl,
    show (dat D V K Z c).owesAt () t.succ = (dat D V K Z c).owesAt () t.castSucc from rfl]
  unfold inv
  iintro ⟨⟨⟨%R, %E, %T, %hI, HR, HE, HT⟩, HZ, HP⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩, ⟨%Y10, %hY10, H10⟩⟩
  iapply (body_owns c (grid1.coords t) (D.win0.stage (D.cfg.slots t 0)) (D.hstg0 ((D.cfg.slots t 0).cast nbuf1_0)) (D.win1.stage (D.cfg.slots t 1)) (D.hstg1 ((D.cfg.slots t 1).cast nbuf1_1)) (D.win2.stage (D.cfg.slots t 2)) (D.hstg2 ((D.cfg.slots t 2).cast nbuf1_2)) (D.win3.stage (D.cfg.slots t 3)) (D.hstg3 ((D.cfg.slots t 3).cast nbuf1_3)) (D.win4.stage (D.cfg.slots t 4)) (D.hstg4 ((D.cfg.slots t 4).cast nbuf1_4)) (D.win5.stage (D.cfg.slots t 5)) (D.hstg5 ((D.cfg.slots t 5).cast nbuf1_5)) (D.out 0) (D.hout 0) (D.out 1) (D.hout 1) (D.out 2) (D.hout 2) (D.out 3) (D.hout 3) D.mx D.hmx ((D.wino 0).stage (D.cfg.slots t 6)) (D.hstgo 0 ((D.cfg.slots t 6).cast nbuf1_6)) ((D.wino 1).stage (D.cfg.slots t 7)) (D.hstgo 1 ((D.cfg.slots t 7).cast nbuf1_7)) ((D.wino 2).stage (D.cfg.slots t 8)) (D.hstgo 2 ((D.cfg.slots t 8).cast nbuf1_8)) ((D.wino 3).stage (D.cfg.slots t 9)) (D.hstgo 3 ((D.cfg.slots t 9).cast nbuf1_9)) (D.win10.stage (D.cfg.slots t 10)) (D.hstg10 ((D.cfg.slots t 10).cast nbuf1_10)) D.scR D.hscR D.scE D.hscE D.scT D.hscT
    (iblk D V 0 t) (iblk D V 1 t) (iblk D V 2 t) (iblk D V 3 t) (iblk D V 4 t) (iblk D V 5 t) Y6 Y7 Y8 Y9 Y10 R E T _ (hs t _ _ _ _ _ _ _ _ hI hY6 hY7 hY8 hY9 hY10))
  iframe H0 H1 H2 H3 H4 H5 H6 H7 H8 H9 H10 HR HE HT
  iintro %Z12 %Z13 %Z14 %Z15 %Z16 %Z17 %Z18 %Z19 %hQ ⟨H0, H1, H2, H3, H4, H5, H6, H7, H8, H9, H10, HR, HE, HT⟩
  obtain ⟨hQ, q6, q7, q8, q9, q10⟩ := hQ
  isplitl [HR HE HT HZ HP]
  · isplitr [HZ HP]
    · iexists Z17; iexists Z18; iexists Z19
      iframe HR HE HT
      ipureintro; exact hQ
    isplitl [HZ]
    · iexact HZ
    iexact HP
  iframe Ho H0 H1 H2 H3 H4 H5
  isplitl [H6]
  · iexists Z12; isplitr
    · ipureintro; exact q6
    · iexact H6
  isplitl [H7]
  · iexists Z13; isplitr
    · ipureintro; exact q7
    · iexact H7
  isplitl [H8]
  · iexists Z14; isplitr
    · ipureintro; exact q8
    · iexact H8
  isplitl [H9]
  · iexists Z15; isplitr
    · ipureintro; exact q9
    · iexact H9
  iexists Z16; isplitr
  · ipureintro; exact q10
  · iexact H10

theorem body_obligation (hrow : ∀ t, defs₀ (F := F) .tc D.cfg.body (D.cfg.bodyArgs t (D.cfg.slots t)) = bodyAt D F t) (hs : Step D V K Z c) :
    BodyObligationRel (dat D V K Z c) (defs₀ (F := F)) Variants.none () Set.univ held K.rl := fun t => by
  rw [bigSep_W1, bigSep_W1, hrow]
  exact triple_restated (sound_body D V K Z c hs t) rfl .rfl fun _ => .rfl

variable (hZ : (Pipeline.scopedRest D.cfg.spec c : Asn F) = iprop(iprop((∃ R, owns (c : Thread nD τ) D.scR fullShare R) ∗ (∃ E, owns (c : Thread nD τ) D.scE fullShare E) ∗ (∃ T, owns (c : Thread nD τ) D.scT fullShare T)) ∗ Z))

include hZ in
theorem inv_in (h0 : ∀ R E T, K.inv 0 R E T) : iprop(Pipeline.scopedRest D.cfg.spec c ∗ ∃ r, prngReg c r) ⊢ inv D K Z c 0 := by
  unfold inv
  rw [hZ]
  iintro ⟨⟨⟨⟨%R, HR⟩, ⟨%E, HE⟩, ⟨%T, HT⟩⟩, HZ⟩, HP⟩
  isplitl [HR HE HT]
  · iexists R; iexists E; iexists T
    iframe HR HE HT
    ipureintro; exact h0 R E T
  isplitl [HZ]
  · iexact HZ
  iexact HP

include hZ in
theorem inv_out (n : ℕ) : inv D K Z c n ⊢ iprop(Pipeline.scopedRest D.cfg.spec c ∗ ∃ r, prngReg c r) := by
  unfold inv
  rw [hZ]
  iintro ⟨⟨%R, %E, %T, %hI, HR, HE, HT⟩, HZ, HP⟩
  isplitr [HP]
  · isplitl [HR HE HT]
    · isplitl [HR]; · iexists R; iexact HR
      isplitl [HE]; · iexists E; iexact HE
      iexists T; iexact HT
    iexact HZ
  · iexact HP

end Call

/-- The calls, in order. -/
abbrev calls : Fin 5 → Call := fun | 0 => call0 | 1 => call1 | 2 => call2 | 3 => call3 | 4 => call4

/-- What is scoped and not a call's own. -/
def others (F : FTy → Type) (c : Dev nD) : Fin 5 → sProp (MT nD τ sig Unit (Elt F) ℕ (Cert.Hand.Chain.UU sig nD τ) ℕ) := fun
  | 0 => Pipeline.scopedRestBut spec0 c [cc0_scratch0, cc0_scratch1, cc0_scratch2]
  | 1 => Pipeline.scopedRestBut spec1 c [cc1_scratch0, cc1_scratch1, cc1_scratch2]
  | 2 => Pipeline.scopedRestBut spec2 c [cc2_scratch0, cc2_scratch1, cc2_scratch2]
  | 3 => Pipeline.scopedRestBut spec3 c [cc3_scratch0, cc3_scratch1, cc3_scratch2]
  | 4 => Pipeline.scopedRestBut spec4 c [cc4_scratch0, cc4_scratch1, cc4_scratch2]

theorem scoped_split (c : Dev nD) : ∀ k : Fin 5, (Pipeline.scopedRest (calls k).cfg.spec c : sProp 𝕄)
    = iprop(iprop((∃ R, owns (c : Thread nD τ) (calls k).scR fullShare R) ∗ (∃ E, owns (c : Thread nD τ) (calls k).scE fullShare E) ∗ (∃ T, owns (c : Thread nD τ) (calls k).scT fullShare T)) ∗ others F c k) := by
  intro k
  match k with
  | 0 => simp only [owns_whole]; exact scopedRest0_split c
  | 1 => simp only [owns_whole]; exact scopedRest1_split c
  | 2 => simp only [owns_whole]; exact scopedRest2_split c
  | 3 => simp only [owns_whole]; exact scopedRest3_split c
  | 4 => simp only [owns_whole]; exact scopedRest4_split c

theorem row : ∀ (k : Fin 5) t, defs₀ (F := F) .tc (calls k).cfg.body ((calls k).cfg.bodyArgs t ((calls k).cfg.slots t)) = bodyAt (calls k) F t := by
  intro k t
  match k with
  | 0 | 1 | 2 | 3 | 4 => unfold defs₀; rw [Defs.onTc_tc]; rfl

end Cert.KernelIdeal.Hand

end
-- ==== Proof.Hand.KernelIdeal.Calls.lean ====
/-
  Hand-written, untrusted. The run of the whole program: the host operations and the five calls in turn, from the launch contents, with a predicate on the
  buffers carried from call to call (`run`); and the arguments kept by all of them (`frame`).
-/
module

public import proofs.«01_k».proof.Proof.Hand.KernelIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf BodyObligationRel)

variable {F : FTy → Type} [FloatOps F]

local notation "𝕄" => MT nD τ sig Unit (Elt F) ℕ (Cert.Hand.Chain.UU sig nD τ) ℕ

/-- The host operations after each call. -/
abbrev hostAfter : Fin 5 → Valuation τ sig (Elt F) → Valuation τ sig (Elt F) := fun
  | 0 => StableHlo.after hostOps1 | 1 => StableHlo.after hostOps2 | 2 => StableHlo.after hostOps3 | 3 => StableHlo.after hostOps4 | 4 => id

variable (m : (ℓ : Loc nD τ sig) → Buf (Elt F) ℓ) (ρ : Dev nD → PrngReg) (K : (k : Fin 5) → Dev nD → Track (calls k) F)

/-- The proof data of call `k`, entered at the contents `V`. -/
abbrev rd (k : Fin 5) (V : Valuation τ sig (Elt F)) (c : Dev nD) : RDat τ (Elt F) Unit ℕ (Cert.Hand.Chain.UU sig nD τ) ℕ (calls k).cfg c :=
  rdat (calls k) V (K k c) (others F c k) c

theorem fit (k : Fin 5) (V : Valuation τ sig (Elt F)) (c : Dev nD) (h0 : ∀ R E T, (K k c).inv 0 R E T) (hs : Step (calls k) V (K k c) (others F c k) c) :
    Cert.Hand.Chain.Fit (defs₀ (F := F)) Variants.none (rd K k V c) V where
  hbody := (body_obligation (calls k) V (K k c) (others F c k) c (row k) hs).toRRel
  howed _ := rfl
  hrec := rfl
  hshare := (dat (calls k) V (K k c) (others F c k) c).share_full fun _ => rfl
  hA := A_eq (calls k) V (K k c) (others F c k) c
  hin := inv_in (calls k) (K k c) (others F c k) c (scoped_split c k) h0
  hout := inv_out (calls k) (K k c) (others F c k) c (scoped_split c k) _

/-- The contents after a call, from contents that meet `q`. -/
abbrev Left (k : Fin 5) (q : Dev nD → Valuation τ sig (Elt F) → Prop) (c : Dev nD) (V' : Valuation τ sig (Elt F)) : Prop :=
  ∃ V, q c V ∧ Cert.Hand.Chain.After (rd K k V c) V V'

variable (Q : Fin 6 → Dev nD → Valuation τ sig (Elt F) → Prop)
  (h0 : ∀ c, Q 0 c (StableHlo.after hostOps0 (StableHlo.launchContents m c)))
  (hinv : ∀ k c R E T, (K k c).inv 0 R E T)
  (hs : ∀ (k : Fin 5) c V, Q k.castSucc c V → Step (calls k) V (K k c) (others F c k) c)
  (hQ : ∀ (k : Fin 5) c V V', Q k.castSucc c V → Cert.Hand.Chain.After (rd K k V c) V V' → Q k.succ c (hostAfter k V'))

/-- No call waits for another core. -/
abbrev lv0 : GSem nD τ sig → Unit → ℕ := fun _ _ => 0
abbrev L0 : GSem nD τ sig → Finset Unit := fun _ => ∅

/-- The calls still to come. -/
abbrev todo : Fin 6 → Finset (Fin 5) := fun
  | 0 => Finset.univ | 1 => Finset.univ.erase 0 | 2 => (Finset.univ.erase 0).erase 1 | 3 => ((Finset.univ.erase 0).erase 1).erase 2
  | 4 => (((Finset.univ.erase 0).erase 1).erase 2).erase 3 | 5 => ((((Finset.univ.erase 0).erase 1).erase 2).erase 3).erase 4

/-- The ghost state of the calls still to come. -/
abbrev gh (S : Finset (Fin 5)) (c : Dev nD) : Asn F := Pipeline.ghostOn (pcfgs (F := F)) adm embR S c

def seg0 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 0 launch0.toP rfl (todo 0) (by decide) (Q 0) (rd K 0)
    (fun c V hV => fit K 0 V c (hinv 0 c) (hs 0 c V hV))

def seg1 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 1 launch1.toP rfl (todo 1) (by decide) (Q 1) (rd K 1)
    (fun c V hV => fit K 1 V c (hinv 1 c) (hs 1 c V hV))

def seg2 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 2 launch2.toP rfl (todo 2) (by decide) (Q 2) (rd K 2)
    (fun c V hV => fit K 2 V c (hinv 2 c) (hs 2 c V hV))

def seg3 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 3 launch3.toP rfl (todo 3) (by decide) (Q 3) (rd K 3)
    (fun c V hV => fit K 3 V c (hinv 3 c) (hs 3 c V hV))

def seg4 : Pipeline.HostSeg (Name := ℕ) (U := Cert.Hand.Chain.UU sig nD τ) (pcfgs (F := F)) defs₀ Variants.none L0 lv0 :=
  Cert.Hand.Chain.region (pcfgs (F := F)) adm defs₀ Variants.none L0 lv0 cellOf_inj 4 launch4.toP rfl (todo 4) (by decide) (Q 4) (rd K 4)
    (fun c V hV => fit K 4 V c (hinv 4 c) (hs 4 c V hV))

def ops0 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps0 (fun op h => Pipeline.sub_ucRefs op ((List.forall_iff_forall_mem.mp hostOps0_sub) op h))
    (fun op h => (List.forall_iff_forall_mem.mp hostOps0_fresh) op h) (fun c V => V = StableHlo.launchContents m c) (gh (todo 0))

def ops1 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps1 (fun op h => Pipeline.sub_ucRefs op ((List.forall_iff_forall_mem.mp hostOps1_sub) op h))
    (fun op h => (List.forall_iff_forall_mem.mp hostOps1_fresh) op h) (Left K 0 (Q 0)) (gh (todo 1))

def ops2 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps2 (fun op h => Pipeline.sub_ucRefs op ((List.forall_iff_forall_mem.mp hostOps2_sub) op h))
    (fun op h => (List.forall_iff_forall_mem.mp hostOps2_fresh) op h) (Left K 1 (Q 1)) (gh (todo 2))

def ops3 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps3 (fun op h => Pipeline.sub_ucRefs op ((List.forall_iff_forall_mem.mp hostOps3_sub) op h))
    (fun op h => (List.forall_iff_forall_mem.mp hostOps3_fresh) op h) (Left K 2 (Q 2)) (gh (todo 3))

def ops4 : Pipeline.HostSeg (Name := ℕ) (U := Cert.Hand.Chain.UU sig nD τ) (pcfgs (F := F)) defs₀ Variants.none L0 lv0 :=
  Cert.Hand.Chain.host (pcfgs (F := F)) defs₀ Variants.none L0 lv0 hostOps4 (fun op h => Pipeline.sub_ucRefs op ((List.forall_iff_forall_mem.mp hostOps4_sub) op h))
    (fun op h => (List.forall_iff_forall_mem.mp hostOps4_fresh) op h) (Left K 3 (Q 3)) (gh (todo 4))

include h0 hinv hs hQ in
set_option backward.isDefEq.respectTransparency.types false in
/-- THE LAUNCH: every execution of @main ends with the buffers at contents that meet the last predicate, every counter at zero. -/
theorem run : θ_run defs (onTc (τ := τ) (main (F := F))) ⟨m, fun _ => 0, ρ⟩ (fun r =>
    (∀ c : Dev nD, ∃ V, Q 5 c V ∧ ∀ b ∈ Pipeline.ucRefs τ sig, r.2.mem (c, b) = V b) ∧ r.2.sem = fun _ => 0) := by
  refine Cert.Hand.Chain.launch (pcfgs (F := F)) adm defs₀ Variants.none L0 lv0 cellOf_inj (fun p c => match p with | 0 => rd K 0 (StableHlo.launchContents m c) c | 1 => rd K 1 (StableHlo.launchContents m c) c | 2 => rd K 2 (StableHlo.launchContents m c) c | 3 => rd K 3 (StableHlo.launchContents m c) c | 4 => rd K 4 (StableHlo.launchContents m c) c) m ρ main
    [.host (ops0 m), .host (seg0 K Q hinv hs), .host (ops1 K Q), .host (seg1 K Q hinv hs), .host (ops2 K Q), .host (seg2 K Q hinv hs), .host (ops3 K Q), .host (seg3 K Q hinv hs), .host (ops4 K Q), .host (seg4 K Q hinv hs)]
    (fun c P => by
      rewrite [main_chain c, Pipeline.RDat.Seg.run_eq_chain]
      dsimp (config := { failIfUnchanged := false }) only
      exact .rfl)
    (by simp only [Pipeline.RDat.Seg.pipes_host, Pipeline.RDat.Seg.pipes_nil]; decide) (fun _ _ => rfl) (Q 5)
    (fun c => ⟨.rfl, Cert.Hand.Chain.stg_mono _ _ _ c fun V' ⟨V, hV, e⟩ => e ▸ hV ▸ h0 c, .rfl, Cert.Hand.Chain.stg_mono _ _ _ c fun V' ⟨V, hV, e⟩ => e ▸ (let ⟨V₀, hq, ha⟩ := hV; hQ 0 c V₀ V hq ha), .rfl, Cert.Hand.Chain.stg_mono _ _ _ c fun V' ⟨V, hV, e⟩ => e ▸ (let ⟨V₀, hq, ha⟩ := hV; hQ 1 c V₀ V hq ha), .rfl, Cert.Hand.Chain.stg_mono _ _ _ c fun V' ⟨V, hV, e⟩ => e ▸ (let ⟨V₀, hq, ha⟩ := hV; hQ 2 c V₀ V hq ha), .rfl, Cert.Hand.Chain.stg_mono _ _ _ c fun V' ⟨V, hV, e⟩ => e ▸ (let ⟨V₀, hq, ha⟩ := hV; hQ 3 c V₀ V hq ha), ?_⟩) regions_no_unscoped
  refine (Cert.Hand.Chain.stg_mono _ _ _ c (q' := Q 5) fun V' ⟨V, hV, ha⟩ => hQ 4 c V V' hV ha).trans (Cert.Hand.Chain.stg_end _ _ _ _ c)

/-- The arguments' buffers. -/
abbrev argRefs : List (Ref sig .tc) := [main_arg0, main_arg1, main_arg2, main_arg3, main_arg4, main_arg5, main_arg6, main_arg7, main_arg8, main_arg9]

/-- The buffers no call and no later host operation writes: the arguments and the arrays the first host operations prepare. -/
abbrev keptRefs : List (Ref sig .tc) := argRefs ++ [main_v13, main_v15, main_v22, main_v24]

theorem args_in : ∀ (k : Fin 5) (w : Fin 11), Pipeline.arrRef (calls k).spec w ∈ keptRefs → ((calls k).cfg.win w).isOut = false := by decide +kernel

/-- A call keeps the buffers that are no result of it. -/
theorem kept (k : Fin 5) (c : Dev nD) {V V' : Valuation τ sig (Elt F)} (h : Cert.Hand.Chain.After (rd K k V c) V V') (b : Ref sig .tc)
    (hb : ∀ w, Pipeline.arrRef (calls k).spec w = b → ((calls k).cfg.win w).isOut = false) : V' (Proc.devRef .tc b) = V (Proc.devRef .tc b) := by
  by_cases hw : ∃ w, Pipeline.arrRef (calls k).spec w = b
  · obtain ⟨w, rfl⟩ := hw
    have e := (rd K k V c).ArrAt_in w (hb w rfl)
    exact (congrFun (e _) _ ▸ h.1 w : V' (Proc.devRef .tc (Pipeline.arrRef (calls k).cfg.spec w)) = _).trans (A_eq (calls k) V (K k c) (others F c k) c w)
  · refine h.2 _ fun hm => hw ?_
    unfold Pipeline.arrRefs at hm
    obtain ⟨r, hr, e⟩ := Finset.mem_map.mp hm
    obtain ⟨w, -, rfl⟩ := Finset.mem_image.mp hr
    exact ⟨w, Proc.devRef_injective _ e⟩

/-- The kept buffers as the first host operations leave them. -/
def Same (c : Dev nD) (V : Valuation τ sig (Elt F)) : Prop := ∀ b ∈ keptRefs, V (Proc.devRef .tc b) = V1 m c (Proc.devRef .tc b)

theorem same_host (c : Dev nD) (k : Fin 5) {V : Valuation τ sig (Elt F)} (h : Same m c V) : Same m c (hostAfter k V) := by
  intro b hb
  refine Eq.trans ?_ (h b hb)
  match k with
  | 0 => exact StableHlo.after_of_writes_sub hostOps1 _ hostOps1_writes ((by decide : ∀ b ∈ keptRefs, b ∉ hostOps1_W) b hb)
  | 1 => exact StableHlo.after_of_writes_sub hostOps2 _ hostOps2_writes ((by decide : ∀ b ∈ keptRefs, b ∉ hostOps2_W) b hb)
  | 2 => exact StableHlo.after_of_writes_sub hostOps3 _ hostOps3_writes ((by decide : ∀ b ∈ keptRefs, b ∉ hostOps3_W) b hb)
  | 3 => exact StableHlo.after_of_writes_sub hostOps4 _ hostOps4_writes ((by decide : ∀ b ∈ keptRefs, b ∉ hostOps4_W) b hb)
  | 4 => rfl

theorem same_launch (c : Dev nD) : Same m c (StableHlo.after hostOps0 (StableHlo.launchContents m c)) := fun _ _ => rfl

theorem same_call (k : Fin 5) (c : Dev nD) {V V' : Valuation τ sig (Elt F)} (h : Same m c V) (ha : Cert.Hand.Chain.After (rd K k V c) V V') : Same m c V' :=
  fun b hb => (kept K k c ha b fun w e => args_in k w (e ▸ hb)).trans (h b hb)

theorem args_uc : ∀ b ∈ argRefs, (Proc.devRef .tc b : DevRef τ sig) ∈ Pipeline.ucRefs τ sig := by decide

/-- The arguments at the end. -/
theorem args_of (r : PUnit × MemSt nD τ sig (Elt F)) (c : Dev nD) (V : Valuation τ sig (Elt F)) (h : Same m c V) (hr : ∀ b ∈ Pipeline.ucRefs τ sig, r.2.mem (c, b) = V b) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  have e : ∀ b ∈ argRefs, r.2.mem (c, Proc.devRef .tc b) = m (c, Proc.devRef .tc b) := fun b hb =>
    (hr _ (args_uc b hb)).trans ((h b (List.mem_append_left _ hb)).trans (V1_of m c b ((by decide : ∀ b ∈ argRefs, b ∉ hostOps0_W) b hb)))
  exact ⟨e main_arg0 (by decide), e main_arg1 (by decide), e main_arg2 (by decide), e main_arg3 (by decide), e main_arg4 (by decide), e main_arg5 (by decide), e main_arg6 (by decide), e main_arg7 (by decide), e main_arg8 (by decide), e main_arg9 (by decide)⟩

/-- Nothing tracked. -/
def trivialTrack (k : Fin 5) : Track (calls k) F := ⟨fun _ _ _ _ => True, fun _ _ _ => True⟩

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0) :=
  (θ_run defs _ _).mono (fun r h => ⟨fun c => let ⟨V, hV, hr⟩ := h.1 c; args_of m r c V hV hr, h.2⟩)
    (run m ρ (fun k _ => trivialTrack k) (fun _ => Same m) (same_launch m) (fun _ _ _ _ _ => trivial)
      (fun _ _ _ _ _ _ _ _ _ _ _ _ _ _ _ _ _ _ _ => by unfold Leads; intros; exact ⟨trivial, trivial, trivial, trivial, trivial, trivial⟩)
      fun k c V V' h ha => same_host m c k (same_call m _ k c h ha))

end Cert.KernelIdeal.Hand

end
-- ==== Proof.Hand.Frames.lean ====
/- The frames of the three programs and what the ideal pass rewrote (hand-written, untrusted). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Hand.Kernel.Calls
public import proofs.«01_k».proof.Proof.Hand.KernelIdeal.Calls
public import Idealize.ShloMosaic.Lib.Bf16PairInverse
public import Idealize.ShloMosaic.Lib.Quiescent

@[expose] public section

noncomputable section

namespace Cert.Proof

open Idealize.ShloMosaic Idealize.SL.Sem

theorem frame_kernel : Cert.quiescent_Kernel := fun m ρ _ => Cert.Kernel.Hand.frame m ρ
theorem frame_kernelIdeal : Cert.quiescent_KernelIdeal := fun m ρ _ => Cert.KernelIdeal.Hand.frame m ρ

theorem frame_referenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem preserves : Cert.preserves_Kernel_KernelIdeal := IdealRules.bf16_pair.statement _ _

end Cert.Proof

end
-- ==== Proof.Hand.Model.lean ====
/-
  Hand-written, untrusted. The backbone of one batch element as formulas over natural-number coordinates, and the facts about them that both the
  kernel and the reference are compared through.
-/
module

public import Idealize.ShloMosaic.PureOps.Ideal
public import Idealize.ShloMosaic.Lib.Pointwise
public import Mathlib.Algebra.BigOperators.Intervals

@[expose] public section

noncomputable section

namespace Cert.Hand

open Idealize.ShloMosaic

section Read
variable {α : Type} (d : α)

/-- Arrays read at natural-number coordinates: `d` outside. -/
def rd1 {n : ℕ} (A : (⟨1, ![n]⟩ : Shape).Idx → α) (i : ℕ) : α := if h : i < n then A (ix1 ⟨i, h⟩) else d
def rd2 {n p : ℕ} (A : (⟨2, ![n, p]⟩ : Shape).Idx → α) (i j : ℕ) : α := if h : i < n ∧ j < p then A (ix2 ⟨i, h.1⟩ ⟨j, h.2⟩) else d
def rd3 {n p q : ℕ} (A : (⟨3, ![n, p, q]⟩ : Shape).Idx → α) (i j k : ℕ) : α :=
  if h : i < n ∧ j < p ∧ k < q then A (ix3 ⟨i, h.1⟩ ⟨j, h.2.1⟩ ⟨k, h.2.2⟩) else d
def rd5 {n p q r s : ℕ} (A : (⟨5, ![n, p, q, r, s]⟩ : Shape).Idx → α) (i j k l o : ℕ) : α :=
  if h : i < n ∧ j < p ∧ k < q ∧ l < r ∧ o < s then A (ix5 ⟨i, h.1⟩ ⟨j, h.2.1⟩ ⟨k, h.2.2.1⟩ ⟨l, h.2.2.2.1⟩ ⟨o, h.2.2.2.2⟩) else d

theorem rd1_eq {n : ℕ} (A : (⟨1, ![n]⟩ : Shape).Idx → α) (i : Fin n) : A (ix1 i) = rd1 d A i := by simp [rd1]
theorem rd2_eq {n p : ℕ} (A : (⟨2, ![n, p]⟩ : Shape).Idx → α) (i : Fin n) (j : Fin p) : A (ix2 i j) = rd2 d A i j := by simp [rd2]
theorem rd3_eq {n p q : ℕ} (A : (⟨3, ![n, p, q]⟩ : Shape).Idx → α) (i : Fin n) (j : Fin p) (k : Fin q) :
    A (ix3 i j k) = rd3 d A i j k := by simp [rd3]
theorem rd5_eq {n p q r s : ℕ} (A : (⟨5, ![n, p, q, r, s]⟩ : Shape).Idx → α) (i : Fin n) (j : Fin p) (k : Fin q) (l : Fin r) (o : Fin s) :
    A (ix5 i j k l o) = rd5 d A i j k l o := by simp [rd5]

end Read

/-- The inputs of the backbone of one batch element. -/
structure Par where
  can : ℕ → ℕ → ℕ → BitVec 32
  w : ℕ → ℕ → ℕ → ℕ → ℕ → BitVec 8
  ws : ℕ → ℕ → EReal
  bs : ℕ → ℕ → EReal
  pf : ℕ → EReal
  act : ℕ → EReal

/-- Byte `j` of a word, as a signed eight-bit integer. -/
def byte (j : ℕ) (w : BitVec 32) : BitVec 8 := w.extractLsb' (8 * j) 8

/-- The quantiser. -/
def qm (v a : EReal) : BitVec 8 :=
  Ideal.fptosi 8 (min (Ideal.ofBits .f32 1123942400#32) (max (Ideal.ofBits .f32 3271426048#32) (Ideal.liftRound Ideal.roundHalfEven (Ideal.div v a))))

/-- A signed integer as a real. -/
def sr {n : ℕ} (x : BitVec n) : EReal := FloatOps.sitofp (F := Ideal) .bf16 x

namespace Par
variable (P : Par)

/-- The padded canvas codes at row `yy`, column `xx`, channel `ci`. -/
def X0 (yy xx ci : ℕ) : EReal :=
  if 1 ≤ yy ∧ yy ≤ 472 ∧ 1 ≤ xx ∧ xx ≤ 468 then
    sr (byte (ci % 4) (P.can ((xx - 1) * 8 + (yy - 1) % 2 * 4 + ci / 32 * 2 + (yy - 1) / 256) (ci / 4 % 8) ((yy - 1) / 2 % 128)))
  else 0

/-- The combined scale of layer `l`. -/
def sc (l co : ℕ) : EReal := (if l = 0 then P.pf 0 else P.act (l - 1)) * P.ws l co

/-- A 3 x 3 convolution over padded codes. -/
def taps (X : ℕ → ℕ → ℕ → EReal) (l s y x co : ℕ) : EReal :=
  ∑ n ∈ Finset.range 576, X (s * y + n / 192) (s * x + n / 64 % 3) (n % 64) * sr (P.w l (n / 192) (n / 64 % 3) (n % 64) co)

/-- The layer's output before quantising. -/
def lay (X : ℕ → ℕ → ℕ → EReal) (l s y x co : ℕ) : EReal := max (P.taps X l s y x co * P.sc l co + P.bs l co) 0

/-- The padded codes that layer `l` reads. -/
def X : ℕ → ℕ → ℕ → ℕ → EReal
  | 0 => P.X0
  | l + 1 => fun yy xx ci =>
    if 1 ≤ yy ∧ yy ≤ 236 ∧ 1 ≤ xx ∧ xx ≤ 234 then
      sr (qm (P.lay (X l) l (if l = 0 then 2 else 1) (yy - 1) (xx - 1) ci) (P.act l))
    else 0

/-- Layer `l`'s output before quantising. -/
def y (l y x co : ℕ) : EReal := P.lay (P.X l) l (if l = 0 then 2 else 1) y x co

/-- Layer `l`'s codes. -/
def q (l y x co : ℕ) : BitVec 8 := qm (P.y l y x co) (P.act l)

theorem X_succ (l yy xx ci : ℕ) : P.X (l + 1) yy xx ci = if 1 ≤ yy ∧ yy ≤ 236 ∧ 1 ≤ xx ∧ xx ≤ 234 then sr (P.q l (yy - 1) (xx - 1) ci) else 0 := rfl

theorem y_nonneg (l y x co : ℕ) : 0 ≤ P.y l y x co := le_max_right _ _

end Par

/-- The kernel's contraction, over `I` columns of three row taps, with the weights of one output column placed at column `s`, is the convolution's sum. -/
theorem kernel_sum (I s : ℕ) (h : s + 3 ≤ I) (W X : ℕ → ℕ → ℕ → EReal) :
    ∑ n ∈ Finset.range (I * 192), (if s ≤ n / 192 ∧ n / 192 < s + 3 then W (n / 64 % 3) (n / 192 - s) (n % 64) else 0) * X (n / 64 % 3) (n / 192) (n % 64)
      = ∑ n ∈ Finset.range 576, X (n / 192) (s + n / 64 % 3) (n % 64) * W (n / 192) (n / 64 % 3) (n % 64) := by
  symm
  refine Finset.sum_of_injOn (fun n => (s + n / 64 % 3) * 192 + n / 192 * 64 + n % 64) ?_ ?_ ?_ ?_
  · intro a ha b hb e
    simp only [Finset.coe_range, Set.mem_Iio] at ha hb
    simp only at e
    have e1 : a % 64 = b % 64 := by omega
    have e2 : (s + a / 64 % 3) * 3 + a / 192 = (s + b / 64 % 3) * 3 + b / 192 := by omega
    have e3 : a / 192 = b / 192 := by omega
    have e4 : a / 64 % 3 = b / 64 % 3 := by omega
    omega
  · intro a ha
    simp only [Finset.coe_range, Set.mem_Iio] at ha ⊢
    have := Nat.mul_le_mul_right 192 h
    omega
  · intro n hn hn'
    rw [if_neg, zero_mul]
    rintro ⟨h1, h2⟩
    refine hn' ⟨n / 64 % 3 * 192 + (n / 192 - s) * 64 + n % 64, ?_, ?_⟩
    · simp only [Finset.coe_range, Set.mem_Iio]; omega
    · simp only; omega
  · intro n hn
    simp only [Finset.mem_range] at hn
    have e1 : ((s + n / 64 % 3) * 192 + n / 192 * 64 + n % 64) / 192 = s + n / 64 % 3 := by omega
    have e2 : ((s + n / 64 % 3) * 192 + n / 192 * 64 + n % 64) / 64 % 3 = n / 192 := by omega
    have e3 : ((s + n / 64 % 3) * 192 + n / 192 * 64 + n % 64) % 64 = n % 64 := by omega
    rw [e1, e2, e3, if_pos ⟨by omega, by omega⟩, mul_comm, Nat.add_sub_cancel_left]

/-- A sum over `Fin n` of a function of natural numbers. -/
theorem sum_fin_eq {n : ℕ} (f : Fin n → EReal) (g : ℕ → EReal) (h : ∀ x : Fin n, f x = g x) : ∑ x, f x = ∑ x ∈ Finset.range n, g x := by
  rw [Finset.sum_range]; exact Finset.sum_congr rfl fun x _ => h x

theorem zero_sr {n : ℕ} : sr (0#n) = 0 := by
  simp [sr, FloatOps.sitofp]

/-- Converting a clipped value to 32 bits and cutting to eight is converting it to eight. -/
theorem trunc_fptosi (v : EReal) :
    (FloatOps.fptosi (F := Ideal) (φ := .f32) 32 (min (Ideal.ofBits .f32 1123942400#32) (max (Ideal.ofBits .f32 3271426048#32) v))).setWidth 8
      = Ideal.fptosi 8 (min (Ideal.ofBits .f32 1123942400#32) (max (Ideal.ofBits .f32 3271426048#32) v)) := by
  have e1 : Ideal.ofBits .f32 1123942400#32 = ((127 : ℝ) : EReal) := by
    simp [Ideal.ofBits, Ideal.ieee, -EReal.coe_mul, -EReal.coe_neg]; norm_num
  have e2 : Ideal.ofBits .f32 3271426048#32 = ((-127 : ℝ) : EReal) := by
    simp [Ideal.ofBits, Ideal.ieee, -EReal.coe_mul, -EReal.coe_neg]; norm_num
  rw [e1, e2]
  have hr : ∃ r : ℝ, min ((127 : ℝ) : EReal) (max ((-127 : ℝ) : EReal) v) = (r : EReal) ∧ -127 ≤ r ∧ r ≤ 127 := by
    induction v with
    | bot => exact ⟨-127, by rw [max_eq_left bot_le, min_eq_right (by exact_mod_cast (by norm_num : (-127:ℝ) ≤ 127))], by norm_num, by norm_num⟩
    | top => exact ⟨127, by rw [max_eq_right le_top, min_eq_left le_top], by norm_num, by norm_num⟩
    | coe r => exact ⟨min 127 (max (-127) r), by push_cast; rfl, le_min (by norm_num) (le_max_left _ _), min_le_left _ _⟩
  obtain ⟨r, e, h1, h2⟩ := hr
  rw [e]
  show (Ideal.fptosi 32 r).setWidth 8 = Ideal.fptosi 8 r
  simp only [Ideal.fptosi, Ideal.toIntClamped_coe]
  have hz : ∃ z : ℤ, (if 0 ≤ r then ⌊r⌋ else ⌈r⌉) = z ∧ -127 ≤ z ∧ z ≤ 127 := by
    refine ⟨_, rfl, ?_, ?_⟩ <;> split
    · exact Int.le_floor.mpr (by push_cast; linarith)
    · have : (-127 : ℝ) ≤ (⌈r⌉ : ℤ) := le_trans h1 (Int.le_ceil r)
      exact_mod_cast this
    · have : ((⌊r⌋ : ℤ) : ℝ) ≤ 127 := le_trans (Int.floor_le r) h2
      exact_mod_cast this
    · exact Int.ceil_le.mpr (by push_cast; linarith)
  obtain ⟨z, ez, h3, h4⟩ := hz
  rw [ez]
  have a1 : max (-(2 ^ (32 - 1) : ℕ) : ℤ) (min ((2 ^ (32 - 1) : ℕ) - 1) z) = z := by
    rw [min_eq_right (by norm_num; omega), max_eq_right (by norm_num; omega)]
  have a2 : max (-(2 ^ (8 - 1) : ℕ) : ℤ) (min ((2 ^ (8 - 1) : ℕ) - 1) z) = z := by
    rw [min_eq_right (by norm_num; omega), max_eq_right (by norm_num; omega)]
  rw [a1, a2]
  clear a1 a2 ez
  interval_cases z <;> rfl

end Cert.Hand

end
-- ==== Proof.Hand.Words.lean ====
/-
  Hand-written, untrusted. The reference's spellings of a signed byte and of nine shifted blocks side by side, in the model's terms.
-/
module

public import proofs.«01_k».proof.Proof.Hand.Model

@[expose] public section

noncomputable section

namespace Cert.Hand

open Idealize.ShloMosaic

theorem sitofp_signExtend (x : BitVec 8) : FloatOps.sitofp (F := Ideal) .bf16 (x.signExtend 32) = sr x := by
  show (((x.signExtend 32).toInt : ℝ) : EReal) = ((x.toInt : ℝ) : EReal)
  rw [BitVec.toInt_signExtend_of_le (by decide)]

/-- Byte `j` of a word by two shifts. -/
theorem shift_byte (w : BitVec 32) (j : ℕ) (hj : j < 4) (k : BitVec 32) (hk : k.toNat = 24 - 8 * j) :
    IntOp.shrsi .host (IntOp.shli .host w k) 24#32 = (byte j w).signExtend 32 := by
  have e1 : IntOp.shli .host w k = w <<< (24 - 8 * j) := by
    rw [IntOp.shli, if_pos (by omega), ← hk]; rfl
  rw [e1, IntOp.shrsi, if_pos (by decide)]
  show BitVec.sshiftRight _ 24 = _
  apply BitVec.eq_of_getLsbD_eq
  intro i hi
  rw [BitVec.getLsbD_sshiftRight, BitVec.getLsbD_signExtend]
  simp only [BitVec.msb_eq_getLsbD_last, BitVec.getLsbD_shiftLeft, byte, BitVec.getLsbD_extractLsb']
  have : j = 0 ∨ j = 1 ∨ j = 2 ∨ j = 3 := by omega
  by_cases h8 : i < 8
  · have h1 : ¬ 32 ≤ i := by omega
    have h2 : 24 + i < 32 := by omega
    have h3 : ¬ 24 + i < 24 - 8 * j := by omega
    have h4 : 24 + i - (24 - 8 * j) = 8 * j + i := by omega
    simp [h1, h2, h3, h4, h8, hi]
  · have h1 : ¬ 32 ≤ i := by omega
    have h2 : ¬ 24 + i < 32 := by omega
    have h3 : ¬ 31 < 24 - 8 * j := by omega
    have h4 : 31 - (24 - 8 * j) = 8 * j + 7 := by omega
    simp [h1, h2, h3, h4, h8, hi]

/-- Nine shifted blocks side by side, contracted with the weights. -/
theorem ladder (P : Par) (X : ℕ → ℕ → ℕ → EReal) (l s y x co y0 y1 y2 x0 x1 x2 : ℕ) (hy0 : y0 = s * y) (hy1 : y1 = s * y + 1) (hy2 : y2 = s * y + 2)
    (hx0 : x0 = s * x) (hx1 : x1 = s * x + 1) (hx2 : x2 = s * x + 2) :
    ∑ k : Fin 576, (if _h : k.val < 64 then X y0 x0 k.val else if _h : k.val - 64 < 64 then X y0 x1 (k.val - 64)
      else if _h : k.val - 64 - 64 < 64 then X y0 x2 (k.val - 64 - 64)
      else if _h : k.val - 64 - 64 - 64 < 64 then X y1 x0 (k.val - 64 - 64 - 64)
      else if _h : k.val - 64 - 64 - 64 - 64 < 64 then X y1 x1 (k.val - 64 - 64 - 64 - 64)
      else if _h : k.val - 64 - 64 - 64 - 64 - 64 < 64 then X y1 x2 (k.val - 64 - 64 - 64 - 64 - 64)
      else if _h : k.val - 64 - 64 - 64 - 64 - 64 - 64 < 64 then X y2 x0 (k.val - 64 - 64 - 64 - 64 - 64 - 64)
      else if _h : k.val - 64 - 64 - 64 - 64 - 64 - 64 - 64 < 64 then X y2 x1 (k.val - 64 - 64 - 64 - 64 - 64 - 64 - 64)
      else X y2 x2 (k.val - 64 - 64 - 64 - 64 - 64 - 64 - 64 - 64)) * sr (P.w l (k.val / 192) (k.val / 64 % 3) (k.val % 64) co)
      = P.taps X l s y x co := by
  refine sum_fin_eq _ (fun n => X (s * y + n / 192) (s * x + n / 64 % 3) (n % 64) * sr (P.w l (n / 192) (n / 64 % 3) (n % 64) co)) fun k => ?_
  have hk := k.isLt
  subst hy0 hy1 hy2 hx0 hx1 hx2
  refine congrArg (· * _) ?_
  have key : ∀ a b c a' b' c' : ℕ, a = a' → b = b' → c = c' → X a b c = X a' b' c' := by
    rintro a b c _ _ _ rfl rfl rfl; rfl
  split_ifs <;> exact key _ _ _ _ _ _ (by omega) (by omega) (by omega)

end Cert.Hand

end
-- ==== Proof.Hand.RefWords.lean ====
/-
  Hand-written, untrusted. The reference's inputs, and the words of its canvases.
-/
module

public import proofs.«01_k».proof.Proof.Gen.ReferenceIdeal.Run
public import proofs.«01_k».proof.Proof.Hand.Words
public import Idealize.ShloMosaic.Lib.Tactic.CleanTypes

@[expose] public section

set_option maxRecDepth 16384

noncomputable section

namespace Cert.ReferenceIdeal.Hand

open Cert.ReferenceIdeal Cert.ReferenceIdeal.Value
open Idealize.ShloMosaic Idealize.ShloMosaic.TcCoe Cert.Hand

variable (V0 : Valuation τ sig (Elt Ideal))

/-- The canvas of batch element `b`. -/
def can : Fin 5 → IVec S3744x8x128 32 := fun
  | 0 => V0 (Proc.devRef .tc main_arg0) | 1 => V0 (Proc.devRef .tc main_arg1) | 2 => V0 (Proc.devRef .tc main_arg2)
  | 3 => V0 (Proc.devRef .tc main_arg3) | 4 => V0 (Proc.devRef .tc main_arg4)

/-- The reference's inputs, at batch element `b`. -/
def par (b : Fin 5) : Par where
  can := rd3 0 (can V0 b)
  w := rd5 0 (V0 (Proc.devRef .tc main_arg5) : IVec S4x3x3x64x64 8)
  ws := rd2 0 (V0 (Proc.devRef .tc main_arg6) : FVec Ideal S4x64 .f32)
  bs := rd2 0 (V0 (Proc.devRef .tc main_arg7) : FVec Ideal S4x64 .f32)
  pf := rd1 0 (V0 (Proc.devRef .tc main_arg8) : FVec Ideal S1 .f32)
  act := rd1 0 (V0 (Proc.devRef .tc main_arg9) : FVec Ideal S4 .f32)

variable (b : Fin 5)

theorem stacked (a : Fin 3744) (s : Fin 8) (l : Fin 128) (h0 h1) :
    (concatenate S5x3744x8x128 0 [⟨S1x3744x8x128, broadcastInDim S1x3744x8x128 ![1, 2, 3] h0 (V0 (Proc.devRef .tc main_arg0) : IVec S3744x8x128 32)⟩,
      ⟨S1x3744x8x128, broadcastInDim S1x3744x8x128 ![1, 2, 3] h0 (V0 (Proc.devRef .tc main_arg1) : IVec S3744x8x128 32)⟩,
      ⟨S1x3744x8x128, broadcastInDim S1x3744x8x128 ![1, 2, 3] h0 (V0 (Proc.devRef .tc main_arg2) : IVec S3744x8x128 32)⟩,
      ⟨S1x3744x8x128, broadcastInDim S1x3744x8x128 ![1, 2, 3] h0 (V0 (Proc.devRef .tc main_arg3) : IVec S3744x8x128 32)⟩,
      ⟨S1x3744x8x128, broadcastInDim S1x3744x8x128 ![1, 2, 3] h0 (V0 (Proc.devRef .tc main_arg4) : IVec S3744x8x128 32)⟩] h1 : IVec S5x3744x8x128 32) (ix4 b a s l)
      = can V0 b (ix3 a s l) := by
  pointwise []
  fin_cases b
  all_goals rfl

theorem split (A : IVec S5x3744x8x128 32) (x : Fin 468) (p q r : Fin 2) (s : Fin 8) (l : Fin 128) (h) :
    (shapeCast S5x468x2x2x2x8x128 A h) (ix7 b x p q r s l) = A (ix4 b ⟨x * 8 + p * 4 + q * 2 + r, by omega⟩ s l) := by
  pointwise []

theorem merge (A : IVec S5x2x128x2x468x2x8 32) (y : Fin 472) (x : Fin 468) (g : Fin 16) (h0 h1) :
    extractStridedSlice S5x472x468x16 ![0, 0, 0, 0] (shapeCast S5x512x468x16 A h0) h1 (ix4 b y x g)
      = A (ix7 b ⟨y / 256, by omega⟩ ⟨y / 2 % 128, by omega⟩ ⟨y % 2, by omega⟩ x ⟨g / 8, by omega⟩ ⟨g % 8, by omega⟩) := by
  pointwise []

theorem turn (A : IVec S5x468x2x2x2x8x128 32) (x : Fin 468) (p q r : Fin 2) (s : Fin 8) (l : Fin 128) (h) :
    transpose S5x2x128x2x468x2x8 [0, 4, 6, 2, 1, 3, 5] A h (ix7 b r l p x q s) = A (ix7 b x p q r s l) := by
  pointwise []

theorem v9_apply (y : Fin 472) (x : Fin 468) (g : Fin 16) :
    (res_main_v9 V0 : IVec S5x472x468x16 32) (ix4 b y x g) = (par V0 b).can (x * 8 + y % 2 * 4 + g / 8 * 2 + y / 256) (g % 8) (y / 2 % 128) := by
  unfold res_main_v9
  refine (merge b _ y x g _ _).trans ?_
  refine (turn b _ _ _ _ _ _ _ _).trans ?_
  refine (split b _ _ _ _ _ _ _ _).trans ?_
  refine (stacked V0 b _ _ _ _ _).trans ?_
  exact (rd3_eq (0 : BitVec 32) (can V0 b) ⟨x * 8 + y % 2 * 4 + g / 8 * 2 + y / 256, by omega⟩ ⟨g % 8, by omega⟩ ⟨y / 2 % 128, by omega⟩)

end Cert.ReferenceIdeal.Hand

end
-- ==== Proof.Hand.Ref.lean ====
/-
  Hand-written, untrusted. The reference's results are the model's formulas.
-/
module

public import proofs.«01_k».proof.Proof.Hand.RefWords
public import Idealize.ShloMosaic.Lib.Tactic.CleanTypes

@[expose] public section

set_option maxRecDepth 16384

noncomputable section

namespace Cert.ReferenceIdeal.Hand

open Cert.ReferenceIdeal Cert.ReferenceIdeal.Value
open Idealize.ShloMosaic Idealize.ShloMosaic.TcCoe Cert.Hand

variable (V0 : Valuation τ sig (Elt Ideal))

variable (b : Fin 5)

theorem v42_apply (y : Fin 474) (x : Fin 470) (ci : Fin 64) : (res_main_v42 V0 : FVec Ideal S5x474x470x64 .bf16) (ix4 b y x ci) = (par V0 b).X0 y x ci := by
  unfold res_main_v42
  clean_types
  pointwise []
  simp only [v9_apply V0 b]
  have := y.isLt; have := x.isLt; have := ci.isLt
  unfold Par.X0
  by_cases h : (1 ≤ y.val ∧ y.val - 1 < 472) ∧ 1 ≤ x.val ∧ x.val - 1 < 468
  · rw [dif_pos h, if_pos (by omega)]
    have e : ci.val / 4 / 8 = ci.val / 32 := by omega
    rw [e, ← sitofp_signExtend]
    refine congrArg _ ?_
    have hc : ci.val % 4 = 0 ∨ ci.val % 4 = 1 ∨ ci.val % 4 = 2 ∨ ci.val % 4 = 3 := by omega
    obtain hc | hc | hc | hc := hc <;> rw [hc]
    · exact shift_byte _ 0 (by decide) _ rfl
    · exact shift_byte _ 1 (by decide) _ rfl
    · exact shift_byte _ 2 (by decide) _ rfl
    · exact shift_byte _ 3 (by decide) _ rfl
  · rw [dif_neg h, if_neg (by omega)]
    exact zero_sr

theorem weight (i : Fin 4) (j k : Fin 3) (l o : Fin 64) :
    FloatOps.sitofp (F := Ideal) .bf16 (BitVec.signExtend 32 ((V0 (Proc.devRef .tc main_arg5) : IVec S4x3x3x64x64 8) (ix5 i j k l o))) = sr ((par V0 b).w i j k l o) := by
  rw [sitofp_signExtend]
  exact congrArg sr (rd5_eq (0 : BitVec 8) (V0 (Proc.devRef .tc main_arg5) : IVec S4x3x3x64x64 8) i j k l o)
theorem scale (i : Fin 4) (co : Fin 64) : (V0 (Proc.devRef .tc main_arg6) : FVec Ideal S4x64 .f32) (ix2 i co) = (par V0 b).ws i co :=
  rd2_eq (0 : EReal) (V0 (Proc.devRef .tc main_arg6) : FVec Ideal S4x64 .f32) i co
theorem bias (i : Fin 4) (co : Fin 64) : (V0 (Proc.devRef .tc main_arg7) : FVec Ideal S4x64 .f32) (ix2 i co) = (par V0 b).bs i co :=
  rd2_eq (0 : EReal) (V0 (Proc.devRef .tc main_arg7) : FVec Ideal S4x64 .f32) i co
theorem first : (V0 (Proc.devRef .tc main_arg8) : FVec Ideal S1 .f32) (ix1 0) = (par V0 b).pf 0 :=
  rd1_eq (0 : EReal) (V0 (Proc.devRef .tc main_arg8) : FVec Ideal S1 .f32) 0
theorem act (i : Fin 4) : (V0 (Proc.devRef .tc main_arg9) : FVec Ideal S4 .f32) (ix1 i) = (par V0 b).act i :=
  rd1_eq (0 : EReal) (V0 (Proc.devRef .tc main_arg9) : FVec Ideal S4 .f32) i

theorem padded (P : Par) (l y x ci : ℕ) :
    (if _h : (1 ≤ y ∧ y - 1 < 236) ∧ 1 ≤ x ∧ x - 1 < 234 then FloatOps.sitofp (F := Ideal) .bf16 (BitVec.signExtend 32 (P.q l (y - 1) (x - 1) ci))
      else FloatOps.sitofp (F := Ideal) .bf16 0#32) = P.X (l + 1) y x ci := by
  rw [Par.X_succ, sitofp_signExtend]
  by_cases h : (1 ≤ y ∧ y - 1 < 236) ∧ 1 ≤ x ∧ x - 1 < 234
  · rw [dif_pos h, if_pos (by omega)]
  · rw [dif_neg h, if_neg (by omega)]; exact zero_sr

theorem v72_apply (y : Fin 236) (x : Fin 234) (co : Fin 64) : (res_main_v72 V0 : IVec S5x236x234x64 8) (ix4 b y x co) = (par V0 b).q 0 y x co := by
  unfold res_main_v72
  clean_types
  pointwise []
  refine (trunc_fptosi _).trans ?_
  refine congrArg (fun a => Ideal.fptosi 8 (min _ (max _ (Ideal.liftRound Ideal.roundHalfEven a)))) ?_
  refine congrArg₂ Ideal.div (congrArg (max · 0) (congrArg₂ (· + ·) (congrArg₂ (· * ·) ?_ (congrArg₂ (· * ·) (first V0 b) (scale V0 b 0 co))) (bias V0 b 0 co))) (act V0 b 0)
  simp only [v42_apply V0 b, weight V0 b]
  exact ladder (par V0 b) _ 0 2 y x co _ _ _ _ _ _ (by omega) (by omega) (by omega) (by omega) (by omega) (by omega)

theorem v86_apply (y : Fin 238) (x : Fin 236) (ci : Fin 64) : (res_main_v86 V0 : FVec Ideal S5x238x236x64 .bf16) (ix4 b y x ci) = (par V0 b).X 1 y x ci := by
  unfold res_main_v86
  clean_types
  pointwise []
  simp only [v72_apply V0 b]
  exact padded _ 0 y x ci

theorem v116_apply (y : Fin 236) (x : Fin 234) (co : Fin 64) : (res_main_v116 V0 : IVec S5x236x234x64 8) (ix4 b y x co) = (par V0 b).q 1 y x co := by
  unfold res_main_v116
  clean_types
  pointwise []
  refine (trunc_fptosi _).trans ?_
  refine congrArg (fun a => Ideal.fptosi 8 (min _ (max _ (Ideal.liftRound Ideal.roundHalfEven a)))) ?_
  refine congrArg₂ Ideal.div (congrArg (max · 0) (congrArg₂ (· + ·) (congrArg₂ (· * ·) ?_ (congrArg₂ (· * ·) (act V0 b 0) (scale V0 b 1 co))) (bias V0 b 1 co))) (act V0 b 1)
  simp only [v86_apply V0 b, weight V0 b]
  exact ladder (par V0 b) _ 1 1 y x co _ _ _ _ _ _ (by omega) (by omega) (by omega) (by omega) (by omega) (by omega)

theorem v130_apply (y : Fin 238) (x : Fin 236) (ci : Fin 64) : (res_main_v130 V0 : FVec Ideal S5x238x236x64 .bf16) (ix4 b y x ci) = (par V0 b).X 2 y x ci := by
  unfold res_main_v130
  clean_types
  pointwise []
  simp only [v116_apply V0 b]
  exact padded _ 1 y x ci

theorem v160_apply (y : Fin 236) (x : Fin 234) (co : Fin 64) : (res_main_v160 V0 : IVec S5x236x234x64 8) (ix4 b y x co) = (par V0 b).q 2 y x co := by
  unfold res_main_v160
  clean_types
  pointwise []
  refine (trunc_fptosi _).trans ?_
  refine congrArg (fun a => Ideal.fptosi 8 (min _ (max _ (Ideal.liftRound Ideal.roundHalfEven a)))) ?_
  refine congrArg₂ Ideal.div (congrArg (max · 0) (congrArg₂ (· + ·) (congrArg₂ (· * ·) ?_ (congrArg₂ (· * ·) (act V0 b 1) (scale V0 b 2 co))) (bias V0 b 2 co))) (act V0 b 2)
  simp only [v130_apply V0 b, weight V0 b]
  exact ladder (par V0 b) _ 2 1 y x co _ _ _ _ _ _ (by omega) (by omega) (by omega) (by omega) (by omega) (by omega)

theorem v174_apply (y : Fin 238) (x : Fin 236) (ci : Fin 64) : (res_main_v174 V0 : FVec Ideal S5x238x236x64 .bf16) (ix4 b y x ci) = (par V0 b).X 3 y x ci := by
  unfold res_main_v174
  clean_types
  pointwise []
  simp only [v160_apply V0 b]
  exact padded _ 2 y x ci

theorem v196_apply (y : Fin 236) (x : Fin 234) (co : Fin 64) : (res_main_v196 V0 : FVec Ideal S5x236x234x64 .f32) (ix4 b y x co) = (par V0 b).y 3 y x co := by
  unfold res_main_v196
  clean_types
  pointwise []
  refine congrArg (max · 0) (congrArg₂ (· + ·) (congrArg₂ (· * ·) ?_ (congrArg₂ (· * ·) (act V0 b 2) (scale V0 b 3 co))) (bias V0 b 3 co))
  simp only [v174_apply V0 b, weight V0 b]
  exact ladder (par V0 b) _ 3 1 y x co _ _ _ _ _ _ (by omega) (by omega) (by omega) (by omega) (by omega) (by omega)

end Cert.ReferenceIdeal.Hand

end
-- ==== Proof.Hand.KernelIdeal.Clean.lean ====
/-
  Hand-written, untrusted. The vectors the backbone's body computes, each stated once for all four layers and both columns of a pair, and read at an
  index over the extended reals.
-/
module

public import proofs.«01_k».proof.Proof.Hand.KernelIdeal.Body
public import proofs.«01_k».proof.Proof.Hand.Model
public import Idealize.ShloMosaic.Lib.BitcastPair

@[expose] public section

set_option maxRecDepth 16384

noncomputable section

namespace Cert.KernelIdeal.Hand

open Cert.KernelIdeal Cert.KernelIdeal.Gen
open Idealize.ShloMosaic Cert.Hand

/-- Shifting the lanes of 64 rows by `k`, in the two halves of the row pairs. -/
def shiftv (k : BitVec 32) (x : FVec Ideal S64x256 .bf16) : FVec Ideal S64x256 .bf16 :=
  interleaveRows S64x256 (dynamicRotate 1 k none (rowsOfParity 0 S32x256 x bitcasts_S64x256_w16_S32x256_w32) rotates_S32x256_d1)
    (dynamicRotate 1 k none (rowsOfParity 1 S32x256 x bitcasts_S64x256_w16_S32x256_w32) rotates_S32x256_d1) bitcasts_S64x256_w16_S32x256_w32

/-- The words of one canvas column, from its eight tiles. -/
def wordv (a0 a1 a2 a3 a4 a5 a6 a7 : IVec S1x8x128 32) : IVec S32x256 32 :=
  concatenate S32x256 0
    [⟨S8x256, concatenate S8x256 1 [⟨S8x128, shapeCast S8x128 a0 shapeCasts_S1x8x128_S8x128⟩, ⟨S8x128, shapeCast S8x128 a1 shapeCasts_S1x8x128_S8x128⟩] concatenates_S8x128_S8x128_S8x256_d1⟩,
     ⟨S8x256, concatenate S8x256 1 [⟨S8x128, shapeCast S8x128 a2 shapeCasts_S1x8x128_S8x128⟩, ⟨S8x128, shapeCast S8x128 a3 shapeCasts_S1x8x128_S8x128⟩] concatenates_S8x128_S8x128_S8x256_d1⟩,
     ⟨S8x256, concatenate S8x256 1 [⟨S8x128, shapeCast S8x128 a4 shapeCasts_S1x8x128_S8x128⟩, ⟨S8x128, shapeCast S8x128 a5 shapeCasts_S1x8x128_S8x128⟩] concatenates_S8x128_S8x128_S8x256_d1⟩,
     ⟨S8x256, concatenate S8x256 1 [⟨S8x128, shapeCast S8x128 a6 shapeCasts_S1x8x128_S8x128⟩, ⟨S8x128, shapeCast S8x128 a7 shapeCasts_S1x8x128_S8x128⟩] concatenates_S8x128_S8x128_S8x256_d1⟩]
    concatenates_S8x256_S8x256_S8x256_S8x256_S32x256_d0

/-- The three taps of one canvas column: odd rows one lane on, even rows, odd rows. -/
def colv (w : IVec S32x256 32) : FVec Ideal S192x256 .bf16 :=
  have v29 : FVec Ideal S128x256 .bf16 := sitofp .bf16 (bitcast S128x256 8 w bitcasts_S32x256_w32_S128x256_w8)
  concatenate S192x256 0 [⟨S64x256, shiftv 1#32 (extractStridedSlice S64x256 ![64, 0] v29 slices_S128x256_o64_0_S64x256)⟩,
    ⟨S64x256, extractStridedSlice S64x256 ![0, 0] v29 slices_S128x256_o0_0_S64x256⟩,
    ⟨S64x256, extractStridedSlice S64x256 ![64, 0] v29 slices_S128x256_o64_0_S64x256⟩] concatenates_S64x256_S64x256_S64x256_S192x256_d0

def acc0 (w : FVec Ideal S128x960 .bf16) (x0 x1 x2 x3 x4 : FVec Ideal S192x256 .bf16) : FVec Ideal S128x256 .f32 :=
  matmul dot_S128x960_S960x256_S128x256_1_0_0_1_n_n none (shapeCast S128x960 w shapeCasts_S128x960_S128x960)
    (concatenate S960x256 0 [⟨S192x256, x0⟩, ⟨S192x256, x1⟩, ⟨S192x256, x2⟩, ⟨S192x256, x3⟩, ⟨S192x256, x4⟩] concatenates_S192x256_S192x256_S192x256_S192x256_S192x256_S960x256_d0)
    (constant S128x256 .f32 0x00000000#32)

def accl (w : FVec Ideal S1x128x768 .bf16) (x0 x1 x2 x3 : FVec Ideal S1x192x256 .bf16) : FVec Ideal S128x256 .f32 :=
  matmul dot_S128x768_S768x256_S128x256_1_0_0_1_n_n none (shapeCast S128x768 w shapeCasts_S1x128x768_S128x768)
    (concatenate S768x256 0 [⟨S192x256, shapeCast S192x256 x0 shapeCasts_S1x192x256_S192x256⟩, ⟨S192x256, shapeCast S192x256 x1 shapeCasts_S1x192x256_S192x256⟩,
      ⟨S192x256, shapeCast S192x256 x2 shapeCasts_S1x192x256_S192x256⟩, ⟨S192x256, shapeCast S192x256 x3 shapeCasts_S1x192x256_S192x256⟩]
      concatenates_S192x256_S192x256_S192x256_S192x256_S768x256_d0)
    (constant S128x256 .f32 0x00000000#32)

def twicev (s : FVec Ideal S1x64x128 .f32) : FVec Ideal S64x256 .f32 :=
  concatenate S64x256 1 [⟨S64x128, shapeCast S64x128 s shapeCasts_S1x64x128_S64x128⟩, ⟨S64x128, shapeCast S64x128 s shapeCasts_S1x64x128_S64x128⟩] concatenates_S64x128_S64x128_S64x256_d1

def halfv (c : Fin 2) (a : FVec Ideal S128x256 .f32) : FVec Ideal S64x256 .f32 :=
  match c with
  | 0 => extractStridedSlice S64x256 ![0, 0] a slices_S128x256_o0_0_S64x256
  | 1 => extractStridedSlice S64x256 ![64, 0] a slices_S128x256_o64_0_S64x256

/-- The scale, the bias and the relu. -/
def actv (a : FVec Ideal S64x256 .f32) (s b : FVec Ideal S1x64x128 .f32) : FVec Ideal S64x256 .f32 :=
  maximumf (addf (mulf a (twicev s)) (twicev b)) (broadcast S64x256 (Scalar.ofBits (F := Ideal) .f32 0x00000000#32))

/-- The quantiser. -/
def quantv (y : FVec Ideal S64x256 .f32) (s : Ideal .f32) : IVec S64x256 8 :=
  fptosi 8 (minimumf (broadcast S64x256 (Scalar.ofBits (F := Ideal) .f32 0x42FE0000#32))
    (maximumf (broadcast S64x256 (Scalar.ofBits (F := Ideal) .f32 0xC2FE0000#32)) (roundeven (divf y (broadcast S64x256 s)))))

def outv (q : IVec S64x256 8) : IVec S1x1x64x236 8 :=
  shapeCast S1x1x64x236 (extractStridedSlice S64x236 ![0, 0] q slices_S64x256_o0_0_S64x236) shapeCasts_S64x236_S1x1x64x236

/-- The codes handed to the next layer: zero outside the output and when the layer is not running. -/
def midv (live : BitVec 1) (q : IVec S64x256 8) : FVec Ideal S64x256 .bf16 :=
  truncf .bf16 (select (andi k1_pay2 (broadcast S64x256 live)) (sitofp .f32 q) (broadcast S64x256 (Scalar.ofBits (F := Ideal) .f32 0x00000000#32))) bitsLt_bf16_f32

def rowv (m : FVec Ideal S64x256 .bf16) : FVec Ideal S1x64x256 .bf16 := shapeCast S1x64x256 m shapeCasts_S64x256_S1x64x256

theorem shiftv_apply (k : BitVec 32) (x : FVec Ideal S64x256 .bf16) (r : Fin 64) (y : Fin 256) (n : ℕ) (hn : k.toNat % 256 = n) :
    shiftv k x (ix2 r y) = x (ix2 r ⟨(y.val + 256 - n) % 256, Nat.mod_lt _ (by decide)⟩) := by
  pointwise [shiftv]
  subst hn
  split <;> rename_i h <;>
  · congr 2
    ext1; dsimp only; omega

theorem wordv_apply (a0 a1 a2 a3 a4 a5 a6 a7 : IVec S1x8x128 32) (f : ℕ → ℕ → ℕ → BitVec 32)
    (h0 : ∀ s l, a0 (ix3 0 s l) = f 0 s l) (h1 : ∀ s l, a1 (ix3 0 s l) = f 1 s l) (h2 : ∀ s l, a2 (ix3 0 s l) = f 2 s l)
    (h3 : ∀ s l, a3 (ix3 0 s l) = f 3 s l) (h4 : ∀ s l, a4 (ix3 0 s l) = f 4 s l) (h5 : ∀ s l, a5 (ix3 0 s l) = f 5 s l)
    (h6 : ∀ s l, a6 (ix3 0 s l) = f 6 s l) (h7 : ∀ s l, a7 (ix3 0 s l) = f 7 s l) (r : Fin 32) (y : Fin 256) :
    wordv a0 a1 a2 a3 a4 a5 a6 a7 (ix2 r y) = f (2 * (r / 8) + y / 128) (r % 8) (y % 128) := by
  pointwise [wordv, h0, h1, h2, h3, h4, h5, h6, h7]
  have := r.isLt; have := y.isLt
  split_ifs <;> congr 1 <;> omega

theorem bytes_apply (w : IVec S32x256 32) (h : Shape.Bitcasts S32x256 32 S128x256 8) (r : Fin 128) (y : Fin 256) :
    bitcast S128x256 8 w h (ix2 r y) = byte (r % 4) (w (ix2 ⟨r / 4, by omega⟩ y)) := by
  apply BitVec.eq_of_getLsbD_eq
  intro i hi
  rw [bitcast_getLsbD w h _ i hi (by decide)]
  have er : Shape.row (s := S128x256) (ix2 r y) = r.val := rfl
  rw [byte, BitVec.getLsbD_extractLsb']
  have e1 : (Shape.row (s := S128x256) (ix2 r y) * 8 + i) / 32 = r / 4 := by rw [er]; omega
  have e2 : (Shape.row (s := S128x256) (ix2 r y) * 8 + i) % 32 = 8 * (r.val % 4) + i := by rw [er]; omega
  rw [e2, decide_eq_true hi, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem colv_apply (w : IVec S32x256 32) (g : ℕ → ℕ → BitVec 32) (hw : ∀ r y, w (ix2 r y) = g r y) (r : Fin 192) (y : Fin 256) :
    colv w (ix2 r y) = sr (byte (r % 4) (g (if 64 ≤ r.val ∧ r.val < 128 then r / 4 % 16 else 16 + r / 4 % 16) (if r.val < 64 then (y + 255) % 256 else y))) := by
  pointwise [colv, shiftv_apply, bytes_apply, hw]
  have := r.isLt; have := y.isLt
  split_ifs <;> first | omega | skip
  all_goals
    refine congrArg sr (congrArg₂ byte (by omega) (congrArg₂ g (by omega) ?_))
    first | rfl | omega

theorem acc0_apply (w x0 x1 x2 x3 x4) (fw : ℕ → ℕ → EReal) (fx : ℕ → ℕ → ℕ → EReal) (y : Fin 256) (hw : ∀ (r : Fin 128) (n : Fin 960), w (ix2 r n) = fw r n)
    (h0 : ∀ n : Fin 192, x0 (ix2 n y) = fx 0 n y) (h1 : ∀ n : Fin 192, x1 (ix2 n y) = fx 1 n y) (h2 : ∀ n : Fin 192, x2 (ix2 n y) = fx 2 n y)
    (h3 : ∀ n : Fin 192, x3 (ix2 n y) = fx 3 n y) (h4 : ∀ n : Fin 192, x4 (ix2 n y) = fx 4 n y) (r : Fin 128) :
    acc0 w x0 x1 x2 x3 x4 (ix2 r y) = ∑ n ∈ Finset.range 960, fw r n * fx (n / 192) (n % 192) y := by
  pointwise [acc0, hw, h0, h1, h2, h3, h4]
  refine sum_fin_eq _ _ fun n => ?_
  have := n.isLt
  split_ifs <;> refine congrArg _ (congrArg₂ (fun a b => fx a b y) ?_ ?_) <;> omega

theorem accl_apply (w x0 x1 x2 x3) (fw : ℕ → ℕ → EReal) (fx : ℕ → ℕ → ℕ → EReal) (y : Fin 256) (hw : ∀ (r : Fin 128) (n : Fin 768), w (ix3 0 r n) = fw r n)
    (h0 : ∀ n : Fin 192, x0 (ix3 0 n y) = fx 0 n y) (h1 : ∀ n : Fin 192, x1 (ix3 0 n y) = fx 1 n y) (h2 : ∀ n : Fin 192, x2 (ix3 0 n y) = fx 2 n y)
    (h3 : ∀ n : Fin 192, x3 (ix3 0 n y) = fx 3 n y) (r : Fin 128) :
    accl w x0 x1 x2 x3 (ix2 r y) = ∑ n ∈ Finset.range 768, fw r n * fx (n / 192) (n % 192) y := by
  pointwise [accl, hw, h0, h1, h2, h3]
  refine sum_fin_eq _ _ fun n => ?_
  have := n.isLt
  split_ifs <;> refine congrArg _ (congrArg₂ (fun a b => fx a b y) ?_ ?_) <;> omega

theorem halfv_apply (c a) (r : Fin 64) (y : Fin 256) : halfv c a (ix2 r y) = a (ix2 ⟨c * 64 + r, by omega⟩ y) := by
  fin_cases c
  · pointwise [halfv]
  · pointwise [halfv]

theorem actv_apply (a s b) (fs fb : ℕ → EReal) (hs : ∀ (r : Fin 64) (l : Fin 128), s (ix3 0 r l) = fs r) (hb : ∀ (r : Fin 64) (l : Fin 128), b (ix3 0 r l) = fb r) (r : Fin 64) (y : Fin 256) :
    actv a s b (ix2 r y) = max (a (ix2 r y) * fs r + fb r) 0 := by
  pointwise [actv, twicev, hs, hb]
  simp only [dite_eq_ite, ite_self]

theorem quantv_apply (v s) (r : Fin 64) (y : Fin 256) :
    quantv v s (ix2 r y) = qm (v (ix2 r y)) s := by
  pointwise [quantv]
  rfl

theorem outv_apply (q) (r : Fin 64) (y : Fin 236) :
    outv q (ix4 0 0 r y) = q (ix2 r ⟨y, by omega⟩) := by
  pointwise [outv]

theorem midv_apply (l : BitVec 1) (q) (r : Fin 64) (y : Fin 256) :
    midv l q (ix2 r y) = if y.val < 236 ∧ l = 1#1 then sr (q (ix2 r y)) else 0 := by
  pointwise [midv, k1_pay2]
  have hc : ∀ y : Fin 256, IntOp.cmpi CmpIPredicate.slt (BitVec.ofNat 32 y.val) 236#32 = if y.val < 236 then 1#1 else 0#1 := by decide +kernel
  have hl : l = 1#1 ∨ l = 0#1 := by revert l; decide
  rw [hc]
  by_cases h : y.val < 236 <;> rcases hl with rfl | rfl <;> simp [h, Scalar.select, IntOp.andi] <;> rfl

theorem rowv_apply (m) (r : Fin 64) (y : Fin 256) : rowv m (ix3 0 r y) = m (ix2 r y) := by
  pointwise [rowv]

end Cert.KernelIdeal.Hand

end
-- ==== Proof.Hand.KernelIdeal.Pays.lean ====
/-
  Hand-written, untrusted. The body's named values, restated over the vectors of Clean.lean.
-/
module

public import proofs.«01_k».proof.Proof.Hand.KernelIdeal.Clean

@[expose] public section

set_option maxRecDepth 65536

noncomputable section

namespace Cert.KernelIdeal.Hand

open Cert.KernelIdeal Cert.KernelIdeal.Gen
open Idealize.ShloMosaic Idealize.ShloMosaic.TcCoe Cert.Hand

/-- The rows of tap `k`. -/
def rowk (k : Fin 3) (m : FVec Ideal S64x256 .bf16) : FVec Ideal S1x64x256 .bf16 := match k with
  | 0 => rowv (shiftv 1#32 m)
  | 1 => rowv m
  | 2 => rowv (shiftv 255#32 m)

/-- The running maximum with one more column. -/
def topv (T y : FVec Ideal S64x256 .f32) : FVec Ideal S64x256 .f32 :=
  shapeCast S64x256 (maximumf T (select k1_pay2 y (broadcast S64x256 (Scalar.ofBits (F := Ideal) .f32 0x00000000#32)))) shapeCasts_S64x256_S64x256

/-- Whether layer number `k` runs at a step, in the words of the body. -/
def livev (t k : BitVec 32) : BitVec 1 := Scalar.andi (Scalar.cmpi .sge (Scalar.subi t k) 0#32) (Scalar.cmpi .slt (Scalar.subi t k) 117#32)

section
variable (a0 a1 a2 a3 a4 a5 a6 a7 : IVec S1x8x128 32) (e x0 x1 x2 x3 : FVec Ideal S192x256 .bf16) (z0 z1 z2 z3 : FVec Ideal S1x192x256 .bf16)
  (w : FVec Ideal S128x960 .bf16) (wl : FVec Ideal S1x128x768 .bf16) (s b : FVec Ideal S1x64x128 .f32) (a : Ideal .f32) (t : BitVec 32) (v : BitVec 1)
  (A : FVec Ideal S128x256 .f32) (Y S B T : FVec Ideal S64x256 .f32) (q : IVec S64x256 8) (m : FVec Ideal S64x256 .bf16)

theorem pay7_eq : k1_pay7 (k1_pay6 (F := Ideal) a0 a1 a2 a3 a4 a5 a6 a7) =
    colv (wordv a0 a1 a2 a3 a4 a5 a6 a7) := rfl

theorem pay12_eq : k1_pay12 (F := Ideal) (k1_pay9 a0 a1 a2 a3 a4 a5 a6 a7) (k1_pay10 a0 a1 a2 a3 a4 a5 a6 a7) (k1_pay11 a0 a1 a2 a3 a4 a5 a6 a7) =
    colv (wordv a0 a1 a2 a3 a4 a5 a6 a7) := rfl

theorem pay18_eq : k1_pay18 (F := Ideal) (k1_pay14 a0 a1 a2 a3 a4 a5 a6 a7) (k1_pay15 a0 a1 a2 a3 a4 a5 a6 a7) (k1_pay16 a0 a1 a2 a3 a4 a5 a6 a7) (k1_pay17 a0 a1 a2 a3 a4 a5 a6 a7) =
    colv (wordv a0 a1 a2 a3 a4 a5 a6 a7) := rfl

theorem pay19_eq : k1_pay19 (F := Ideal) a0 a1 a2 a3 a4 a5 a6 a7 =
    colv (wordv a0 a1 a2 a3 a4 a5 a6 a7) := rfl

theorem pay21_eq : k1_pay21 (F := Ideal) e x0 x1 x2 x3 w =
    acc0 w e x0 x1 x2 x3 := rfl

theorem pay22_eq : k1_pay22 (F := Ideal) e x0 x1 x2 x3 w s b a =
    quantv (actv (halfv 0 (acc0 w e x0 x1 x2 x3)) s b) a := rfl

theorem pay23_eq : k1_pay23 (F := Ideal) e x0 x1 x2 x3 w s b a =
    outv (quantv (actv (halfv 0 (acc0 w e x0 x1 x2 x3)) s b) a) := rfl

theorem pay24_eq : k1_pay24 (F := Ideal) t k1_pay2 e x0 x1 x2 x3 w s b a =
    midv (livev t 0#32) (quantv (actv (halfv 0 (acc0 w e x0 x1 x2 x3)) s b) a) := rfl

theorem pay25_eq : k1_pay25 (F := Ideal) m =
    rowk 0 m := rfl

theorem pay26_eq : k1_pay26 (F := Ideal) m =
    rowk 1 m := rfl

theorem pay27_eq : k1_pay27 (F := Ideal) m =
    rowk 2 m := rfl

theorem pay31_eq : k1_pay31 (F := Ideal) (k1_pay28 A s) (k1_pay29 b) a =
    outv (quantv (actv (halfv 1 A) s b) a) := rfl

theorem pay32_eq : k1_pay32 (F := Ideal) k1_pay2 v (k1_pay28 A s) (k1_pay29 b) a =
    midv v (quantv (actv (halfv 1 A) s b) a) := rfl

theorem pay33_eq : k1_pay33 (F := Ideal) k1_pay2 v (k1_pay28 A s) (k1_pay29 b) a =
    rowk 0 (midv v (quantv (actv (halfv 1 A) s b) a)) := rfl

theorem pay34_eq : k1_pay34 (F := Ideal) k1_pay2 v (k1_pay28 A s) (k1_pay29 b) a =
    rowk 1 (midv v (quantv (actv (halfv 1 A) s b) a)) := rfl

theorem pay36_eq : k1_pay36 (F := Ideal) (k1_pay32 k1_pay2 v (k1_pay28 A s) (k1_pay29 b) a) (k1_pay35 k1_pay2 v (k1_pay28 A s) (k1_pay29 b) a) =
    rowk 2 (midv v (quantv (actv (halfv 1 A) s b) a)) := rfl

theorem pay40_eq : k1_pay40 (F := Ideal) (k1_pay37 wl) (k1_pay38 z0) (k1_pay39 z1) z2 z3 =
    accl wl z0 z1 z2 z3 := rfl

theorem pay41_eq : k1_pay41 (F := Ideal) (k1_pay37 wl) (k1_pay38 z0) (k1_pay39 z1) z2 z3 s b a =
    quantv (actv (halfv 0 (accl wl z0 z1 z2 z3)) s b) a := rfl

theorem pay42_eq : k1_pay42 q =
    outv q := rfl

theorem pay44_eq : k1_pay44 (F := Ideal) k1_pay2 v q =
    rowk 0 (midv v q) := rfl

theorem pay45_eq : k1_pay45 (F := Ideal) k1_pay2 v q =
    rowk 1 (midv v q) := rfl

theorem pay46_eq : k1_pay46 (F := Ideal) k1_pay2 v q =
    rowk 2 (midv v q) := rfl

theorem pay49_eq : k1_pay49 (F := Ideal) (k1_pay47 A) s b a =
    outv (quantv (actv (halfv 1 A) s b) a) := rfl

theorem pay50_eq : k1_pay50 (F := Ideal) k1_pay2 v (k1_pay47 A) s b a =
    midv v (quantv (actv (halfv 1 A) s b) a) := rfl

theorem pay51_eq : k1_pay51 (F := Ideal) k1_pay2 v (k1_pay47 A) s b a =
    rowk 0 (midv v (quantv (actv (halfv 1 A) s b) a)) := rfl

theorem pay52_eq : k1_pay52 (F := Ideal) m =
    rowk 1 m := rfl

theorem pay53_eq : k1_pay53 (F := Ideal) m =
    rowk 2 m := rfl

theorem pay56_eq : k1_pay56 (F := Ideal) (k1_pay54 wl) (k1_pay55 z0) z1 z2 z3 =
    accl wl z0 z1 z2 z3 := rfl

theorem pay57_eq : k1_pay57 (F := Ideal) (k1_pay54 wl) (k1_pay55 z0) z1 z2 z3 s b =
    actv (halfv 0 (accl wl z0 z1 z2 z3)) s b := rfl

theorem pay59_eq : k1_pay59 (F := Ideal) Y a =
    outv (quantv Y a) := rfl

theorem pay61_eq : k1_pay61 (F := Ideal) k1_pay2 v Y a =
    rowk 0 (midv v (quantv Y a)) := rfl

theorem pay62_eq : k1_pay62 (F := Ideal) k1_pay2 v Y a =
    rowk 1 (midv v (quantv Y a)) := rfl

theorem pay64_eq : k1_pay64 (F := Ideal) (k1_pay63 k1_pay2 v Y a) =
    rowk 2 (midv v (quantv Y a)) := rfl

theorem pay66_eq : k1_pay66 (F := Ideal) A s b a =
    outv (quantv (actv (halfv 1 A) s b) a) := rfl

theorem pay67_eq : k1_pay67 (F := Ideal) k1_pay2 v A s b a =
    midv v (quantv (actv (halfv 1 A) s b) a) := rfl

theorem pay70_eq : k1_pay70 (F := Ideal) (k1_pay68 k1_pay2 v A s b a) (k1_pay69 k1_pay2 v A s b a) 1#32 =
    rowk 0 (midv v (quantv (actv (halfv 1 A) s b) a)) := rfl

theorem pay71_eq : k1_pay71 (F := Ideal) m =
    rowk 1 m := rfl

theorem pay72_eq : k1_pay72 (F := Ideal) m =
    rowk 2 m := rfl

theorem pay74_eq : k1_pay74 (F := Ideal) (k1_pay73 wl) z0 z1 z2 z3 =
    accl wl z0 z1 z2 z3 := rfl

theorem pay77_eq : k1_pay77 (k1_pay75 (F := Ideal) (k1_pay73 wl) z0 z1 z2 z3 s) b a =
    outv (quantv (actv (halfv 0 (accl wl z0 z1 z2 z3)) s b) a) := rfl

theorem pay78_eq : k1_pay78 k1_pay2 (k1_pay75 (F := Ideal) (k1_pay73 wl) z0 z1 z2 z3 s) b T =
    topv T (actv (halfv 0 (accl wl z0 z1 z2 z3)) s b) := rfl

theorem pay80_eq : k1_pay80 (F := Ideal) A s b a =
    outv (quantv (actv (halfv 1 A) s b) a) := rfl

theorem pay81_eq : k1_pay81 (F := Ideal) k1_pay2 A s b T =
    topv T (actv (halfv 1 A) s b) := rfl

end

end Cert.KernelIdeal.Hand

end
-- ==== Proof.Hand.KernelIdeal.Found.lean ====
/-
  Hand-written, untrusted. The contents the body's run leaves, restated over the vectors of Clean.lean: one formula per layer and column.
-/
module

public import proofs.«01_k».proof.Proof.Hand.KernelIdeal.Pays

@[expose] public section

set_option maxRecDepth 65536

noncomputable section

namespace Cert.KernelIdeal.Hand

open Cert.KernelIdeal Cert.KernelIdeal.Gen
open Idealize.ShloMosaic Idealize.ShloMosaic.TcCoe Cert.Hand

/-- What one step loads: the canvas tiles, the weights, the scales and biases, the activation scales, the edge column, and the four columns each later
    layer reads from its ring. -/
structure In where
  tl : Fin 32 → IVec S1x8x128 32
  w0 : FVec Ideal S128x960 .bf16
  wl : Fin 3 → FVec Ideal S1x128x768 .bf16
  sc : Fin 4 → FVec Ideal S1x64x128 .f32
  bi : Fin 4 → FVec Ideal S1x64x128 .f32
  act : Fin 4 → Ideal .f32
  edge : FVec Ideal S192x256 .bf16
  xs : Fin 3 → Fin 4 → FVec Ideal S1x192x256 .bf16
  live : Fin 3 → BitVec 1

namespace In
variable (I : In)

/-- Canvas column `k` of the step. -/
def col (k : Fin 4) : FVec Ideal S192x256 .bf16 :=
  colv (wordv (I.tl ⟨8 * k, by omega⟩) (I.tl ⟨8 * k + 1, by omega⟩) (I.tl ⟨8 * k + 2, by omega⟩) (I.tl ⟨8 * k + 3, by omega⟩)
    (I.tl ⟨8 * k + 4, by omega⟩) (I.tl ⟨8 * k + 5, by omega⟩) (I.tl ⟨8 * k + 6, by omega⟩) (I.tl ⟨8 * k + 7, by omega⟩))

/-- Layer `l`'s accumulator. -/
def acc (l : Fin 4) : FVec Ideal S128x256 .f32 := match l with
  | 0 => acc0 I.w0 I.edge (I.col 0) (I.col 1) (I.col 2) (I.col 3)
  | 1 => accl (I.wl 0) (I.xs 0 0) (I.xs 0 1) (I.xs 0 2) (I.xs 0 3)
  | 2 => accl (I.wl 1) (I.xs 1 0) (I.xs 1 1) (I.xs 1 2) (I.xs 1 3)
  | 3 => accl (I.wl 2) (I.xs 2 0) (I.xs 2 1) (I.xs 2 2) (I.xs 2 3)

def y (l : Fin 4) (c : Fin 2) : FVec Ideal S64x256 .f32 := actv (halfv c (I.acc l)) (I.sc l) (I.bi l)
def q (l : Fin 4) (c : Fin 2) : IVec S64x256 8 := quantv (I.y l c) (I.act l)
def mid (l : Fin 3) (c : Fin 2) : FVec Ideal S64x256 .bf16 := midv (I.live l) (I.q (l.castLE (by decide)) c)

end In

abbrev RingPiece := View.Piece (Elt Ideal) S3x1536x256 .bf16

/-- The three stores of one column into ring 0, the last first. -/
def put0 (i : grid1.Coords) (c : Fin 2) (m : FVec Ideal S64x256 .bf16) (L : List RingPiece) : List RingPiece :=
  ⟨Rect.unit (k1_off1 i (BitVec.ofNat 32 c.val) (BitVec.ofNat 32 (64 * (2 : Fin 3).val))) S1x64x256.size (k1_off1_inb i c 2), rowk 2 m⟩ ::
  ⟨Rect.unit (k1_off1 i (BitVec.ofNat 32 c.val) (BitVec.ofNat 32 (64 * (1 : Fin 3).val))) S1x64x256.size (k1_off1_inb i c 1), rowk 1 m⟩ ::
  ⟨Rect.unit (k1_off1 i (BitVec.ofNat 32 c.val) (BitVec.ofNat 32 (64 * (0 : Fin 3).val))) S1x64x256.size (k1_off1_inb i c 0), rowk 0 m⟩ :: L

/-- The three stores of one column into ring 1, the last first. -/
def put1 (i : grid1.Coords) (c : Fin 2) (m : FVec Ideal S64x256 .bf16) (L : List RingPiece) : List RingPiece :=
  ⟨Rect.unit (k1_off3 i (BitVec.ofNat 32 c.val) (BitVec.ofNat 32 (64 * (2 : Fin 3).val))) S1x64x256.size (k1_off3_inb i c 2), rowk 2 m⟩ ::
  ⟨Rect.unit (k1_off3 i (BitVec.ofNat 32 c.val) (BitVec.ofNat 32 (64 * (1 : Fin 3).val))) S1x64x256.size (k1_off3_inb i c 1), rowk 1 m⟩ ::
  ⟨Rect.unit (k1_off3 i (BitVec.ofNat 32 c.val) (BitVec.ofNat 32 (64 * (0 : Fin 3).val))) S1x64x256.size (k1_off3_inb i c 0), rowk 0 m⟩ :: L

/-- The three stores of one column into ring 2, the last first. -/
def put2 (i : grid1.Coords) (c : Fin 2) (m : FVec Ideal S64x256 .bf16) (L : List RingPiece) : List RingPiece :=
  ⟨Rect.unit (k1_off5 i (BitVec.ofNat 32 c.val) (BitVec.ofNat 32 (64 * (2 : Fin 3).val))) S1x64x256.size (k1_off5_inb i c 2), rowk 2 m⟩ ::
  ⟨Rect.unit (k1_off5 i (BitVec.ofNat 32 c.val) (BitVec.ofNat 32 (64 * (1 : Fin 3).val))) S1x64x256.size (k1_off5_inb i c 1), rowk 1 m⟩ ::
  ⟨Rect.unit (k1_off5 i (BitVec.ofNat 32 c.val) (BitVec.ofNat 32 (64 * (0 : Fin 3).val))) S1x64x256.size (k1_off5_inb i c 0), rowk 0 m⟩ :: L

theorem inb3 {n b c : ℕ} (k : Fin n) (a : Fin 3) : (![k.val, 0, 0] : Fin 3 → ℕ) a + (⟨3, ![1, b, c]⟩ : Shape).size a ≤ (⟨3, ![n, b, c]⟩ : Shape).size a :=
  match a with
  | ⟨0, _⟩ => k.isLt
  | ⟨1, _⟩ => Nat.le_of_eq (Nat.zero_add _)
  | ⟨2, _⟩ => Nat.le_of_eq (Nat.zero_add _)

theorem inb1 {n : ℕ} (k : Fin n) (a : Fin 1) : (![k.val] : Fin 1 → ℕ) a + (⟨1, ![1]⟩ : Shape).size a ≤ (⟨1, ![n]⟩ : Shape).size a :=
  match a with
  | ⟨0, _⟩ => k.isLt

section
variable (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole)
    (arg12 : Memref sig .tc .vmem S1x2x64x236 .i8) (harg12 : arg12.IsWhole) (arg13 : Memref sig .tc .vmem S1x2x64x236 .i8) (harg13 : arg13.IsWhole)
    (arg14 : Memref sig .tc .vmem S1x2x64x236 .i8) (harg14 : arg14.IsWhole) (arg15 : Memref sig .tc .vmem S1x2x64x236 .i8) (harg15 : arg15.IsWhole)
    (arg16 : Memref sig .tc .vmem S1x64x128 .f32) (harg16 : arg16.IsWhole)
    (f1 : Buf (Elt Ideal) (arg1.view.loc (c : Thread nD τ))) (f2 : Buf (Elt Ideal) (arg2.view.loc (c : Thread nD τ)))
    (f3 : Buf (Elt Ideal) (arg3.view.loc (c : Thread nD τ))) (f4 : Buf (Elt Ideal) (arg4.view.loc (c : Thread nD τ)))
    (f5 : Buf (Elt Ideal) (arg5.view.loc (c : Thread nD τ))) (f6 : Buf (Elt Ideal) (arg6.view.loc (c : Thread nD τ)))
    (f12 : Buf (Elt Ideal) (arg12.view.loc (c : Thread nD τ))) (f13 : Buf (Elt Ideal) (arg13.view.loc (c : Thread nD τ)))
    (f14 : Buf (Elt Ideal) (arg14.view.loc (c : Thread nD τ))) (f15 : Buf (Elt Ideal) (arg15.view.loc (c : Thread nD τ)))
    (f16 : Buf (Elt Ideal) (arg16.view.loc (c : Thread nD τ)))
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (R : Buf (Elt Ideal) (arg17.view.loc (c : Thread nD τ))) (E : Buf (Elt Ideal) (arg18.view.loc (c : Thread nD τ)))
    (T : Buf (Elt Ideal) (arg19.view.loc (c : Thread nD τ)))

/-- The ring, edge and running maximum after the first step's zeroing. -/
def ringZ : Buf (Elt Ideal) (arg17.view.loc (c : Thread nD τ)) :=
  if hc : body_run.sl.v5 i = 1#1 then
    arg17.view.writes (Elt Ideal) R [⟨Rect.unit ![0, 0, 0] S3x1536x256.size inb_S3x1536x256_S3x1536x256_0_0_0, k1_pay4 (F := Ideal)⟩]
  else R
def edgeZ : Buf (Elt Ideal) (arg18.view.loc (c : Thread nD τ)) :=
  if hc : body_run.sl.v5 i = 1#1 then arg18.view.writes (Elt Ideal) E [⟨Rect.unit ![0, 0] S192x256.size inb_S192x256_S192x256_0_0, k1_pay3 (F := Ideal)⟩] else E
def topZ : Buf (Elt Ideal) (arg19.view.loc (c : Thread nD τ)) :=
  if hc : body_run.sl.v5 i = 1#1 then arg19.view.writes (Elt Ideal) T [⟨Rect.unit ![0, 0] S64x256.size inb_S64x256_S64x256_0_0, k1_pay5 (F := Ideal)⟩] else T

/-- What the step loads. -/
def inp : In where
  tl k := View.readAt (Elt Ideal) arg1.view (Rect.unit (s := S32x8x128) ![k.val, 0, 0] S1x8x128.size (inb3 k)).toLoadRect f1
  w0 := View.readAt (Elt Ideal) arg2.view (Rect.unit ![0, 0] S128x960.size inb_S128x960_S128x960_0_0).toLoadRect f2
  wl k := View.readAt (Elt Ideal) arg3.view (Rect.unit (s := S3x128x768) ![k.val, 0, 0] S1x128x768.size (inb3 k)).toLoadRect f3
  sc k := View.readAt (Elt Ideal) arg4.view (Rect.unit (s := S4x64x128) ![k.val, 0, 0] S1x64x128.size (inb3 k)).toLoadRect f4
  bi k := View.readAt (Elt Ideal) arg5.view (Rect.unit (s := S4x64x128) ![k.val, 0, 0] S1x64x128.size (inb3 k)).toLoadRect f5
  act k := View.readAt (Elt Ideal) arg6.view (Rect.unit (s := S4) ![k.val] S1.size (inb1 k)).toLoadRect f6 (Shape.Idx.first (s := S1) (by decide))
  edge := body_run.sl.v6 c i arg18 E
  xs l j := match l, j with
    | 0, 0 => body_run.sl.v252 c i arg1 arg2 arg4 arg5 arg6 f1 f2 f4 f5 f6 arg17 arg18 R E
    | 0, 1 => body_run.sl.v260 c i arg1 arg2 arg4 arg5 arg6 f1 f2 f4 f5 f6 arg17 arg18 R E
    | 0, 2 => body_run.sl.v268 c i arg1 arg2 arg4 arg5 arg6 f1 f2 f4 f5 f6 arg17 arg18 R E
    | 0, 3 => body_run.sl.v276 c i arg1 arg2 arg4 arg5 arg6 f1 f2 f4 f5 f6 arg17 arg18 R E
    | 1, 0 => body_run.sl.v398 c i arg1 arg2 arg3 arg4 arg5 arg6 f1 f2 f3 f4 f5 f6 arg17 arg18 R E
    | 1, 1 => body_run.sl.v406 c i arg1 arg2 arg3 arg4 arg5 arg6 f1 f2 f3 f4 f5 f6 arg17 arg18 R E
    | 1, 2 => body_run.sl.v414 c i arg1 arg2 arg3 arg4 arg5 arg6 f1 f2 f3 f4 f5 f6 arg17 arg18 R E
    | 1, 3 => body_run.sl.v422 c i arg1 arg2 arg3 arg4 arg5 arg6 f1 f2 f3 f4 f5 f6 arg17 arg18 R E
    | 2, 0 => body_run.sl.v544 c i arg1 arg2 arg3 arg4 arg5 arg6 f1 f2 f3 f4 f5 f6 arg17 arg18 R E
    | 2, 1 => body_run.sl.v552 c i arg1 arg2 arg3 arg4 arg5 arg6 f1 f2 f3 f4 f5 f6 arg17 arg18 R E
    | 2, 2 => body_run.sl.v560 c i arg1 arg2 arg3 arg4 arg5 arg6 f1 f2 f3 f4 f5 f6 arg17 arg18 R E
    | 2, 3 => body_run.sl.v568 c i arg1 arg2 arg3 arg4 arg5 arg6 f1 f2 f3 f4 f5 f6 arg17 arg18 R E
  live l := match l with
    | 0 => body_run.sl.v129 i
    | 1 => body_run.sl.v243 i
    | 2 => body_run.sl.v389 i

set_option maxHeartbeats 4000000 in
theorem HR_6_eq : body_run.sl.HR_6 c i arg1 arg2 arg4 arg5 arg6 f1 f2 f4 f5 f6 arg18 E = put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []) := by
  simp only [body_run.sl.HR_6, body_run.sl.HR_3]
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
set_option maxHeartbeats 4000000 in
theorem HR_12_eq : body_run.sl.HR_12 c i arg1 arg2 arg3 arg4 arg5 arg6 f1 f2 f3 f4 f5 f6 arg17 arg18 R E = put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []))) := by
  simp only [body_run.sl.HR_12, body_run.sl.HR_9]
  rw [HR_6_eq c i arg1 arg2 arg3 arg4 arg5 arg6 f1 f2 f3 f4 f5 f6 arg17 arg18 R E]
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
set_option maxHeartbeats 4000000 in
theorem HR_18_eq : body_run.sl.HR_18 c i arg1 arg2 arg3 arg4 arg5 arg6 f1 f2 f3 f4 f5 f6 arg17 arg18 R E = put2 i 1 ((inp c i arg1 arg2 arg3 arg4 arg5 arg6 f1 f2 f3 f4 f5 f6 arg17 arg18 R E).mid 2 1) (put2 i 0 ((inp c i arg1 arg2 arg3 arg4 arg5 arg6 f1 f2 f3 f4 f5 f6 arg17 arg18 R E).mid 2 0) (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []))))) := by
  simp only [body_run.sl.HR_18, body_run.sl.HR_15]
  rw [HR_12_eq]
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl

set_option maxHeartbeats 4000000 in
theorem found12 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.1 =
    if hc : k1_cond3 i = 1#1 then
      arg12.view.writes (Elt Ideal) f12 [⟨Rect.unit ![0, 1, 0, 0] S1x1x64x236.size inb_S1x2x64x236_S1x1x64x236_0_1_0_0, outv ((inp c i arg1 arg2 arg3 arg4 arg5 arg6 f1 f2 f3 f4 f5 f6 arg17 arg18 R E).q 0 1)⟩,
        ⟨Rect.unit ![0, 0, 0, 0] S1x1x64x236.size inb_S1x2x64x236_S1x1x64x236_0_0_0_0, outv ((inp c i arg1 arg2 arg3 arg4 arg5 arg6 f1 f2 f3 f4 f5 f6 arg17 arg18 R E).q 0 0)⟩]
    else f12 := by
  delta body_run
  dsimp only
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
set_option maxHeartbeats 4000000 in
theorem found13 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.1 =
    if hc : k1_cond5 i = 1#1 then
      arg13.view.writes (Elt Ideal) f13 [⟨Rect.unit ![0, 1, 0, 0] S1x1x64x236.size inb_S1x2x64x236_S1x1x64x236_0_1_0_0, outv ((inp c i arg1 arg2 arg3 arg4 arg5 arg6 f1 f2 f3 f4 f5 f6 arg17 arg18 R E).q 1 1)⟩,
        ⟨Rect.unit ![0, 0, 0, 0] S1x1x64x236.size inb_S1x2x64x236_S1x1x64x236_0_0_0_0, outv ((inp c i arg1 arg2 arg3 arg4 arg5 arg6 f1 f2 f3 f4 f5 f6 arg17 arg18 R E).q 1 0)⟩]
    else f13 := by
  delta body_run
  dsimp only
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
set_option maxHeartbeats 4000000 in
theorem found14 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.1 =
    if hc : k1_cond7 i = 1#1 then
      arg14.view.writes (Elt Ideal) f14 [⟨Rect.unit ![0, 1, 0, 0] S1x1x64x236.size inb_S1x2x64x236_S1x1x64x236_0_1_0_0, outv ((inp c i arg1 arg2 arg3 arg4 arg5 arg6 f1 f2 f3 f4 f5 f6 arg17 arg18 R E).q 2 1)⟩,
        ⟨Rect.unit ![0, 0, 0, 0] S1x1x64x236.size inb_S1x2x64x236_S1x1x64x236_0_0_0_0, outv ((inp c i arg1 arg2 arg3 arg4 arg5 arg6 f1 f2 f3 f4 f5 f6 arg17 arg18 R E).q 2 0)⟩]
    else f14 := by
  delta body_run
  dsimp only
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
set_option maxHeartbeats 4000000 in
theorem found15 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.2.1 =
    if hc : k1_cond9 i = 1#1 then
      arg15.view.writes (Elt Ideal) f15 [⟨Rect.unit ![0, 1, 0, 0] S1x1x64x236.size inb_S1x2x64x236_S1x1x64x236_0_1_0_0, outv ((inp c i arg1 arg2 arg3 arg4 arg5 arg6 f1 f2 f3 f4 f5 f6 arg17 arg18 R E).q 3 1)⟩,
        ⟨Rect.unit ![0, 0, 0, 0] S1x1x64x236.size inb_S1x2x64x236_S1x1x64x236_0_0_0_0, outv ((inp c i arg1 arg2 arg3 arg4 arg5 arg6 f1 f2 f3 f4 f5 f6 arg17 arg18 R E).q 3 0)⟩]
    else f15 := by
  delta body_run
  dsimp only
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl

/-- The running maximum's contents at the end of the step. -/
def topEnd : Buf (Elt Ideal) (arg19.view.loc (c : Thread nD τ)) :=
  if hc : k1_cond9 i = 1#1 then
    arg19.view.writes (Elt Ideal) (topZ c i arg19 T)
      [⟨Rect.unit ![0, 0] S64x256.size inb_S64x256_S64x256_0_0, topv (body_run.sl.v623_1 c i arg1 arg2 arg3 arg4 arg5 arg6 f1 f2 f3 f4 f5 f6 arg17 arg18 arg19 R E T) ((inp c i arg1 arg2 arg3 arg4 arg5 arg6 f1 f2 f3 f4 f5 f6 arg17 arg18 R E).y 3 1)⟩,
       ⟨Rect.unit ![0, 0] S64x256.size inb_S64x256_S64x256_0_0, topv (body_run.sl.v623 c i arg19 T) ((inp c i arg1 arg2 arg3 arg4 arg5 arg6 f1 f2 f3 f4 f5 f6 arg17 arg18 R E).y 3 0)⟩]
  else topZ c i arg19 T

set_option maxHeartbeats 4000000 in
theorem found16 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.2.2.1 =
    if hc : k1_cond10 i = 1#1 then
      arg16.view.writes (Elt Ideal) f16 [⟨Rect.unit ![0, 0, 0] S1x64x128.size inb_S1x64x128_S1x64x128_0_0_0,
        k1_pay1 (View.readAt (Elt Ideal) arg19.view (Rect.unit ![0, 0] S64x256.size inb_S64x256_S64x256_0_0).toLoadRect (topEnd c i arg1 arg2 arg3 arg4 arg5 arg6 f1 f2 f3 f4 f5 f6 arg17 arg18 arg19 R E T))⟩]
    else f16 := by
  delta body_run
  dsimp only
  simp only [body_run.sl.v619]
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
theorem found17 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.2.2.2.1 = arg17.view.writes (Elt Ideal) (ringZ c i arg17 R)
    (put2 i 1 ((inp c i arg1 arg2 arg3 arg4 arg5 arg6 f1 f2 f3 f4 f5 f6 arg17 arg18 R E).mid 2 1) (put2 i 0 ((inp c i arg1 arg2 arg3 arg4 arg5 arg6 f1 f2 f3 f4 f5 f6 arg17 arg18 R E).mid 2 0) (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) [])))))) := by
  delta body_run
  dsimp only
  rw [HR_18_eq]
  rfl
theorem found18 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.2.2.2.2.1 = arg18.view.writes (Elt Ideal) (edgeZ c i arg18 E)
    [⟨Rect.unit ![0, 0] S192x256.size inb_S192x256_S192x256_0_0, shapeCast S192x256 ((inp c i arg1 arg2 arg3 arg4 arg5 arg6 f1 f2 f3 f4 f5 f6 arg17 arg18 R E).col 3) shapeCasts_S192x256_S192x256⟩] := by
  delta body_run
  dsimp only
  simp only [body_run.sl.HE_1, body_run.sl.r_11, pay19_eq]
  rfl
set_option maxHeartbeats 4000000 in
theorem found19 : (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f1 f2 f3 f4 f5 f6 f12 f13 f14 f15 f16 arg17 harg17 arg18 harg18 arg19 harg19 R E T).1.2.2.2.2.2.2.2 = topEnd c i arg1 arg2 arg3 arg4 arg5 arg6 f1 f2 f3 f4 f5 f6 arg17 arg18 arg19 R E T := by
  delta body_run
  dsimp only
  simp only [body_run.sl.r, body_run.sl.r_1, body_run.sl.r_2, body_run.sl.r_3, body_run.sl.r_4, body_run.sl.r_5, body_run.sl.r_6, body_run.sl.r_7,
    body_run.sl.r_8, body_run.sl.r_9, body_run.sl.r_10, body_run.sl.r_11, body_run.sl.r_12, body_run.sl.r_13, body_run.sl.r_14,
    body_run.sl.r_15, body_run.sl.r_16, body_run.sl.r_17, body_run.sl.r_18, body_run.sl.r_19, body_run.sl.r_20, body_run.sl.r_21,
    body_run.sl.r_22, body_run.sl.r_23, body_run.sl.r_24, body_run.sl.r_25, body_run.sl.r_26, body_run.sl.r_27, body_run.sl.r_28,
    body_run.sl.r_29, body_run.sl.r_30, body_run.sl.r_31, body_run.sl.r_32, body_run.sl.r_33, body_run.sl.r_34, body_run.sl.r_35,
    body_run.sl.r_36, body_run.sl.r_37, body_run.sl.r_38, body_run.sl.r_39, body_run.sl.r_40, pay7_eq, pay12_eq, pay18_eq, pay19_eq,
    pay21_eq, pay23_eq, pay24_eq, pay25_eq, pay26_eq, pay27_eq, pay31_eq, pay33_eq, pay34_eq, pay36_eq, pay40_eq, pay41_eq, pay42_eq,
    pay44_eq, pay45_eq, pay46_eq, pay49_eq, pay50_eq, pay51_eq, pay52_eq, pay53_eq, pay56_eq, pay57_eq, pay59_eq, pay61_eq, pay62_eq,
    pay64_eq, pay66_eq, pay67_eq, pay70_eq, pay71_eq, pay72_eq, pay74_eq, pay77_eq, pay78_eq, pay80_eq, pay81_eq]
  rfl
end

end Cert.KernelIdeal.Hand

end
-- ==== Proof.Hand.KernelIdeal.HostVals.lean ====
/-
  Hand-written, untrusted. What the calls read, in the launch memory's terms: the canvas of a batch element, and the arrays the first host operations prepare.
-/
module

public import proofs.«01_k».proof.Proof.Hand.KernelIdeal.Run
public import proofs.«01_k».proof.Proof.Hand.Model
public import Idealize.ShloMosaic.Lib.StableHlo.RunRead
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Cert.Hand

variable (m : (ℓ : Loc nD τ sig) → Buf (Elt Ideal) ℓ) (c : Dev nD)

/-- The canvas of batch element `k`. -/
def can : Fin 5 → IVec S3744x8x128 32 := fun
  | 0 => m ((c : Thread nD τ).loc main_arg0) | 1 => m ((c : Thread nD τ).loc main_arg1) | 2 => m ((c : Thread nD τ).loc main_arg2)
  | 3 => m ((c : Thread nD τ).loc main_arg3) | 4 => m ((c : Thread nD τ).loc main_arg4)

/-- The launch memory's inputs, at batch element `b`. -/
def par (b : Fin 5) : Par where
  can := rd3 0 (can m c b)
  w := rd5 0 (m ((c : Thread nD τ).loc main_arg5) : IVec S4x3x3x64x64 8)
  ws := rd2 0 (m ((c : Thread nD τ).loc main_arg6) : FVec Ideal S4x64 .f32)
  bs := rd2 0 (m ((c : Thread nD τ).loc main_arg7) : FVec Ideal S4x64 .f32)
  pf := rd1 0 (m ((c : Thread nD τ).loc main_arg8) : FVec Ideal S1 .f32)
  act := rd1 0 (m ((c : Thread nD τ).loc main_arg9) : FVec Ideal S4 .f32)

variable (b : Fin 5)

/-- A weight of layer `l` in the layout of the contraction: the second half of the rows is placed `s` columns on. -/
def wk (P : Par) (s l r n : ℕ) : EReal :=
  if (if r < 64 then 0 else s) ≤ n / 192 ∧ n / 192 < (if r < 64 then 0 else s) + 3 then
    sr (P.w l (n / 64 % 3) (n / 192 - (if r < 64 then 0 else s)) (n % 64) (r % 64)) else 0

theorem sitofp_ext (x : BitVec 8) : FloatOps.sitofp (F := Ideal) .bf16 (x.signExtend 32) = sr x := by
  show (((x.signExtend 32).toInt : ℝ) : EReal) = ((x.toInt : ℝ) : EReal)
  rw [BitVec.toInt_signExtend_of_le (by decide)]

theorem weight (i : Fin 4) (j k : Fin 3) (l o : Fin 64) :
    FloatOps.sitofp (F := Ideal) .bf16 (BitVec.signExtend 32 ((m (c, Proc.tc.devRef main_arg5) : IVec S4x3x3x64x64 8) (ix5 i j k l o))) = sr ((par m c b).w i j k l o) := by
  rw [sitofp_ext]
  exact congrArg sr (rd5_eq (0 : BitVec 8) (m (c, Proc.tc.devRef main_arg5) : IVec S4x3x3x64x64 8) i j k l o)

theorem V_w0 (r : Fin 128) (n : Fin 960) : (V1 m c main_v13 : FVec Ideal S128x960 .bf16) (ix2 r n) = wk (par m c b) 2 0 r n := by
  show (StableHlo.after hostOps0 (fun b => m (c, b)) (Proc.devRef .tc main_v13) : FVec Ideal S128x960 .bf16) (ix2 r n) = _
  after_reads_simp
  pointwise []
  after_reads_simp
  pointwise []
  after_reads_simp
  pointwise []
  simp only [weight m c b]
  have := r.isLt; have := n.isLt
  unfold wk
  split_ifs <;> first | rfl | (exfalso; omega) | (congr 2 <;> (try dsimp only [Fin.val_zero]) <;> omega)

theorem V_wl (l : Fin 3) (r : Fin 128) (n : Fin 768) : (V1 m c main_v15 : FVec Ideal S3x128x768 .bf16) (ix3 l r n) = wk (par m c b) 1 (l + 1) r n := by
  show (StableHlo.after hostOps0 (fun b => m (c, b)) (Proc.devRef .tc main_v15) : FVec Ideal S3x128x768 .bf16) (ix3 l r n) = _
  after_reads_simp
  pointwise []
  simp only [StableHlo.upto, hostOps0, List.take]
  after_results_simp
  pointwise []
  simp only [weight m c b]
  have := r.isLt; have := n.isLt
  unfold wk
  split_ifs <;> first | rfl | (exfalso; omega) | (congr 2 <;> (try dsimp only [Fin.val_zero]) <;> omega)

theorem V_bi (l : Fin 4) (r : Fin 64) (y : Fin 128) : (V1 m c main_v24 : FVec Ideal S4x64x128 .f32) (ix3 l r y) = (par m c b).bs l r := by
  show (StableHlo.after hostOps0 (fun b => m (c, b)) (Proc.devRef .tc main_v24) : FVec Ideal S4x64x128 .f32) (ix3 l r y) = _
  after_reads_simp
  pointwise []
  exact rd2_eq (0 : EReal) (m (c, Proc.tc.devRef main_arg7) : FVec Ideal S4x64 .f32) l r

theorem V_sc (l : Fin 4) (r : Fin 64) (y : Fin 128) : (V1 m c main_v22 : FVec Ideal S4x64x128 .f32) (ix3 l r y) = (par m c b).sc l r := by
  show (StableHlo.after hostOps0 (fun b => m (c, b)) (Proc.devRef .tc main_v22) : FVec Ideal S4x64x128 .f32) (ix3 l r y) = _
  after_reads_simp
  pointwise []
  after_reads_simp
  pointwise []
  rw [Par.sc]
  congr 1
  · by_cases h : l.val = 0
    · rw [dif_pos (by omega), if_pos h]
      exact (rd1_eq (0 : EReal) (m (c, Proc.tc.devRef main_arg8) : FVec Ideal S1 .f32) ⟨l, _⟩).trans (congrArg (par m c b).pf h)
    · rw [dif_neg (by omega), if_neg h]
      exact rd1_eq (0 : EReal) (m (c, Proc.tc.devRef main_arg9) : FVec Ideal S4 .f32) ⟨l - 1, _⟩
  · exact rd2_eq (0 : EReal) (m (c, Proc.tc.devRef main_arg6) : FVec Ideal S4x64 .f32) l r

section Block

variable (D : Call) (V : Valuation τ sig (Elt Ideal))

theorem index0 : ∀ t : Fin D.cfg.N, D.win0.index t = ![min t.val 116, 0, 0] := (by decide +kernel : ∀ t : Fin grid1.N, cc1_transform_0 (grid1.coords t) = ![min t.val 116, 0, 0])
theorem index1 : ∀ t : Fin D.cfg.N, D.win1.index t = ![0, 0] := (by decide +kernel : ∀ t : Fin grid1.N, cc1_transform_1 (grid1.coords t) = ![0, 0])
theorem index2 : ∀ t : Fin D.cfg.N, D.win2.index t = ![0, 0, 0] := (by decide +kernel : ∀ t : Fin grid1.N, cc1_transform_2 (grid1.coords t) = ![0, 0, 0])
theorem index3 : ∀ t : Fin D.cfg.N, D.win3.index t = ![0, 0, 0] := (by decide +kernel : ∀ t : Fin grid1.N, cc1_transform_3 (grid1.coords t) = ![0, 0, 0])
theorem index4 : ∀ t : Fin D.cfg.N, D.win4.index t = ![0, 0, 0] := (by decide +kernel : ∀ t : Fin grid1.N, cc1_transform_4 (grid1.coords t) = ![0, 0, 0])
theorem index5 : ∀ t : Fin D.cfg.N, D.win5.index t = ![0] := (by decide +kernel : ∀ t : Fin grid1.N, cc1_transform_5 (grid1.coords t) = ![0])

theorem iblk0 (t : Fin D.cfg.N) (k : Fin 32) (s : Fin 8) (l : Fin 128) :
    (iblk D V 0 t : IVec S32x8x128 32) (ix3 k s l) = D.src.view.read (Elt Ideal) (V (Proc.devRef .tc (Pipeline.arrRef D.cfg.spec 0))) (ix3 ⟨32 * min t.val 116 + k, by omega⟩ s l) := by
  have e : (D.win0.rect t).emb (ix3 k s l) = (ix3 ⟨32 * min t.val 116 + k, by omega⟩ s l : S3744x8x128.Idx) := by
    blk_ext [index0]
    all_goals (simp only [Pipeline.WinKind.off]; omega)
  exact congrArg (D.src.view.read (Elt Ideal) (V (Proc.devRef .tc (Pipeline.arrRef D.cfg.spec 0)))) e

theorem iblk1 (t : Fin D.cfg.N) (r : Fin 128) (n : Fin 960) :
    (iblk D V 1 t : FVec Ideal S128x960 .bf16) (ix2 r n) = (V (Proc.devRef .tc main_v13) : FVec Ideal S128x960 .bf16) (ix2 r n) := by
  have e : (D.win1.blk t).view.emb (ix2 r n) = (ix2 r n : S128x960.Idx) := by blk_ext [index1]
  exact congrArg (V (Proc.devRef .tc main_v13) : FVec Ideal S128x960 .bf16) e

theorem iblk2 (t : Fin D.cfg.N) (l : Fin 3) (r : Fin 128) (n : Fin 768) :
    (iblk D V 2 t : FVec Ideal S3x128x768 .bf16) (ix3 l r n) = (V (Proc.devRef .tc main_v15) : FVec Ideal S3x128x768 .bf16) (ix3 l r n) := by
  have e : (D.win2.blk t).view.emb (ix3 l r n) = (ix3 l r n : S3x128x768.Idx) := by blk_ext [index2]
  exact congrArg (V (Proc.devRef .tc main_v15) : FVec Ideal S3x128x768 .bf16) e

theorem iblk3 (t : Fin D.cfg.N) (l : Fin 4) (r : Fin 64) (y : Fin 128) :
    (iblk D V 3 t : FVec Ideal S4x64x128 .f32) (ix3 l r y) = (V (Proc.devRef .tc main_v22) : FVec Ideal S4x64x128 .f32) (ix3 l r y) := by
  have e : (D.win3.blk t).view.emb (ix3 l r y) = (ix3 l r y : S4x64x128.Idx) := by blk_ext [index3]
  exact congrArg (V (Proc.devRef .tc main_v22) : FVec Ideal S4x64x128 .f32) e

theorem iblk4 (t : Fin D.cfg.N) (l : Fin 4) (r : Fin 64) (y : Fin 128) :
    (iblk D V 4 t : FVec Ideal S4x64x128 .f32) (ix3 l r y) = (V (Proc.devRef .tc main_v24) : FVec Ideal S4x64x128 .f32) (ix3 l r y) := by
  have e : (D.win4.blk t).view.emb (ix3 l r y) = (ix3 l r y : S4x64x128.Idx) := by blk_ext [index4]
  exact congrArg (V (Proc.devRef .tc main_v24) : FVec Ideal S4x64x128 .f32) e

theorem iblk5 (t : Fin D.cfg.N) (k : Fin 4) :
    (iblk D V 5 t : FVec Ideal S4 .f32) (ix1 k) = (V (Proc.devRef .tc main_arg9) : FVec Ideal S4 .f32) (ix1 k) := by
  have e : (D.win5.blk t).view.emb (ix1 k) = (ix1 k : S4.Idx) := by blk_ext [index5]
  exact congrArg (V (Proc.devRef .tc main_arg9) : FVec Ideal S4 .f32) e

end Block

end Cert.KernelIdeal.Hand

end
-- ==== Proof.Hand.KernelIdeal.Vals.lean ====
/-
  Hand-written, untrusted. The vectors of one step, where what it loads is what the model says it should be: every layer's columns, and what goes into
  the rings.
-/
module

public import proofs.«01_k».proof.Proof.Hand.KernelIdeal.Found
public import proofs.«01_k».proof.Proof.Hand.KernelIdeal.HostVals

@[expose] public section

set_option maxRecDepth 16384

noncomputable section

namespace Cert.KernelIdeal.Hand

open Cert.KernelIdeal Cert.KernelIdeal.Gen
open Idealize.ShloMosaic Idealize.ShloMosaic.TcCoe Cert.Hand

/-- The padded codes of layer `l + 1`, by the count of the column in ring `l`: the ring holds zeros before the first. -/
def Xc (P : Par) (l u yy ch : ℕ) : EReal := if 4 * l + 8 ≤ u then P.X (l + 1) yy (u - 4 * l - 7) ch else 0

/-- Odd tiles hold nothing in the lanes past the canvas. -/
def Clear (P : Par) : Prop := ∀ a s l : ℕ, a % 2 = 1 → 108 ≤ l → P.can a s l = 0#32

/-- What a step's loads hold, the rings aside. -/
structure Base (P : Par) (t : ℕ) (I : In) : Prop where
  tl : t ≤ 116 → ∀ (k : Fin 32) (s : Fin 8) (l : Fin 128), I.tl k (ix3 0 s l) = P.can (32 * t + k) s l
  w0 : ∀ (r : Fin 128) (n : Fin 960), I.w0 (ix2 r n) = wk P 2 0 r n
  wl : ∀ (l : Fin 3) (r : Fin 128) (n : Fin 768), I.wl l (ix3 0 r n) = wk P 1 (l + 1) r n
  sc : ∀ (l : Fin 4) (r : Fin 64) (z : Fin 128), I.sc l (ix3 0 r z) = P.sc l r
  bi : ∀ (l : Fin 4) (r : Fin 64) (z : Fin 128), I.bi l (ix3 0 r z) = P.bs l r
  act : ∀ l : Fin 4, I.act l = P.act l
  edge : t ≤ 116 → ∀ (r : Fin 192) (y : Fin 256), y.val < 236 → I.edge (ix2 r y) = P.X0 (2 * y + r / 64) (4 * t) (r % 64)
  live : ∀ l : Fin 3, I.live l = 1#1 ↔ 2 * l.val ≤ t ∧ t - 2 * l.val < 117

/-- What a step loads from ring `l`. -/
def Ringed (P : Par) (t : ℕ) (I : In) (l : Fin 3) : Prop :=
  ∀ (j : Fin 4) (n : Fin 192) (y : Fin 256), y.val < 236 → I.xs l j (ix3 0 n y) = Xc P l (2 * t + 3 + j) (y + n / 64) (n % 64)

section
variable {P : Par} {t : ℕ} {I : In} (hB : Base P t I)
include hB

theorem col_eq (hP : Clear P) (ht : t ≤ 116) (k : Fin 4) (r : Fin 192) (y : Fin 256) (hy : y.val < 236) :
    I.col k (ix2 r y) = P.X0 (2 * y + r / 64) (4 * t + k + 1) (r % 64) := by
  have hr := r.isLt
  have hk := k.isLt
  rw [In.col, colv_apply _ (fun r y => P.can (32 * t + (8 * k + (2 * (r / 8) + y / 128))) (r % 8) (y % 128))
    (fun r y => wordv_apply _ _ _ _ _ _ _ _ (fun j s l => P.can (32 * t + (8 * k + j)) s l)
      (fun s l => hB.tl ht _ s l) (fun s l => hB.tl ht _ s l) (fun s l => hB.tl ht _ s l) (fun s l => hB.tl ht _ s l)
      (fun s l => hB.tl ht _ s l) (fun s l => hB.tl ht _ s l) (fun s l => hB.tl ht _ s l) (fun s l => hB.tl ht _ s l) r y)]
  unfold Par.X0
  have key : ∀ a s l j a' s' l' j' : ℕ, a = a' → s = s' → l = l' → j = j' → sr (byte j (P.can a s l)) = sr (byte j' (P.can a' s' l')) := by
    rintro a s l j _ _ _ _ rfl rfl rfl rfl; rfl
  by_cases h0 : y.val = 0 ∧ r.val < 64
  · refine Eq.trans ?_ (if_neg (by omega)).symm
    rw [if_neg (show ¬ (64 ≤ r.val ∧ r.val < 128) by omega), if_pos h0.2, hP _ _ _ (by omega) (by omega)]
    have : byte (r.val % 4) 0#32 = 0#8 := by simp [byte]
    rw [this]
    exact zero_sr
  · refine Eq.trans ?_ (if_pos (by omega)).symm
    split_ifs <;> exact key _ _ _ _ _ _ _ _ (by omega) (by omega) (by omega) (by omega)

theorem acc_zero (hP : Clear P) (ht : t ≤ 116) (r : Fin 128) (y : Fin 256) (hy : y.val < 236) :
    I.acc 0 (ix2 r y) = P.taps P.X0 0 2 y (2 * t + r / 64) (r % 64) := by
  have hr := r.isLt
  have hcol : ∀ (k : Fin 4) (n : Fin 192), I.col k (ix2 n y) = P.X0 (2 * y + n / 64) (4 * t + (k + 1)) (n % 64) := fun k n => by
    rw [col_eq hB hP ht k n y hy]; rfl
  refine (acc0_apply _ _ _ _ _ _ (fun r n => wk P 2 0 r n) (fun i n y => P.X0 (2 * y + n / 64) (4 * t + i) (n % 64)) y hB.w0
    (fun n => hB.edge ht n y hy) (hcol 0) (hcol 1) (hcol 2) (hcol 3) r).trans ?_
  refine Eq.trans ?_ ((kernel_sum 5 (if r.val < 64 then 0 else 2) (by split_ifs <;> omega) (fun a b c => sr (P.w 0 a b c (r % 64)))
    (fun k i c => P.X0 (2 * y + k) (4 * t + i) c)).trans ?_)
  · refine Finset.sum_congr rfl fun n hn => ?_
    have e1 : n % 192 / 64 = n / 64 % 3 := by omega
    have e2 : n % 192 % 64 = n % 64 := by omega
    simp only [e1, e2]
    rfl
  · refine Finset.sum_congr rfl fun n hn => ?_
    have e : 4 * t + ((if r.val < 64 then 0 else 2) + n / 64 % 3) = 2 * (2 * t + r.val / 64) + n / 64 % 3 := by split_ifs <;> omega
    simp only [e]

theorem Xc_eq (l u yy ch : ℕ) (h : 4 * l + 7 ≤ u) : Xc P l u yy ch = P.X (l + 1) yy (u - 4 * l - 7) ch := by
  unfold Xc
  by_cases h' : 4 * l + 8 ≤ u
  · rw [if_pos h']
  · rw [if_neg h', Par.X_succ, if_neg (by omega)]

theorem acc_succ (l : Fin 3) (hX : Ringed P t I l) (ht : 2 * (l.val + 1) ≤ t) (r : Fin 128) (y : Fin 256) (hy : y.val < 236) :
    I.acc l.succ (ix2 r y) = P.taps (P.X (l + 1)) (l + 1) 1 y (2 * (t - 2 * (l + 1)) + r / 64) (r % 64) := by
  have hr := r.isLt
  have hx : ∀ (j : Fin 4) (n : Fin 192), I.xs l j (ix3 0 n y) = P.X (l + 1) (y + n / 64) (2 * (t - 2 * (l + 1)) + j) (n % 64) := fun j n => by
    rw [hX j n y hy, Xc_eq hB _ _ _ _ (by omega)]
    exact congrArg (fun a => P.X (l + 1) (y + n / 64) a (n % 64)) (by omega)
  have ha : I.acc l.succ = accl (I.wl l) (I.xs l 0) (I.xs l 1) (I.xs l 2) (I.xs l 3) := by fin_cases l <;> rfl
  rw [ha]
  refine (accl_apply _ _ _ _ _ (fun r n => wk P 1 (l + 1) r n) (fun i n y => P.X (l + 1) (y + n / 64) (2 * (t - 2 * (l + 1)) + i) (n % 64)) y (hB.wl l)
    (hx 0) (hx 1) (hx 2) (hx 3) r).trans ?_
  refine Eq.trans ?_ ((kernel_sum 4 (if r.val < 64 then 0 else 1) (by split_ifs <;> omega) (fun a b c => sr (P.w (l + 1) a b c (r % 64)))
    (fun k i c => P.X (l + 1) (y + k) (2 * (t - 2 * (l + 1)) + i) c)).trans ?_)
  · refine Finset.sum_congr rfl fun n hn => ?_
    have e1 : n % 192 / 64 = n / 64 % 3 := by omega
    have e2 : n % 192 % 64 = n % 64 := by omega
    simp only [e1, e2]
    rfl
  · refine Finset.sum_congr rfl fun n hn => ?_
    have e : 2 * (t - 2 * (l.val + 1)) + ((if r.val < 64 then 0 else 1) + n / 64 % 3) = 1 * (2 * (t - 2 * (l.val + 1)) + r.val / 64) + n / 64 % 3 := by
      split_ifs <;> omega
    simp only [e, one_mul]

/-- A live layer's output before quantising. -/
theorem y_eq (hP : Clear P) (l : Fin 4) (hX : ∀ l' : Fin 3, l'.val + 1 = l.val → Ringed P t I l') (ht : 2 * l.val ≤ t) (ht' : t - 2 * l.val < 117) (c : Fin 2)
    (r : Fin 64) (y : Fin 256) (hy : y.val < 236) : I.y l c (ix2 r y) = P.y l y (2 * (t - 2 * l) + c) r := by
  have hr := r.isLt
  have hc := c.isLt
  rw [In.y, actv_apply _ _ _ (P.sc l) (P.bs l) (hB.sc l) (hB.bi l), halfv_apply]
  have e1 : (c.val * 64 + r.val) / 64 = c.val := by omega
  have e2 : (c.val * 64 + r.val) % 64 = r.val := by omega
  refine congrArg (fun a => max (a * _ + _) 0) ?_
  induction l using Fin.cases with
  | zero =>
    refine (acc_zero hB hP (by simpa using Nat.lt_succ_iff.mp ht') _ y hy).trans ?_
    simp only [e1, e2]
    rfl
  | succ l =>
    refine (acc_succ hB l (hX l rfl) ht _ y hy).trans ?_
    simp only [e1, e2]
    rfl

theorem q_eq (hP : Clear P) (l : Fin 4) (hX : ∀ l' : Fin 3, l'.val + 1 = l.val → Ringed P t I l') (ht : 2 * l.val ≤ t) (ht' : t - 2 * l.val < 117) (c : Fin 2)
    (r : Fin 64) (y : Fin 256) (hy : y.val < 236) : I.q l c (ix2 r y) = P.q l y (2 * (t - 2 * l) + c) r := by
  rw [In.q, quantv_apply, y_eq hB hP l hX ht ht' c r y hy, hB.act]
  rfl

/-- What goes into ring `l`. -/
theorem mid_eq (hP : Clear P) (l : Fin 3) (hX : ∀ l' : Fin 3, l'.val + 1 = l.val → Ringed P t I l') (c : Fin 2) (r : Fin 64) (y : Fin 256) :
    I.mid l c (ix2 r y) = Xc P l (2 * t + 8 + c) (y + 1) r := by
  have hc := c.isLt
  rw [In.mid, midv_apply]
  simp only [hB.live l]
  unfold Xc
  by_cases h1 : 2 * l.val ≤ t
  · rw [if_pos (show 4 * l.val + 8 ≤ 2 * t + 8 + c.val by omega), Par.X_succ]
    by_cases h2 : y.val < 236 ∧ t - 2 * l.val < 117
    · rw [if_pos ⟨h2.1, h1, h2.2⟩, if_pos (by omega)]
      refine congrArg sr ((q_eq hB hP (l.castLE (by decide)) hX h1 h2.2 c r y h2.1).trans ?_)
      refine congrArg (fun a => P.q l y a r) ?_
      show 2 * (t - 2 * l.val) + c.val = _
      omega
    · rw [if_neg (by omega), if_neg (by omega)]
  · rw [if_neg (by omega), if_neg (by omega)]
end

/-- The three shifted copies of a column. -/
theorem rowk_apply {P : Par} (l u : ℕ) (m : FVec Ideal S64x256 .bf16) (hm : ∀ (r : Fin 64) (y : Fin 256), m (ix2 r y) = Xc P l u (y + 1) r) (k : Fin 3)
    (r : Fin 64) (y : Fin 256) (hy : y.val < 236) : rowk k m (ix3 0 r y) = Xc P l u (y + k) r := by
  have out : ∀ yy, yy = 0 ∨ 237 ≤ yy → Xc P l u yy r = 0 := fun yy h => by
    unfold Xc
    split_ifs
    · rw [Par.X_succ, if_neg (by omega)]
    · rfl
  match k with
  | 0 =>
    refine (rowv_apply _ r y).trans ((shiftv_apply 1#32 m r y 1 (by decide)).trans ((hm _ _).trans ?_))
    by_cases h : y.val = 0
    · rw [out _ (Or.inr (by dsimp only; omega)), out _ (Or.inl (by simp [h]))]
    · exact congrArg (fun a => Xc P l u a r) (by dsimp only [Fin.val_zero]; omega)
  | 1 => exact (rowv_apply _ r y).trans (hm _ _)
  | 2 =>
    refine (rowv_apply _ r y).trans ((shiftv_apply 255#32 m r y 255 (by decide)).trans ((hm _ _).trans ?_))
    exact congrArg (fun a => Xc P l u a r) (by dsimp only [Fin.val_two]; omega)

end Cert.KernelIdeal.Hand

end
-- ==== Proof.Hand.KernelIdeal.Rings.lean ====
/-
  Hand-written, untrusted. The three scratches as the model's columns: the rings under the stores of a column and the loads of one, and the running
  maximum.
-/
module

public import proofs.«01_k».proof.Proof.Hand.KernelIdeal.Vals
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Cert.Hand

/-- Ring `l` holds the columns counted from `lo` up to `hi l`. -/
def Ring (P : Par) (lo : ℕ) (hi : Fin 3 → ℕ) (A : S3x1536x256.Idx → Elt Ideal .bf16) : Prop :=
  ∀ (l : Fin 3) (u : ℕ), lo ≤ u → u < hi l → ∀ (n : Fin 192) (y : Fin 256), y.val < 236 →
    A (ix3 l ⟨(u + 4 * l) % 8 * 192 + n, by omega⟩ y) = Xc P l u (y + n / 64) (n % 64)

theorem Ring.mono {P lo lo' hi A} (h : Ring P lo hi A) (hl : lo ≤ lo') : Ring P lo' hi A := fun l u h1 h2 => h l u (hl.trans h1) h2

/-- The three stores of a column. -/
theorem ring_put (v : View sig .tc .vmem S3x1536x256 .bf16) (f : v.ty.Contents (Elt Ideal)) (l : Fin 3) (s : ℕ) (o : Fin 3 → Fin 3 → ℕ)
    (ho : ∀ k : Fin 3, o k = ![l.val, s * 192 + 64 * k.val, 0]) (inb : ∀ k a, o k a + S1x64x256.size a ≤ S3x1536x256.size a)
    (w : Fin 3 → FVec Ideal S1x64x256 .bf16) (L : List RingPiece) {P : Par} {lo : ℕ} {hi hi' : Fin 3 → ℕ} (u : ℕ) (hs : s = (u + 4 * l) % 8) (hu : hi l = u)
    (hlo : u < lo + 8) (hl : hi' l = u + 1) (hl' : ∀ l', l' ≠ l → hi' l' = hi l')
    (hw : ∀ (k : Fin 3) (r : Fin 64) (y : Fin 256), y.val < 236 → w k (ix3 0 r y) = Xc P l u (y + k) r)
    (h : Ring P lo hi (v.read (Elt Ideal) (v.writes (Elt Ideal) f L))) :
    Ring P lo hi' (v.read (Elt Ideal) (v.writes (Elt Ideal) f (⟨Rect.unit (o 2) S1x64x256.size (inb 2), w 2⟩ :: ⟨Rect.unit (o 1) S1x64x256.size (inb 1), w 1⟩
      :: ⟨Rect.unit (o 0) S1x64x256.size (inb 0), w 0⟩ :: L))) := by
  intro l' u' h1 h2 n y hy
  have hn := n.isLt
  by_cases e : l' = l ∧ u' = u
  · obtain ⟨rfl, rfl⟩ := e
    have miss : ∀ (k : Fin 3) (L : List RingPiece), n.val / 64 ≠ k.val →
        v.read (Elt Ideal) (v.writes (Elt Ideal) f (⟨Rect.unit (o k) S1x64x256.size (inb k), w k⟩ :: L)) (ix3 l' ⟨(u' + 4 * l') % 8 * 192 + n, by omega⟩ y)
          = v.read (Elt Ideal) (v.writes (Elt Ideal) f L) (ix3 l' ⟨(u' + 4 * l') % 8 * 192 + n, by omega⟩ y) := fun k L hk => by
      refine View.read_writes_cons_unit_of_not_mem v f (inb k) (w k) L _ (ho k) (1 : Fin 3) ?_
      show (u' + 4 * l'.val) % 8 * 192 + n.val < s * 192 + 64 * k.val ∨ s * 192 + 64 * k.val + 64 ≤ (u' + 4 * l'.val) % 8 * 192 + n.val
      subst hs
      omega
    have hit : ∀ (k : Fin 3) (L : List RingPiece), n.val / 64 = k.val →
        v.read (Elt Ideal) (v.writes (Elt Ideal) f (⟨Rect.unit (o k) S1x64x256.size (inb k), w k⟩ :: L)) (ix3 l' ⟨(u' + 4 * l') % 8 * 192 + n, by omega⟩ y)
          = Xc P l' u' (y + n / 64) (n % 64) := fun k L hk => by
      refine (View.read_writes_cons_unit_of_mem v f (inb k) (w k) L _ (ix3 0 ⟨n % 64, by omega⟩ y) (ho k) ?_).trans ((hw k _ y hy).trans (by rw [hk]))
      intro a
      subst hs
      match a with
      | ⟨0, _⟩ => rfl
      | ⟨1, _⟩ =>
        show (u' + 4 * l'.val) % 8 * 192 + n.val = (u' + 4 * l'.val) % 8 * 192 + 64 * k.val + n.val % 64
        omega
      | ⟨2, _⟩ => exact (Nat.zero_add _).symm
    have hk : n.val / 64 = 0 ∨ n.val / 64 = 1 ∨ n.val / 64 = 2 := by omega
    obtain hk | hk | hk := hk
    · rw [miss 2 _ (by rw [hk]; decide), miss 1 _ (by rw [hk]; decide)]
      exact hit 0 _ hk
    · rw [miss 2 _ (by rw [hk]; decide)]
      exact hit 1 _ hk
    · exact hit 2 _ hk
  · have h3 : u' < hi l' := by
      by_cases el : l' = l
      · subst el; rw [hl] at h2; rw [hu]; have : u' ≠ u := fun h => e ⟨rfl, h⟩; omega
      · rw [← hl' l' el]; exact h2
    have miss : ∀ (k : Fin 3) (L : List RingPiece),
        v.read (Elt Ideal) (v.writes (Elt Ideal) f (⟨Rect.unit (o k) S1x64x256.size (inb k), w k⟩ :: L)) (ix3 l' ⟨(u' + 4 * l') % 8 * 192 + n, by omega⟩ y)
          = v.read (Elt Ideal) (v.writes (Elt Ideal) f L) (ix3 l' ⟨(u' + 4 * l') % 8 * 192 + n, by omega⟩ y) := fun k L => by
      have hk := k.isLt
      by_cases el : l' = l
      · refine View.read_writes_cons_unit_of_not_mem v f (inb k) (w k) L _ (ho k) (1 : Fin 3) ?_
        show (u' + 4 * l'.val) % 8 * 192 + n.val < s * 192 + 64 * k.val ∨ s * 192 + 64 * k.val + 64 ≤ (u' + 4 * l'.val) % 8 * 192 + n.val
        subst el hs
        rw [hu] at h3
        have : (u' + 4 * l'.val) % 8 ≠ (u + 4 * l'.val) % 8 := by omega
        omega
      · refine View.read_writes_cons_unit_of_not_mem v f (inb k) (w k) L _ (ho k) (0 : Fin 3) ?_
        show l'.val < l.val ∨ l.val + 1 ≤ l'.val
        have : l'.val ≠ l.val := fun h => el (Fin.ext h)
        omega
    rw [miss 2, miss 1, miss 0]
    exact h l' u' h1 h3 n y hy

/-- The load of a column. -/
theorem ring_load (v : View sig .tc .vmem S3x1536x256 .bf16) (f : v.ty.Contents (Elt Ideal)) (l : Fin 3) (s : ℕ) (o : Fin 3 → ℕ)
    (ho : o = ![l.val, s * 192, 0]) (inb : ∀ a, o a + S1x192x256.size a ≤ S3x1536x256.size a)
    {P : Par} {lo : ℕ} {hi : Fin 3 → ℕ} (h : Ring P lo hi (v.read (Elt Ideal) f)) (u : ℕ) (hs : s = (u + 4 * l) % 8) (h1 : lo ≤ u) (h2 : u < hi l)
    (n : Fin 192) (y : Fin 256) (hy : y.val < 236) :
    View.readAt (Elt Ideal) v (Rect.unit (s := S3x1536x256) o S1x192x256.size inb).toLoadRect f (ix3 0 n y) = Xc P l u (y + n / 64) (n % 64) := by
  refine Eq.trans (congrArg (v.read (Elt Ideal) f) (funext fun a => Fin.ext ?_)) (h l u h1 h2 n y hy)
  subst ho hs
  match a with
  | ⟨0, _⟩ => rfl
  | ⟨1, _⟩ => show (u + 4 * l.val) % 8 * 192 + 1 * n.val = (u + 4 * l.val) % 8 * 192 + n.val; omega
  | ⟨2, _⟩ => show 0 + 1 * y.val = y.val; omega

/-- The load of one of `n` equal parts. -/
theorem load3 {n b d : ℕ} {sp : Space} {e : EltTy} (v : View sig .tc sp ⟨3, ![n, b, d]⟩ e) (f : v.ty.Contents (Elt Ideal)) (k : Fin n) (s : Fin b) (l : Fin d) :
    View.readAt (Elt Ideal) v (Rect.unit (s := ⟨3, ![n, b, d]⟩) ![k.val, 0, 0] (⟨3, ![1, b, d]⟩ : Shape).size (inb3 k)).toLoadRect f (ix3 0 s l)
      = v.read (Elt Ideal) f (ix3 k s l) := by
  refine congrArg (v.read (Elt Ideal) f) (funext fun a => Fin.ext ?_)
  match a with
  | ⟨0, _⟩ => rfl
  | ⟨1, _⟩ => show 0 + 1 * s.val = s.val; omega
  | ⟨2, _⟩ => show 0 + 1 * l.val = l.val; omega

/-- The edge scratch holds the last column of the step before. -/
def Edge (P : Par) (t : ℕ) (A : S192x256.Idx → Elt Ideal .bf16) : Prop :=
  t ≤ 117 → ∀ (r : Fin 192) (y : Fin 256), y.val < 236 → A (ix2 r y) = P.X0 (2 * y + r / 64) (4 * t) (r % 64)

/-- The largest of the first `k` columns of row `y`, and zero. -/
def topm (P : Par) (k y ch : ℕ) : EReal := max 0 ((Finset.range k).sup fun x => P.y 3 y x ch)

theorem topm_succ (P : Par) (k y ch : ℕ) : topm P (k + 1) y ch = max (topm P k y ch) (P.y 3 y k ch) := by
  unfold topm
  rw [Finset.range_add_one, Finset.sup_insert]
  exact (congrArg (max 0) (max_comm _ _)).trans (max_assoc _ _ _).symm

/-- The running maximum before step `t`. -/
def Top (P : Par) (t : ℕ) (A : S64x256.Idx → Elt Ideal .f32) : Prop :=
  ∀ (r : Fin 64) (y : Fin 256), A (ix2 r y) = if y.val < 236 then topm P (2 * (t - 6)) y r else 0

theorem topv_apply (T v : FVec Ideal S64x256 .f32) (r : Fin 64) (y : Fin 256) :
    topv T v (ix2 r y) = max (T (ix2 r y)) (if y.val < 236 then v (ix2 r y) else 0) := by
  pointwise [topv, k1_pay2]
  have hc : ∀ y : Fin 256, IntOp.cmpi CmpIPredicate.slt (BitVec.ofNat 32 y.val) 236#32 = if y.val < 236 then 1#1 else 0#1 := by decide +kernel
  rw [hc]
  by_cases h : y.val < 236 <;> simp [h, Scalar.select]

/-- The channel maximum. -/
def cmax (P : Par) (ch : ℕ) : EReal := (Finset.range 236).sup fun y => (Finset.range 234).sup fun x => P.y 3 y x ch

theorem cmax_nonneg (P : Par) (ch : ℕ) : 0 ≤ cmax P ch :=
  (P.y_nonneg 3 0 0 ch).trans ((Finset.le_sup (f := fun x => P.y 3 0 x ch) (Finset.mem_range.mpr (by decide : 0 < 234))).trans
    (Finset.le_sup (f := fun y => (Finset.range 234).sup fun x => P.y 3 y x ch) (Finset.mem_range.mpr (by decide : 0 < 236))))

theorem pay1_apply (P : Par) (A : FVec Ideal S64x256 .f32) (hA : Top P 123 A) (r : Fin 64) (z : Fin 128) : k1_pay1 (F := Ideal) A (ix3 0 r z) = cmax P r := by
  pointwise [k1_pay1]
  have e : Ideal.ofBits .f32 4286578688#32 = ⊥ := by simp [Ideal.ofBits, Ideal.ieee]
  rw [e]
  refine le_antisymm (Finset.sup_le (s := Finset.univ) (f := fun x : Fin 256 => A (ix2 r x)) fun y _ => ?_) (Finset.sup_le fun y hy => Finset.sup_le fun x hx => ?_)
  · show A (ix2 r y) ≤ _
    rw [hA]
    split_ifs with h
    · refine max_le (cmax_nonneg P r) (Finset.sup_le fun x hx => ?_)
      exact (Finset.le_sup (f := fun x => P.y 3 y x r) hx).trans (Finset.le_sup (f := fun y => (Finset.range 234).sup fun x => P.y 3 y x r) (Finset.mem_range.mpr h))
    · exact cmax_nonneg P r
  · have hy' := Finset.mem_range.mp hy
    refine le_trans ?_ (Finset.le_sup (s := Finset.univ) (f := fun x : Fin 256 => A (ix2 r x)) (Finset.mem_univ ⟨y, by omega⟩))
    show _ ≤ A (ix2 r ⟨y, _⟩)
    rw [hA, if_pos hy']
    exact (Finset.le_sup (f := fun x => P.y 3 y x r) hx).trans (le_max_right _ _)

end Cert.KernelIdeal.Hand

end
-- ==== Proof.Hand.KernelIdeal.Step.lean ====
/-
  Hand-written, untrusted. One step of the kernel: from scratches that hold the model's columns to scratches that hold the next ones, and blocks that hold
  the model's results.
-/
module

public import proofs.«01_k».proof.Proof.Hand.KernelIdeal.Rings
public import proofs.«01_k».proof.Proof.Hand.KernelIdeal.Run

@[expose] public section

set_option maxHeartbeats 4000000
set_option maxRecDepth 65536

noncomputable section

namespace Cert.KernelIdeal.Hand

open Cert.KernelIdeal Cert.KernelIdeal.Gen
open Idealize.ShloMosaic Idealize.ShloMosaic.TcCoe Cert.Hand

theorem tv_coords : ∀ t : Fin 123, tv (grid1.coords t) = t.val := by decide +kernel
theorem tv_lt (i : grid1.Coords) : tv i < 123 := by revert i; refine coords_forall ?_; decide +kernel
theorem first_iff (i : grid1.Coords) : body_run.sl.v5 i = 1#1 ↔ tv i = 0 := by revert i; refine coords_forall ?_; decide +kernel
theorem live0_iff (i : grid1.Coords) : body_run.sl.v129 i = 1#1 ↔ 2 * 0 ≤ tv i ∧ tv i - 2 * 0 < 117 := by
  revert i; refine coords_forall ?_; decide +kernel
theorem live1_iff (i : grid1.Coords) : body_run.sl.v243 i = 1#1 ↔ 2 * 1 ≤ tv i ∧ tv i - 2 * 1 < 117 := by
  revert i; refine coords_forall ?_; decide +kernel
theorem live2_iff (i : grid1.Coords) : body_run.sl.v389 i = 1#1 ↔ 2 * 2 ≤ tv i ∧ tv i - 2 * 2 < 117 := by
  revert i; refine coords_forall ?_; decide +kernel
theorem cond3_iff (i : grid1.Coords) : k1_cond3 i = 1#1 ↔ 2 * 0 ≤ tv i ∧ tv i - 2 * 0 < 117 := by revert i; refine coords_forall ?_; decide +kernel
theorem cond5_iff (i : grid1.Coords) : k1_cond5 i = 1#1 ↔ 2 * 1 ≤ tv i ∧ tv i - 2 * 1 < 117 := by revert i; refine coords_forall ?_; decide +kernel
theorem cond7_iff (i : grid1.Coords) : k1_cond7 i = 1#1 ↔ 2 * 2 ≤ tv i ∧ tv i - 2 * 2 < 117 := by revert i; refine coords_forall ?_; decide +kernel
theorem cond9_iff (i : grid1.Coords) : k1_cond9 i = 1#1 ↔ 2 * 3 ≤ tv i ∧ tv i - 2 * 3 < 117 := by revert i; refine coords_forall ?_; decide +kernel
theorem cond10_iff (i : grid1.Coords) : k1_cond10 i = 1#1 ↔ tv i = 122 := by revert i; refine coords_forall ?_; decide +kernel

/-- The scratches before step `n`. -/
def Inv (P : Par) (n : ℕ) (R : S3x1536x256.Idx → Elt Ideal .bf16) (E : S192x256.Idx → Elt Ideal .bf16) (T : S64x256.Idx → Elt Ideal .f32) : Prop :=
  0 < n → Ring P (2 * n) (fun _ => 2 * n + 8) R ∧ Edge P n E ∧ Top P n T

/-- A block of layer `l`'s result after step `t`. -/
def Out (P : Par) (l t : ℕ) (X : S1x2x64x236.Idx → Elt Ideal .i8) : Prop :=
  2 * l ≤ t → ∀ (c : Fin 2) (r : Fin 64) (y : Fin 236), X (ix4 0 c r y) = P.q l y (2 * min (t - 2 * l) 116 + c) r

/-- The block of channel maxima after step `t`. -/
def OutMax (P : Par) (t : ℕ) (X : S1x64x128.Idx → Elt Ideal .f32) : Prop := t = 122 → ∀ (r : Fin 64) (z : Fin 128), X (ix3 0 r z) = cmax P r

/-- The blocks of the inputs at step `t`. -/
structure Blocks (P : Par) (t : ℕ) (X1 : S32x8x128.Idx → Elt Ideal .i32) (X2 : S128x960.Idx → Elt Ideal .bf16) (X3 : S3x128x768.Idx → Elt Ideal .bf16)
    (X4 X5 : S4x64x128.Idx → Elt Ideal .f32) (X6 : S4.Idx → Elt Ideal .f32) : Prop where
  h1 : t ≤ 116 → ∀ (k : Fin 32) (s : Fin 8) (l : Fin 128), X1 (ix3 k s l) = P.can (32 * t + k) s l
  h2 : ∀ (r : Fin 128) (n : Fin 960), X2 (ix2 r n) = wk P 2 0 r n
  h3 : ∀ (l : Fin 3) (r : Fin 128) (n : Fin 768), X3 (ix3 l r n) = wk P 1 (l + 1) r n
  h4 : ∀ (l : Fin 4) (r : Fin 64) (z : Fin 128), X4 (ix3 l r z) = P.sc l r
  h5 : ∀ (l : Fin 4) (r : Fin 64) (z : Fin 128), X5 (ix3 l r z) = P.bs l r
  h6 : ∀ l : Fin 4, X6 (ix1 l) = P.act l

/-- Two stores, one per column, fill a result's block. -/
theorem out_two (v : View sig .tc .vmem S1x2x64x236 .i8) (f : v.ty.Contents (Elt Ideal)) (w : Fin 2 → IVec S1x1x64x236 8)
    (h0 : ∀ a, (![0, 0, 0, 0] : Fin 4 → ℕ) a + S1x1x64x236.size a ≤ S1x2x64x236.size a) (h1 : ∀ a, (![0, 1, 0, 0] : Fin 4 → ℕ) a + S1x1x64x236.size a ≤ S1x2x64x236.size a)
    (c : Fin 2) (r : Fin 64) (y : Fin 236) :
    v.read (Elt Ideal) (v.writes (Elt Ideal) f [⟨Rect.unit (s := S1x2x64x236) ![0, 1, 0, 0] S1x1x64x236.size h1, w 1⟩,
      ⟨Rect.unit (s := S1x2x64x236) ![0, 0, 0, 0] S1x1x64x236.size h0, w 0⟩]) (ix4 0 c r y) = w c (ix4 0 0 r y) := by
  match c with
  | 0 =>
    refine (View.read_writes_cons_unit_of_not_mem v f h1 (w 1) _ _ rfl (1 : Fin 4) (Or.inl Nat.one_pos)).trans ?_
    refine View.read_writes_cons_unit_of_mem v f h0 (w 0) [] _ (ix4 0 0 r y) rfl fun a => ?_
    match a with
    | ⟨0, _⟩ => rfl
    | ⟨1, _⟩ => rfl
    | ⟨2, _⟩ => exact (Nat.zero_add _).symm
    | ⟨3, _⟩ => exact (Nat.zero_add _).symm
  | 1 =>
    refine View.read_writes_cons_unit_of_mem v f h1 (w 1) _ _ (ix4 0 0 r y) rfl fun a => ?_
    match a with
    | ⟨0, _⟩ => rfl
    | ⟨1, _⟩ => rfl
    | ⟨2, _⟩ => exact (Nat.zero_add _).symm
    | ⟨3, _⟩ => exact (Nat.zero_add _).symm

section
variable (c : Dev nD) (i : grid1.Coords)
    (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole)
    (arg12 : Memref sig .tc .vmem S1x2x64x236 .i8) (harg12 : arg12.IsWhole) (arg13 : Memref sig .tc .vmem S1x2x64x236 .i8) (harg13 : arg13.IsWhole)
    (arg14 : Memref sig .tc .vmem S1x2x64x236 .i8) (harg14 : arg14.IsWhole) (arg15 : Memref sig .tc .vmem S1x2x64x236 .i8) (harg15 : arg15.IsWhole)
    (arg16 : Memref sig .tc .vmem S1x64x128 .f32) (harg16 : arg16.IsWhole)
    (f1 : Buf (Elt Ideal) (arg1.view.loc (c : Thread nD τ))) (f2 : Buf (Elt Ideal) (arg2.view.loc (c : Thread nD τ)))
    (f3 : Buf (Elt Ideal) (arg3.view.loc (c : Thread nD τ))) (f4 : Buf (Elt Ideal) (arg4.view.loc (c : Thread nD τ)))
    (f5 : Buf (Elt Ideal) (arg5.view.loc (c : Thread nD τ))) (f6 : Buf (Elt Ideal) (arg6.view.loc (c : Thread nD τ)))
    (f12 : Buf (Elt Ideal) (arg12.view.loc (c : Thread nD τ))) (f13 : Buf (Elt Ideal) (arg13.view.loc (c : Thread nD τ)))
    (f14 : Buf (Elt Ideal) (arg14.view.loc (c : Thread nD τ))) (f15 : Buf (Elt Ideal) (arg15.view.loc (c : Thread nD τ)))
    (f16 : Buf (Elt Ideal) (arg16.view.loc (c : Thread nD τ)))
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (R : Buf (Elt Ideal) (arg17.view.loc (c : Thread nD τ))) (E : Buf (Elt Ideal) (arg18.view.loc (c : Thread nD τ)))
    (T : Buf (Elt Ideal) (arg19.view.loc (c : Thread nD τ)))
variable {P : Par} (hP : Clear P)
  (hX : Blocks P (tv i) (arg1.view.read (Elt Ideal) f1) (arg2.view.read (Elt Ideal) f2) (arg3.view.read (Elt Ideal) f3) (arg4.view.read (Elt Ideal) f4) (arg5.view.read (Elt Ideal) f5) (arg6.view.read (Elt Ideal) f6))
  (hI : Inv P (tv i) (arg17.view.read (Elt Ideal) R) (arg18.view.read (Elt Ideal) E) (arg19.view.read (Elt Ideal) T))

include hX hI in
theorem base : Base P (tv i) (inp c i arg1 arg2 arg3 arg4 arg5 arg6 f1 f2 f3 f4 f5 f6 arg17 arg18 R E) where
  tl ht k s l := (load3 arg1.view f1 k s l).trans (hX.h1 ht k s l)
  w0 r n := (congrFun (View.readAt_full arg2.view f2 inb_S128x960_S128x960_0_0) _).trans (hX.h2 r n)
  wl l r n := (load3 arg3.view f3 l r n).trans (hX.h3 l r n)
  sc l r z := (load3 arg4.view f4 l r z).trans (hX.h4 l r z)
  bi l r z := (load3 arg5.view f5 l r z).trans (hX.h5 l r z)
  act l := by
    refine Eq.trans (congrArg (arg6.view.read (Elt Ideal) f6) (funext fun a => Fin.ext ?_)) (hX.h6 l)
    match a with
    | ⟨0, _⟩ => rfl
  edge ht r y hy := by
    show body_run.sl.v6 c i arg18 E (ix2 r y) = _
    refine (congrFun (View.readAt_full arg18.view (edgeZ c i arg18 E) inb_S192x256_S192x256_0_0) _).trans ?_
    unfold edgeZ
    by_cases h : tv i = 0
    · rw [dif_pos ((first_iff i).mpr h), View.read_writes_full]
      unfold Par.X0
      rw [if_neg (by omega)]
      pointwise [k1_pay3]
      try simp [Ideal.ofBits, Ideal.ieee]
    · rw [dif_neg (mt (first_iff i).mp h)]
      exact (hI (Nat.pos_of_ne_zero h)).2.1 (by omega) r y hy
  live l := by
    fin_cases l
    · exact live0_iff i
    · exact live1_iff i
    · exact live2_iff i

include hI in
theorem ring_zero : Ring P (2 * tv i + 2) (fun _ => 2 * tv i + 8) (arg17.view.read (Elt Ideal) (ringZ c i arg17 R)) := by
  unfold ringZ
  by_cases h : tv i = 0
  · rw [dif_pos ((first_iff i).mpr h)]
    intro l u h1 h2 n y hy
    replace h2 : u < 2 * tv i + 8 := h2
    rw [View.read_writes_full, Xc, if_neg (by omega)]
    pointwise [k1_pay4]
    try simp [Ideal.ofBits, Ideal.ieee]
  · rw [dif_neg (mt (first_iff i).mp h)]
    exact (hI (Nat.pos_of_ne_zero h)).1.mono (by omega)

/-- The counts of the three rings' columns after the stores of the first layers. -/
def hiN (t a b d : ℕ) : Fin 3 → ℕ := ![2 * t + 8 + a, 2 * t + 8 + b, 2 * t + 8 + d]

theorem rowk_mid {l : Fin 3} {cc : Fin 2} (hm : ∀ (r : Fin 64) (y : Fin 256), ((inp c i arg1 arg2 arg3 arg4 arg5 arg6 f1 f2 f3 f4 f5 f6 arg17 arg18 R E).mid l cc) (ix2 r y) = Xc P l (2 * tv i + 8 + cc) (y + 1) r) (k : Fin 3) (r : Fin 64) (y : Fin 256)
    (hy : y.val < 236) : rowk k ((inp c i arg1 arg2 arg3 arg4 arg5 arg6 f1 f2 f3 f4 f5 f6 arg17 arg18 R E).mid l cc) (ix3 0 r y) = Xc P l (2 * tv i + 8 + cc) (y + k) r :=
  rowk_apply l _ _ hm k r y hy

include hP hX hI in
theorem ring0 : Ring P (2 * tv i + 2) (hiN (tv i) 2 0 0) (arg17.view.read (Elt Ideal) (arg17.view.writes (Elt Ideal) (ringZ c i arg17 R)
    (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) [])))) := by
  have hB := base c i arg1 arg2 arg3 arg4 arg5 arg6 f1 f2 f3 f4 f5 f6 arg17 arg18 arg19 R E T hX hI
  have hm := mid_eq hB hP 0 (fun l' h => absurd h (Nat.succ_ne_zero _))
  refine ring_put arg17.view _ 0 _ _ (off1_eq i 1) (k1_off1_inb i 1) (fun k => rowk k ((inp c i arg1 arg2 arg3 arg4 arg5 arg6 f1 f2 f3 f4 f5 f6 arg17 arg18 R E).mid 0 1)) _ (2 * tv i + 9) (by dsimp only [Fin.val_zero, Fin.val_one]; omega) (hi := hiN (tv i) 1 0 0) rfl (by omega) rfl (by intro l' h; fin_cases l' <;> first | rfl | exact absurd rfl h) (rowk_mid c i arg1 arg2 arg3 arg4 arg5 arg6 f1 f2 f3 f4 f5 f6 arg17 arg18 R E (hm 1)) ?_
  refine ring_put arg17.view _ 0 _ _ (off1_eq i 0) (k1_off1_inb i 0) (fun k => rowk k ((inp c i arg1 arg2 arg3 arg4 arg5 arg6 f1 f2 f3 f4 f5 f6 arg17 arg18 R E).mid 0 0)) _ (2 * tv i + 8) (by dsimp only [Fin.val_zero, Fin.val_one]; omega) (hi := fun _ => 2 * tv i + 8) rfl (by omega) rfl (by intro l' h; fin_cases l' <;> first | rfl | exact absurd rfl h) (rowk_mid c i arg1 arg2 arg3 arg4 arg5 arg6 f1 f2 f3 f4 f5 f6 arg17 arg18 R E (hm 0)) ?_
  exact ring_zero c i arg17 arg18 arg19 R E T hI

include hP hX hI in
theorem ringed0 : Ringed P (tv i) (inp c i arg1 arg2 arg3 arg4 arg5 arg6 f1 f2 f3 f4 f5 f6 arg17 arg18 R E) 0 := by
  intro j n y hy
  have e : (inp c i arg1 arg2 arg3 arg4 arg5 arg6 f1 f2 f3 f4 f5 f6 arg17 arg18 R E).xs 0 j = View.readAt (Elt Ideal) arg17.view (Rect.unit (s := S3x1536x256) (k1_off2 i (BitVec.ofNat 32 j.val)) S1x192x256.size (k1_off2_inb i j)).toLoadRect
      (arg17.view.writes (Elt Ideal) (ringZ c i arg17 R) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []))) := by
    rw [← HR_6_eq c i arg1 arg2 arg3 arg4 arg5 arg6 f1 f2 f3 f4 f5 f6 arg17 arg18 R E]
    fin_cases j <;> rfl
  rw [e]
  exact ring_load arg17.view _ 0 _ _ (off2_eq i j) _ (ring0 c i arg1 arg2 arg3 arg4 arg5 arg6 f1 f2 f3 f4 f5 f6 arg17 arg18 arg19 R E T hP hX hI) (2 * tv i + 3 + j) (by dsimp only [Fin.val_zero]; omega) (by omega) (by show _ < 2 * tv i + 8 + 2; omega) n y hy

include hP hX hI in
theorem ring1 : Ring P (2 * tv i + 2) (hiN (tv i) 2 2 0) (arg17.view.read (Elt Ideal) (arg17.view.writes (Elt Ideal) (ringZ c i arg17 R)
    (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) [])))))) := by
  have hB := base c i arg1 arg2 arg3 arg4 arg5 arg6 f1 f2 f3 f4 f5 f6 arg17 arg18 arg19 R E T hX hI
  have hm := mid_eq hB hP 1 (fun l' h => by obtain rfl : l' = 0 := Fin.ext (Nat.succ.inj h); exact ringed0 c i arg1 arg2 arg3 arg4 arg5 arg6 f1 f2 f3 f4 f5 f6 arg17 arg18 arg19 R E T hP hX hI)
  refine ring_put arg17.view _ 1 _ _ (off3_eq i 1) (k1_off3_inb i 1) (fun k => rowk k ((inp c i arg1 arg2 arg3 arg4 arg5 arg6 f1 f2 f3 f4 f5 f6 arg17 arg18 R E).mid 1 1)) _ (2 * tv i + 9) (by dsimp only [Fin.val_zero, Fin.val_one]; omega) (hi := hiN (tv i) 2 1 0) rfl (by omega) rfl (by intro l' h; fin_cases l' <;> first | rfl | exact absurd rfl h) (rowk_mid c i arg1 arg2 arg3 arg4 arg5 arg6 f1 f2 f3 f4 f5 f6 arg17 arg18 R E (hm 1)) ?_
  refine ring_put arg17.view _ 1 _ _ (off3_eq i 0) (k1_off3_inb i 0) (fun k => rowk k ((inp c i arg1 arg2 arg3 arg4 arg5 arg6 f1 f2 f3 f4 f5 f6 arg17 arg18 R E).mid 1 0)) _ (2 * tv i + 8) (by dsimp only [Fin.val_zero, Fin.val_one]; omega) (hi := hiN (tv i) 2 0 0) rfl (by omega) rfl (by intro l' h; fin_cases l' <;> first | rfl | exact absurd rfl h) (rowk_mid c i arg1 arg2 arg3 arg4 arg5 arg6 f1 f2 f3 f4 f5 f6 arg17 arg18 R E (hm 0)) ?_
  exact ring0 c i arg1 arg2 arg3 arg4 arg5 arg6 f1 f2 f3 f4 f5 f6 arg17 arg18 arg19 R E T hP hX hI

include hP hX hI in
theorem ringed1 : Ringed P (tv i) (inp c i arg1 arg2 arg3 arg4 arg5 arg6 f1 f2 f3 f4 f5 f6 arg17 arg18 R E) 1 := by
  intro j n y hy
  have e : (inp c i arg1 arg2 arg3 arg4 arg5 arg6 f1 f2 f3 f4 f5 f6 arg17 arg18 R E).xs 1 j = View.readAt (Elt Ideal) arg17.view (Rect.unit (s := S3x1536x256) (k1_off4 i (BitVec.ofNat 32 j.val)) S1x192x256.size (k1_off4_inb i j)).toLoadRect
      (arg17.view.writes (Elt Ideal) (ringZ c i arg17 R) (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []))))) := by
    rw [← HR_12_eq c i arg1 arg2 arg3 arg4 arg5 arg6 f1 f2 f3 f4 f5 f6 arg17 arg18 R E]
    fin_cases j <;> rfl
  rw [e]
  exact ring_load arg17.view _ 1 _ _ (off4_eq i j) _ (ring1 c i arg1 arg2 arg3 arg4 arg5 arg6 f1 f2 f3 f4 f5 f6 arg17 arg18 arg19 R E T hP hX hI) (2 * tv i + 3 + j) (by dsimp only [Fin.val_one]; omega) (by omega) (by show _ < 2 * tv i + 8 + 2; omega) n y hy

include hP hX hI in
theorem ring2 : Ring P (2 * tv i + 2) (hiN (tv i) 2 2 2) (arg17.view.read (Elt Ideal) (arg17.view.writes (Elt Ideal) (ringZ c i arg17 R)
    (put2 i 1 ((inp c i arg1 arg2 arg3 arg4 arg5 arg6 f1 f2 f3 f4 f5 f6 arg17 arg18 R E).mid 2 1) (put2 i 0 ((inp c i arg1 arg2 arg3 arg4 arg5 arg6 f1 f2 f3 f4 f5 f6 arg17 arg18 R E).mid 2 0) (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) [])))))))) := by
  have hB := base c i arg1 arg2 arg3 arg4 arg5 arg6 f1 f2 f3 f4 f5 f6 arg17 arg18 arg19 R E T hX hI
  have hm := mid_eq hB hP 2 (fun l' h => by obtain rfl : l' = 1 := Fin.ext (Nat.succ.inj h); exact ringed1 c i arg1 arg2 arg3 arg4 arg5 arg6 f1 f2 f3 f4 f5 f6 arg17 arg18 arg19 R E T hP hX hI)
  refine ring_put arg17.view _ 2 _ _ (off5_eq i 1) (k1_off5_inb i 1) (fun k => rowk k ((inp c i arg1 arg2 arg3 arg4 arg5 arg6 f1 f2 f3 f4 f5 f6 arg17 arg18 R E).mid 2 1)) _ (2 * tv i + 9) (by dsimp only [Fin.val_zero, Fin.val_one, Fin.val_two]; omega) (hi := hiN (tv i) 2 2 1) rfl (by omega) rfl (by intro l' h; fin_cases l' <;> first | rfl | exact absurd rfl h) (rowk_mid c i arg1 arg2 arg3 arg4 arg5 arg6 f1 f2 f3 f4 f5 f6 arg17 arg18 R E (hm 1)) ?_
  refine ring_put arg17.view _ 2 _ _ (off5_eq i 0) (k1_off5_inb i 0) (fun k => rowk k ((inp c i arg1 arg2 arg3 arg4 arg5 arg6 f1 f2 f3 f4 f5 f6 arg17 arg18 R E).mid 2 0)) _ (2 * tv i + 8) (by dsimp only [Fin.val_zero, Fin.val_one, Fin.val_two]; omega) (hi := hiN (tv i) 2 2 0) rfl (by omega) rfl (by intro l' h; fin_cases l' <;> first | rfl | exact absurd rfl h) (rowk_mid c i arg1 arg2 arg3 arg4 arg5 arg6 f1 f2 f3 f4 f5 f6 arg17 arg18 R E (hm 0)) ?_
  exact ring1 c i arg1 arg2 arg3 arg4 arg5 arg6 f1 f2 f3 f4 f5 f6 arg17 arg18 arg19 R E T hP hX hI

include hP hX hI in
theorem ringed2 : Ringed P (tv i) (inp c i arg1 arg2 arg3 arg4 arg5 arg6 f1 f2 f3 f4 f5 f6 arg17 arg18 R E) 2 := by
  intro j n y hy
  have e : (inp c i arg1 arg2 arg3 arg4 arg5 arg6 f1 f2 f3 f4 f5 f6 arg17 arg18 R E).xs 2 j = View.readAt (Elt Ideal) arg17.view (Rect.unit (s := S3x1536x256) (k1_off6 i (BitVec.ofNat 32 j.val)) S1x192x256.size (k1_off6_inb i j)).toLoadRect
      (arg17.view.writes (Elt Ideal) (ringZ c i arg17 R) (put2 i 1 ((inp c i arg1 arg2 arg3 arg4 arg5 arg6 f1 f2 f3 f4 f5 f6 arg17 arg18 R E).mid 2 1) (put2 i 0 ((inp c i arg1 arg2 arg3 arg4 arg5 arg6 f1 f2 f3 f4 f5 f6 arg17 arg18 R E).mid 2 0) (put1 i 1 ((inp c i arg1 arg2 arg3 arg4 arg5 arg6 f1 f2 f3 f4 f5 f6 arg17 arg18 R E).mid 1 1) (put1 i 0 ((inp c i arg1 arg2 arg3 arg4 arg5 arg6 f1 f2 f3 f4 f5 f6 arg17 arg18 R E).mid 1 0) (put0 i 1 ((inp c i arg1 arg2 arg3 arg4 arg5 arg6 f1 f2 f3 f4 f5 f6 arg17 arg18 R E).mid 0 1) (put0 i 0 ((inp c i arg1 arg2 arg3 arg4 arg5 arg6 f1 f2 f3 f4 f5 f6 arg17 arg18 R E).mid 0 0) []))))))) := by
    rw [← HR_18_eq c i arg1 arg2 arg3 arg4 arg5 arg6 f1 f2 f3 f4 f5 f6 arg17 arg18 R E]
    fin_cases j <;> rfl
  rw [e]
  exact ring_load arg17.view _ 2 _ _ (off6_eq i j) _ (ring2 c i arg1 arg2 arg3 arg4 arg5 arg6 f1 f2 f3 f4 f5 f6 arg17 arg18 arg19 R E T hP hX hI) (2 * tv i + 3 + j) (by dsimp only [Fin.val_two]; omega) (by omega) (by show _ < 2 * tv i + 8 + 2; omega) n y hy

include hP hX hI in
theorem ringed (l : Fin 3) : Ringed P (tv i) (inp c i arg1 arg2 arg3 arg4 arg5 arg6 f1 f2 f3 f4 f5 f6 arg17 arg18 R E) l :=
  match l with
  | 0 => ringed0 c i arg1 arg2 arg3 arg4 arg5 arg6 f1 f2 f3 f4 f5 f6 arg17 arg18 arg19 R E T hP hX hI
  | 1 => ringed1 c i arg1 arg2 arg3 arg4 arg5 arg6 f1 f2 f3 f4 f5 f6 arg17 arg18 arg19 R E T hP hX hI
  | 2 => ringed2 c i arg1 arg2 arg3 arg4 arg5 arg6 f1 f2 f3 f4 f5 f6 arg17 arg18 arg19 R E T hP hX hI

include hP hX hI in
theorem edge_end : Edge P (tv i + 1) (arg18.view.read (Elt Ideal) (arg18.view.writes (Elt Ideal) (edgeZ c i arg18 E)
    [⟨Rect.unit ![0, 0] S192x256.size inb_S192x256_S192x256_0_0, shapeCast S192x256 ((inp c i arg1 arg2 arg3 arg4 arg5 arg6 f1 f2 f3 f4 f5 f6 arg17 arg18 R E).col 3) shapeCasts_S192x256_S192x256⟩])) := by
  intro ht r y hy
  rw [View.read_writes_full]
  pointwise []
  refine (col_eq (base c i arg1 arg2 arg3 arg4 arg5 arg6 f1 f2 f3 f4 f5 f6 arg17 arg18 arg19 R E T hX hI) hP (by omega) 3 r y hy).trans ?_
  exact congrArg (fun a => P.X0 _ a _) (by show 4 * tv i + 3 + 1 = 4 * (tv i + 1); omega)

include hI in
theorem top_zero : Top P (tv i) (arg19.view.read (Elt Ideal) (topZ c i arg19 T)) := by
  unfold topZ
  by_cases h : tv i = 0
  · rw [dif_pos ((first_iff i).mpr h), View.read_writes_full]
    intro r y
    have e : (if y.val < 236 then topm P (2 * (tv i - 6)) y r else 0) = 0 := by
      rw [h]
      simp [topm]
    rw [e]
    pointwise [k1_pay5]
    try simp [Ideal.ofBits, Ideal.ieee]
  · rw [dif_neg (mt (first_iff i).mp h)]
    exact (hI (Nat.pos_of_ne_zero h)).2.2

include hP hX hI in
theorem top_end : Top P (tv i + 1) (arg19.view.read (Elt Ideal) (topEnd c i arg1 arg2 arg3 arg4 arg5 arg6 f1 f2 f3 f4 f5 f6 arg17 arg18 arg19 R E T)) := by
  unfold topEnd
  have hT := top_zero c i arg17 arg18 arg19 R E T hI
  have ht := tv_lt i
  by_cases h : k1_cond9 i = 1#1
  · have h' := (cond9_iff i).mp h
    rw [dif_pos h, View.read_writes_full]
    have hy := y_eq (base c i arg1 arg2 arg3 arg4 arg5 arg6 f1 f2 f3 f4 f5 f6 arg17 arg18 arg19 R E T hX hI) hP 3 (fun l' h => ringed c i arg1 arg2 arg3 arg4 arg5 arg6 f1 f2 f3 f4 f5 f6 arg17 arg18 arg19 R E T hP hX hI l') h'.1 h'.2
    have e0 : body_run.sl.v623 c i arg19 T = arg19.view.read (Elt Ideal) (topZ c i arg19 T) := View.readAt_full arg19.view _ inb_S64x256_S64x256_0_0
    have e1 : body_run.sl.v623_1 c i arg1 arg2 arg3 arg4 arg5 arg6 f1 f2 f3 f4 f5 f6 arg17 arg18 arg19 R E T = topv (body_run.sl.v623 c i arg19 T) ((inp c i arg1 arg2 arg3 arg4 arg5 arg6 f1 f2 f3 f4 f5 f6 arg17 arg18 R E).y 3 0) :=
      View.readCov_full arg19.view inb_S64x256_S64x256_0_0 inb_S64x256_S64x256_0_0 _ []
    rw [e1, e0]
    intro r y
    rw [topv_apply, topv_apply, hT r y]
    have e : 2 * (tv i + 1 - 6) = 2 * (tv i - 6) + 1 + 1 := by omega
    by_cases hl : y.val < 236
    · simp only [if_pos hl]
      rw [hy 0 r y hl, hy 1 r y hl, e, topm_succ, topm_succ]
      rfl
    · simp only [if_neg hl, max_self]
  · have h' := mt (cond9_iff i).mpr h
    rw [dif_neg h]
    intro r y
    rw [hT r y]
    have e : 2 * (tv i + 1 - 6) = 2 * (tv i - 6) := by omega
    rw [e]

include hP hX hI in
/-- The stores of layer `l`'s result. -/
theorem out_end (l : Fin 4) (v : View sig .tc .vmem S1x2x64x236 .i8) (f : v.ty.Contents (Elt Ideal)) (cond : BitVec 1)
    (hc : cond = 1#1 ↔ 2 * l.val ≤ tv i ∧ tv i - 2 * l.val < 117) (hf : 117 + 2 * l.val ≤ tv i → Out P l (tv i) (v.read (Elt Ideal) f)) :
    Out P l (tv i) (v.read (Elt Ideal) (if hc : cond = 1#1 then
      v.writes (Elt Ideal) f [⟨Rect.unit ![0, 1, 0, 0] S1x1x64x236.size inb_S1x2x64x236_S1x1x64x236_0_1_0_0, outv ((inp c i arg1 arg2 arg3 arg4 arg5 arg6 f1 f2 f3 f4 f5 f6 arg17 arg18 R E).q l 1)⟩,
        ⟨Rect.unit ![0, 0, 0, 0] S1x1x64x236.size inb_S1x2x64x236_S1x1x64x236_0_0_0_0, outv ((inp c i arg1 arg2 arg3 arg4 arg5 arg6 f1 f2 f3 f4 f5 f6 arg17 arg18 R E).q l 0)⟩]
    else f)) := by
  by_cases h : cond = 1#1
  · rw [dif_pos h]
    have h' := hc.mp h
    intro _ cc r y
    refine (out_two v f (fun cc => outv ((inp c i arg1 arg2 arg3 arg4 arg5 arg6 f1 f2 f3 f4 f5 f6 arg17 arg18 R E).q l cc)) _ _ cc r y).trans ((outv_apply _ r y).trans ?_)
    refine (q_eq (base c i arg1 arg2 arg3 arg4 arg5 arg6 f1 f2 f3 f4 f5 f6 arg17 arg18 arg19 R E T hX hI) hP l (fun l' _ => ringed c i arg1 arg2 arg3 arg4 arg5 arg6 f1 f2 f3 f4 f5 f6 arg17 arg18 arg19 R E T hP hX hI l') h'.1 h'.2 cc r ⟨y, by omega⟩ y.isLt).trans ?_
    rw [min_eq_left (by omega)]
  · rw [dif_neg h]
    intro h1
    exact hf (by have := mt hc.mpr h; omega) h1

include hP hX hI in
theorem max_end : OutMax P (tv i) (arg16.view.read (Elt Ideal) (if hc : k1_cond10 i = 1#1 then
      arg16.view.writes (Elt Ideal) f16 [⟨Rect.unit ![0, 0, 0] S1x64x128.size inb_S1x64x128_S1x64x128_0_0_0,
        k1_pay1 (View.readAt (Elt Ideal) arg19.view (Rect.unit ![0, 0] S64x256.size inb_S64x256_S64x256_0_0).toLoadRect (topEnd c i arg1 arg2 arg3 arg4 arg5 arg6 f1 f2 f3 f4 f5 f6 arg17 arg18 arg19 R E T))⟩]
    else f16)) := by
  intro h r z
  rw [dif_pos ((cond10_iff i).mpr h), View.read_writes_full, View.readAt_full]
  have := top_end c i arg1 arg2 arg3 arg4 arg5 arg6 f1 f2 f3 f4 f5 f6 arg17 arg18 arg19 R E T hP hX hI
  rw [h] at this
  exact pay1_apply P _ this r z
end

/-- One step, on whole buffers. -/
theorem leads (c : Dev nD) (i : grid1.Coords) (arg1 : Memref sig .tc .vmem S32x8x128 .i32) (harg1 : arg1.IsWhole) (arg2 : Memref sig .tc .vmem S128x960 .bf16) (harg2 : arg2.IsWhole)
    (arg3 : Memref sig .tc .vmem S3x128x768 .bf16) (harg3 : arg3.IsWhole) (arg4 : Memref sig .tc .vmem S4x64x128 .f32) (harg4 : arg4.IsWhole)
    (arg5 : Memref sig .tc .vmem S4x64x128 .f32) (harg5 : arg5.IsWhole) (arg6 : Memref sig .tc .smem S4 .f32) (harg6 : arg6.IsWhole)
    (arg7 : Memref sig .tc .hbm S5x234x64x236 .i8) (harg7 : arg7.IsWhole) (arg8 : Memref sig .tc .hbm S5x234x64x236 .i8) (harg8 : arg8.IsWhole)
    (arg9 : Memref sig .tc .hbm S5x234x64x236 .i8) (harg9 : arg9.IsWhole) (arg10 : Memref sig .tc .hbm S5x234x64x236 .i8) (harg10 : arg10.IsWhole)
    (arg11 : Memref sig .tc .hbm S5x64x128 .f32) (harg11 : arg11.IsWhole)
    (arg12 : Memref sig .tc .vmem S1x2x64x236 .i8) (harg12 : arg12.IsWhole) (arg13 : Memref sig .tc .vmem S1x2x64x236 .i8) (harg13 : arg13.IsWhole)
    (arg14 : Memref sig .tc .vmem S1x2x64x236 .i8) (harg14 : arg14.IsWhole) (arg15 : Memref sig .tc .vmem S1x2x64x236 .i8) (harg15 : arg15.IsWhole)
    (arg16 : Memref sig .tc .vmem S1x64x128 .f32) (harg16 : arg16.IsWhole)
    (arg17 : Memref sig .tc .vmem S3x1536x256 .bf16) (harg17 : arg17.IsWhole) (arg18 : Memref sig .tc .vmem S192x256 .bf16) (harg18 : arg18.IsWhole)
    (arg19 : Memref sig .tc .vmem S64x256 .f32) (harg19 : arg19.IsWhole)
    (X1 : S32x8x128.Idx → Elt Ideal .i32) (X2 : S128x960.Idx → Elt Ideal .bf16) (X3 : S3x128x768.Idx → Elt Ideal .bf16) (X4 : S4x64x128.Idx → Elt Ideal .f32) (X5 : S4x64x128.Idx → Elt Ideal .f32) (X6 : S4.Idx → Elt Ideal .f32) (X12 : S1x2x64x236.Idx → Elt Ideal .i8) (X13 : S1x2x64x236.Idx → Elt Ideal .i8) (X14 : S1x2x64x236.Idx → Elt Ideal .i8) (X15 : S1x2x64x236.Idx → Elt Ideal .i8) (X16 : S1x64x128.Idx → Elt Ideal .f32) (X17 : S3x1536x256.Idx → Elt Ideal .bf16) (X18 : S192x256.Idx → Elt Ideal .bf16) (X19 : S64x256.Idx → Elt Ideal .f32)
    {P : Par} (hP : Clear P) (hX : Blocks P (tv i) X1 X2 X3 X4 X5 X6) (hI : Inv P (tv i) X17 X18 X19)
    (h12 : 117 + 2 * 0 ≤ tv i → Out P 0 (tv i) X12) (h13 : 117 + 2 * 1 ≤ tv i → Out P 1 (tv i) X13) (h14 : 117 + 2 * 2 ≤ tv i → Out P 2 (tv i) X14)
    (h15 : 117 + 2 * 3 ≤ tv i → Out P 3 (tv i) X15) :
    Leads c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X5 X6 X12 X13 X14 X15 X16 X17 X18 X19
      fun Z12 Z13 Z14 Z15 Z16 Z17 Z18 Z19 => Inv P (tv i + 1) Z17 Z18 Z19 ∧ Out P 0 (tv i) Z12 ∧ Out P 1 (tv i) Z13 ∧ Out P 2 (tv i) Z14 ∧ Out P 3 (tv i) Z15
        ∧ OutMax P (tv i) Z16 := by
  intro f1 f2 f3 f4 f5 f6 f12 f13 f14 f15 f16 R E T e1 e2 e3 e4 e5 e6 e12 e13 e14 e15 e16 e17 e18 e19
  subst e1 e2 e3 e4 e5 e6 e12 e13 e14 e15 e16 e17 e18 e19
  dsimp only
  refine ⟨fun _ => ⟨?_, ?_, ?_⟩, ?_, ?_, ?_, ?_, ?_⟩
  · rw [found17]
    have h := ring2 c i arg1 arg2 arg3 arg4 arg5 arg6 f1 f2 f3 f4 f5 f6 arg17 arg18 arg19 R E T hP hX hI
    intro l u h1 h2
    exact h l u (by omega) (by fin_cases l <;> (show u < 2 * tv i + 8 + 2; omega))
  · rw [found18]
    exact edge_end c i arg1 arg2 arg3 arg4 arg5 arg6 f1 f2 f3 f4 f5 f6 arg17 arg18 arg19 R E T hP hX hI
  · rw [found19]
    exact top_end c i arg1 arg2 arg3 arg4 arg5 arg6 f1 f2 f3 f4 f5 f6 arg17 arg18 arg19 R E T hP hX hI
  · rw [found12]
    exact out_end c i arg1 arg2 arg3 arg4 arg5 arg6 f1 f2 f3 f4 f5 f6 arg17 arg18 arg19 R E T hP hX hI 0 _ _ _ (cond3_iff i) h12
  · rw [found13]
    exact out_end c i arg1 arg2 arg3 arg4 arg5 arg6 f1 f2 f3 f4 f5 f6 arg17 arg18 arg19 R E T hP hX hI 1 _ _ _ (cond5_iff i) h13
  · rw [found14]
    exact out_end c i arg1 arg2 arg3 arg4 arg5 arg6 f1 f2 f3 f4 f5 f6 arg17 arg18 arg19 R E T hP hX hI 2 _ _ _ (cond7_iff i) h14
  · rw [found15]
    exact out_end c i arg1 arg2 arg3 arg4 arg5 arg6 f1 f2 f3 f4 f5 f6 arg17 arg18 arg19 R E T hP hX hI 3 _ _ _ (cond9_iff i) h15
  · rw [found16]
    exact max_end c i arg1 arg2 arg3 arg4 arg5 arg6 arg16 f1 f2 f3 f4 f5 f6 f16 arg17 arg18 arg19 R E T hP hX hI

end Cert.KernelIdeal.Hand

end
-- ==== Proof.Hand.KernelIdeal.Moves.lean ====
/-
  Hand-written, untrusted. The result arrays of the calls: the order in which a call writes their blocks, and the host's copies from a call to the next.
-/
module

public import proofs.«01_k».proof.Proof.Hand.KernelIdeal.Calls
public import Idealize.ShloMosaic.Lib.Pipeline.ValueKit.Partial
public import Idealize.ShloMosaic.Lib.StableHlo.RunRead

@[expose] public section

set_option maxHeartbeats 4000000
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (RDat Dat Cfg Window)

section
variable {nD : ℕ} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- An array after a run, read through its view: `G` where the written blocks hold `G` and the earlier contents elsewhere are `G`. -/
theorem read_of_coversWhere (w : Fin cfg.W) (G : (cfg.win w).shape.Idx → Val (cfg.win w).elt)
    (Q : (Fin (cfg.win w).shape.rank → Nat) → Prop) (hW : (cfg.win w).CoversWhere Q)
    (hG : ∀ t, (cfg.win w).flush t = true → ∀ y : ((cfg.win w).xblock (cfg.grid.coords t)).Idx,
      dat.after w t ((cfg.win w).xinj (cfg.grid.coords t) y) = G (((cfg.win w).rect t).emb y))
    (hA : ∀ j : (cfg.win w).shape.Idx, ¬Q ((cfg.win w).cell j) → (cfg.win w).arr.view.read Val (dat.A w) j = G j) :
    (cfg.win w).arr.view.read Val (dat.arrAt w cfg.N) = G := by
  funext j
  refine dat.arrAt_emb_forall_of_coversWhere w
    (fun i v => ∀ j, (cfg.win w).arr.view.emb j = i → _root_.cast (congrArg Val (cfg.win w).arr.view.elt_eq) v = G j) Q hW
    (fun t hf y j e => ?_) (fun j₀ hj j e => ?_) j j rfl
  · have e' : j = ((cfg.win w).rect t).emb y := (cfg.win w).arr.view.emb.injective e
    subst e'
    exact (cast_cast _ _ _).trans (hG t hf y)
  · have e' : j = j₀ := (cfg.win w).arr.view.emb.injective e
    subst e'
    exact hA j hj

end

/-! ### The order of the blocks -/

theorem fetcho : ∀ (k : Fin 5) (l : Fin 4) (t : Fin grid1.N), ((calls k).wino l).fetch t = false := fun _ _ _ => rfl

theorem flusho : ∀ (k : Fin 5) (l : Fin 4) (t : Fin grid1.N), ((calls k).wino l).flush t = true ↔ 2 * l.val ≤ t.val ∧ t.val - 2 * l.val < 116 ∨ t.val = 122 := by
  decide +kernel

theorem flushm : ∀ (k : Fin 5) (t : Fin grid1.N), (calls k).win10.flush t = true ↔ t.val = 122 := by decide +kernel

theorem indexo : ∀ (k : Fin 5) (l : Fin 4) (t : Fin grid1.N), ((calls k).wino l).index t = ![k.val, min (t.val - 2 * l.val) 116, 0, 0] := by decide +kernel

theorem indexm : ∀ (k : Fin 5) (t : Fin grid1.N), (calls k).win10.index t = ![k.val, 0, 0] := by decide +kernel

theorem coverso : ∀ (k : Fin 5) (l : Fin 4), ((calls k).wino l).CoversWhere (fun β => β (0 : Fin 4) = k.val) := by decide +kernel

theorem coversm : ∀ k : Fin 5, (calls k).win10.CoversWhere (fun β => β (0 : Fin 3) = k.val) := by decide +kernel

/-! ### The contents of the result arrays -/

variable {F : FTy → Type} [FloatOps F]

/-- Layer `l`'s codes, in a call's result array. -/
def codes (D : Call) (l : Fin 4) (V : Valuation τ sig (Elt F)) : S5x234x64x236.Idx → Elt F .i8 :=
  (D.out l).view.read (Elt F) (V (Proc.devRef .tc (D.out l).view.ref))

/-- The channel maxima, in a call's result array. -/
def chmax (D : Call) (V : Valuation τ sig (Elt F)) : S5x64x128.Idx → Elt F .f32 :=
  D.mx.view.read (Elt F) (V (Proc.devRef .tc D.mx.view.ref))

/-- The host's copies after call 0. -/
theorem copies0 (V : Valuation τ sig (Elt F)) :
    StableHlo.after hostOps1 V (Proc.devRef .tc main_v26_0) = V (Proc.devRef .tc main_v25_0) ∧
    StableHlo.after hostOps1 V (Proc.devRef .tc main_v26_1) = V (Proc.devRef .tc main_v25_1) ∧
    StableHlo.after hostOps1 V (Proc.devRef .tc main_v26_2) = V (Proc.devRef .tc main_v25_2) ∧
    StableHlo.after hostOps1 V (Proc.devRef .tc main_v26_3) = V (Proc.devRef .tc main_v25_3) ∧
    StableHlo.after hostOps1 V (Proc.devRef .tc main_v26_4) = V (Proc.devRef .tc main_v25_4) := by
  refine ⟨?_, ?_, ?_, ?_, ?_⟩
  all_goals
    after_reads_simp
    try rfl

/-- The host's copies after call 1. -/
theorem copies1 (V : Valuation τ sig (Elt F)) :
    StableHlo.after hostOps2 V (Proc.devRef .tc main_v27_0) = V (Proc.devRef .tc main_v26_0) ∧
    StableHlo.after hostOps2 V (Proc.devRef .tc main_v27_1) = V (Proc.devRef .tc main_v26_1) ∧
    StableHlo.after hostOps2 V (Proc.devRef .tc main_v27_2) = V (Proc.devRef .tc main_v26_2) ∧
    StableHlo.after hostOps2 V (Proc.devRef .tc main_v27_3) = V (Proc.devRef .tc main_v26_3) ∧
    StableHlo.after hostOps2 V (Proc.devRef .tc main_v27_4) = V (Proc.devRef .tc main_v26_4) := by
  refine ⟨?_, ?_, ?_, ?_, ?_⟩
  all_goals
    after_reads_simp
    try rfl

/-- The host's copies after call 2. -/
theorem copies2 (V : Valuation τ sig (Elt F)) :
    StableHlo.after hostOps3 V (Proc.devRef .tc main_v28_0) = V (Proc.devRef .tc main_v27_0) ∧
    StableHlo.after hostOps3 V (Proc.devRef .tc main_v28_1) = V (Proc.devRef .tc main_v27_1) ∧
    StableHlo.after hostOps3 V (Proc.devRef .tc main_v28_2) = V (Proc.devRef .tc main_v27_2) ∧
    StableHlo.after hostOps3 V (Proc.devRef .tc main_v28_3) = V (Proc.devRef .tc main_v27_3) ∧
    StableHlo.after hostOps3 V (Proc.devRef .tc main_v28_4) = V (Proc.devRef .tc main_v27_4) := by
  refine ⟨?_, ?_, ?_, ?_, ?_⟩
  all_goals
    after_reads_simp
    try rfl

/-- The host's copies after call 3. -/
theorem copies3 (V : Valuation τ sig (Elt F)) :
    StableHlo.after hostOps4 V (Proc.devRef .tc main_v29_0) = V (Proc.devRef .tc main_v28_0) ∧
    StableHlo.after hostOps4 V (Proc.devRef .tc main_v29_1) = V (Proc.devRef .tc main_v28_1) ∧
    StableHlo.after hostOps4 V (Proc.devRef .tc main_v29_2) = V (Proc.devRef .tc main_v28_2) ∧
    StableHlo.after hostOps4 V (Proc.devRef .tc main_v29_3) = V (Proc.devRef .tc main_v28_3) ∧
    StableHlo.after hostOps4 V (Proc.devRef .tc main_v29_4) = V (Proc.devRef .tc main_v28_4) := by
  refine ⟨?_, ?_, ?_, ?_, ?_⟩
  all_goals
    after_reads_simp
    try rfl

theorem codes_moved (V : Valuation τ sig (Elt F)) : ∀ (k : Fin 4) (l : Fin 4), codes (calls k.succ) l (hostAfter k.castSucc V) = codes (calls k.castSucc) l V := fun
  | 0, 0 => (copies0 V).1 | 0, 1 => (copies0 V).2.1 | 0, 2 => (copies0 V).2.2.1 | 0, 3 => (copies0 V).2.2.2.1
  | 1, 0 => (copies1 V).1 | 1, 1 => (copies1 V).2.1 | 1, 2 => (copies1 V).2.2.1 | 1, 3 => (copies1 V).2.2.2.1
  | 2, 0 => (copies2 V).1 | 2, 1 => (copies2 V).2.1 | 2, 2 => (copies2 V).2.2.1 | 2, 3 => (copies2 V).2.2.2.1
  | 3, 0 => (copies3 V).1 | 3, 1 => (copies3 V).2.1 | 3, 2 => (copies3 V).2.2.1 | 3, 3 => (copies3 V).2.2.2.1

theorem chmax_moved (V : Valuation τ sig (Elt F)) : ∀ k : Fin 4, chmax (calls k.succ) (hostAfter k.castSucc V) = chmax (calls k.castSucc) V := fun
  | 0 => (copies0 V).2.2.2.2 | 1 => (copies1 V).2.2.2.2 | 2 => (copies2 V).2.2.2.2 | 3 => (copies3 V).2.2.2.2

end Cert.KernelIdeal.Hand

end
-- ==== Proof.Hand.KernelIdeal.Value.lean ====
/-
  Hand-written, untrusted. The arrays the program leaves: after call `k`, the model's results at the batch elements up to `k`.
-/
module

public import proofs.«01_k».proof.Proof.Hand.KernelIdeal.Step
public import proofs.«01_k».proof.Proof.Hand.KernelIdeal.Moves

@[expose] public section

set_option maxHeartbeats 4000000
set_option maxRecDepth 16384

noncomputable section

namespace Cert.KernelIdeal.Hand

open Cert.KernelIdeal Cert.KernelIdeal.Gen
open Idealize.ShloMosaic Idealize.ShloMosaic.TcCoe Cert.Hand Idealize.SL.Sem
open Idealize.ShloMosaic.Pipeline (RDat Dat Cfg Window)

/-- What is carried along the grid. -/
def track (D : Call) (P : Par) : Track D Ideal where
  inv := Inv P
  rl w t X := match w, X with
    | ⟨0, _⟩, _ => True | ⟨1, _⟩, _ => True | ⟨2, _⟩, _ => True | ⟨3, _⟩, _ => True | ⟨4, _⟩, _ => True | ⟨5, _⟩, _ => True
    | ⟨6, _⟩, X => Out P 0 t.val X
    | ⟨7, _⟩, X => Out P 1 t.val X
    | ⟨8, _⟩, X => Out P 2 t.val X
    | ⟨9, _⟩, X => Out P 3 t.val X
    | ⟨10, _⟩, X => OutMax P t.val X

/-- A window that is neither fetched nor was written back holds what the step before left. -/
theorem carry (D : Call) (V : Valuation τ sig (Elt Ideal)) (K : Track D Ideal) (Z : Asn Ideal) (c : Dev nD) (w : Fin D.cfg.W) (hw : held w = true)
    (t : Fin D.cfg.N) (ht : t.val ≠ 0) (hf : (D.cfg.win w).fetch t = false)
    (hfl : (D.cfg.win w).flush ⟨t.val - 1, Nat.lt_of_le_of_lt (Nat.sub_le _ _) t.isLt⟩ = false) (Y) (h : (rdat D V K Z c).Finds w t Y) :
    K.rl w ⟨t.val - 1, Nat.lt_of_le_of_lt (Nat.sub_le _ _) t.isLt⟩ Y := by
  rcases ((rdat D V K Z c).finds_of_pos hf ht Y).mp h with h | h
  · rw [hfl] at h; exact absurd h Bool.false_ne_true
  · exact Dat.toRRel_leaves (dat D V K Z c) hw h

/-- An idle step's block is the last step's. -/
theorem idle {P : Par} (l t : ℕ) (ht : 117 + 2 * l ≤ t) (X : S1x2x64x236.Idx → Elt Ideal .i8) (h : Out P l (t - 1) X) : Out P l t X := by
  intro h1 c r y
  rw [h (by omega) c r y]
  have e : min (t - 1 - 2 * l) 116 = min (t - 2 * l) 116 := by omega
  rw [e]

theorem tv_eq (t : Fin grid1.N) : tv (grid1.coords t) = t.val := tv_coords t

section
variable (m : (ℓ : Loc nD τ sig) → Buf (Elt Ideal) ℓ) (k : Fin 5) (V : Valuation τ sig (Elt Ideal)) (Z : Asn Ideal) (c : Dev nD) {P : Par}

/-- The canvas a call reads. -/
theorem src_eq (hS : Same m c V) : ∀ k : Fin 5, (calls k).src.view.read (Elt Ideal) (V (Proc.devRef .tc (Pipeline.arrRef (calls k).cfg.spec 0))) = can m c k := fun
  | 0 => (hS main_arg0 (by decide)).trans (V1_of m c main_arg0 (by decide))
  | 1 => (hS main_arg1 (by decide)).trans (V1_of m c main_arg1 (by decide))
  | 2 => (hS main_arg2 (by decide)).trans (V1_of m c main_arg2 (by decide))
  | 3 => (hS main_arg3 (by decide)).trans (V1_of m c main_arg3 (by decide))
  | 4 => (hS main_arg4 (by decide)).trans (V1_of m c main_arg4 (by decide))

theorem blocks (hS : Same m c V) (t : Fin (calls k).cfg.N) :
    Blocks (par m c k) t.val (iblk (calls k) V 0 t) (iblk (calls k) V 1 t) (iblk (calls k) V 2 t) (iblk (calls k) V 3 t) (iblk (calls k) V 4 t) (iblk (calls k) V 5 t) where
  h1 ht j s l := ((iblk0 (calls k) V t j s l).trans (congrFun (src_eq m V c hS k) _)).trans
    ((rd3_eq (0 : BitVec 32) (can m c k) _ s l).trans (by show rd3 0 (can m c k) (32 * min t.val 116 + j) s l = rd3 0 (can m c k) (32 * t.val + j) s l; rw [min_eq_left ht]))
  h2 r n := (iblk1 (calls k) V t r n).trans ((congrFun (hS main_v13 (by decide)) _).trans (V_w0 m c k r n))
  h3 l r n := (iblk2 (calls k) V t l r n).trans ((congrFun (hS main_v15 (by decide)) _).trans (V_wl m c k l r n))
  h4 l r z := (iblk3 (calls k) V t l r z).trans ((congrFun (hS main_v22 (by decide)) _).trans (V_sc m c k l r z))
  h5 l r z := (iblk4 (calls k) V t l r z).trans ((congrFun (hS main_v24 (by decide)) _).trans (V_bi m c k l r z))
  h6 l := (iblk5 (calls k) V t l).trans ((congrFun ((hS main_arg9 (by decide)).trans (V1_of m c main_arg9 (by decide))) _).trans
    (rd1_eq (0 : EReal) (m (c, Proc.tc.devRef main_arg9) : FVec Ideal S4 .f32) l))

/-- No flush in the idle steps before the last. -/
theorem no_flush (l : Fin 4) (t : Fin grid1.N) (h : 117 + 2 * l.val ≤ t.val) :
    ((calls k).wino l).flush ⟨t.val - 1, Nat.lt_of_le_of_lt (Nat.sub_le _ _) t.isLt⟩ = false := by
  have := t.isLt
  change t.val < 123 at this
  rw [← Bool.not_eq_true, flusho]
  dsimp only
  omega

theorem step (hP : Clear P) (hB : ∀ t : Fin (calls k).cfg.N, Blocks P t.val (iblk (calls k) V 0 t) (iblk (calls k) V 1 t) (iblk (calls k) V 2 t) (iblk (calls k) V 3 t)
    (iblk (calls k) V 4 t) (iblk (calls k) V 5 t)) : Step (calls k) V (track (calls k) P) Z c := by
  intro t Y12 Y13 Y14 Y15 Y16 Y17 Y18 Y19 hI h12 h13 h14 h15 h16
  have e := tv_eq t
  have hB := hB t
  have hI' : Inv P t.val Y17 Y18 Y19 := hI
  have g12 : 117 + 2 * 0 ≤ t.val → Out P 0 t.val Y12 := fun h => idle 0 _ h _
    (carry (calls k) V (track (calls k) P) Z c 6 rfl t (by omega) (fetcho k 0 t) (no_flush k 0 t h) Y12 h12)
  have g13 : 117 + 2 * 1 ≤ t.val → Out P 1 t.val Y13 := fun h => idle 1 _ h _
    (carry (calls k) V (track (calls k) P) Z c 7 rfl t (by omega) (fetcho k 1 t) (no_flush k 1 t h) Y13 h13)
  have g14 : 117 + 2 * 2 ≤ t.val → Out P 2 t.val Y14 := fun h => idle 2 _ h _
    (carry (calls k) V (track (calls k) P) Z c 8 rfl t (by omega) (fetcho k 2 t) (no_flush k 2 t h) Y14 h14)
  have g15 : 117 + 2 * 3 ≤ t.val → Out P 3 t.val Y15 := fun h => idle 3 _ h _
    (carry (calls k) V (track (calls k) P) Z c 9 rfl t (by omega) (fetcho k 3 t) (no_flush k 3 t h) Y15 h15)
  rw [← e] at hB hI' g12 g13 g14 g15
  have h := leads c (grid1.coords t) ((calls k).win0.stage ((calls k).cfg.slots t 0)) ((calls k).hstg0 (((calls k).cfg.slots t 0).cast nbuf1_0)) ((calls k).win1.stage ((calls k).cfg.slots t 1)) ((calls k).hstg1 (((calls k).cfg.slots t 1).cast nbuf1_1)) ((calls k).win2.stage ((calls k).cfg.slots t 2)) ((calls k).hstg2 (((calls k).cfg.slots t 2).cast nbuf1_2)) ((calls k).win3.stage ((calls k).cfg.slots t 3)) ((calls k).hstg3 (((calls k).cfg.slots t 3).cast nbuf1_3)) ((calls k).win4.stage ((calls k).cfg.slots t 4)) ((calls k).hstg4 (((calls k).cfg.slots t 4).cast nbuf1_4)) ((calls k).win5.stage ((calls k).cfg.slots t 5)) ((calls k).hstg5 (((calls k).cfg.slots t 5).cast nbuf1_5)) ((calls k).out 0) ((calls k).hout 0) ((calls k).out 1) ((calls k).hout 1) ((calls k).out 2) ((calls k).hout 2) ((calls k).out 3) ((calls k).hout 3) (calls k).mx (calls k).hmx (((calls k).wino 0).stage ((calls k).cfg.slots t 6)) ((calls k).hstgo 0 (((calls k).cfg.slots t 6).cast nbuf1_6)) (((calls k).wino 1).stage ((calls k).cfg.slots t 7)) ((calls k).hstgo 1 (((calls k).cfg.slots t 7).cast nbuf1_7)) (((calls k).wino 2).stage ((calls k).cfg.slots t 8)) ((calls k).hstgo 2 (((calls k).cfg.slots t 8).cast nbuf1_8)) (((calls k).wino 3).stage ((calls k).cfg.slots t 9)) ((calls k).hstgo 3 (((calls k).cfg.slots t 9).cast nbuf1_9)) ((calls k).win10.stage ((calls k).cfg.slots t 10)) ((calls k).hstg10 (((calls k).cfg.slots t 10).cast nbuf1_10)) (calls k).scR (calls k).hscR (calls k).scE (calls k).hscE (calls k).scT (calls k).hscT
    (iblk (calls k) V 0 t) (iblk (calls k) V 1 t) (iblk (calls k) V 2 t) (iblk (calls k) V 3 t) (iblk (calls k) V 4 t) (iblk (calls k) V 5 t) Y12 Y13 Y14 Y15 Y16 Y17 Y18 Y19
    hP hB hI' g12 g13 g14 g15
  rw [e] at h
  exact h

/-- A result array: layer `l`'s codes at batch element `k`. -/
def outG (P : Par) (k : Fin 5) (l : ℕ) (A : S5x234x64x236.Idx → Elt Ideal .i8) : S5x234x64x236.Idx → Elt Ideal .i8 :=
  fun j => if (j 0).val = k.val then P.q l (j 3).val (j 1).val (j 2).val else A j

/-- The array of channel maxima at batch element `k`. -/
def maxG (P : Par) (k : Fin 5) (A : S5x64x128.Idx → Elt Ideal .f32) : S5x64x128.Idx → Elt Ideal .f32 :=
  fun j => if (j 0).val = k.val then cmax P (j 1).val else A j

theorem out_put {l t : ℕ} {X : S1x2x64x236.Idx → Elt Ideal .i8} (h : Out P l t X) (ht : 2 * l ≤ t) (A : S5x234x64x236.Idx → Elt Ideal .i8)
    (y : S1x2x64x236.Idx) (hl : 2 * min (t - 2 * l) 116 + (y 1).val < 234) :
    X y = outG P k l A (ix4 k ⟨2 * min (t - 2 * l) 116 + (y 1).val, hl⟩ (y 2) (y 3) : S5x234x64x236.Idx) := by
  have e : y = ix4 0 (y 1) (y 2) (y 3) := (eq_ix4 y).trans (congrArg (fun a : Fin 1 => ix4 a (y 1) (y 2) (y 3)) (Subsingleton.elim (α := Fin 1) (y 0) 0))
  exact (congrArg X e).trans ((h ht (y 1) (y 2) (y 3)).trans (if_pos rfl).symm)

/-- A written block of layer `l`'s result is its part of the array. -/
theorem out_block (l : Fin 4) (t : Fin grid1.N) (hf : ((calls k).wino l).flush t = true) {X : S1x2x64x236.Idx → Elt Ideal .i8} (h : Out P l.val t.val X)
    (A : S5x234x64x236.Idx → Elt Ideal .i8) (y : S1x2x64x236.Idx) : X y = outG P k l.val A ((((calls k).wino l).rect t).emb y) := by
  have ht : 2 * l.val ≤ t.val := by have := l.isLt; have := (flusho k l t).mp hf; omega
  have hl : 2 * min (t.val - 2 * l.val) 116 + (y 1).val < 234 := by have := (y 1).isLt; change (y 1).val < 2 at this; omega
  have e : (((calls k).wino l).rect t).emb y = (ix4 k ⟨2 * min (t.val - 2 * l.val) 116 + (y 1).val, hl⟩ (y 2) (y 3) : S5x234x64x236.Idx) := by
    have h0 := (y 0).isLt
    change (y 0).val < 1 at h0
    blk_ext [indexo]
    all_goals (simp only [Pipeline.WinKind.off]; omega)
  exact (out_put k h ht A y hl).trans (congrArg (outG P k l.val A) e.symm)

theorem out_rest (l : Fin 4) (A : S5x234x64x236.Idx → Elt Ideal .i8) (j : S5x234x64x236.Idx) (hj : ¬ ((calls k).wino l).cell j (0 : Fin 4) = k.val) :
    A j = outG P k l.val A j :=
  (if_neg fun h0 => hj ((Nat.div_one _).trans h0)).symm

theorem max_block (t : Fin grid1.N) (hf : (calls k).win10.flush t = true) {X : S1x64x128.Idx → Elt Ideal .f32} (h : OutMax P t.val X)
    (A : S5x64x128.Idx → Elt Ideal .f32) (y : S1x64x128.Idx) : X y = maxG P k A (((calls k).win10.rect t).emb y) := by
  have e : ((calls k).win10.rect t).emb y = (ix3 k (y 1) (y 2) : S5x64x128.Idx) := by
    have h0 := (y 0).isLt
    change (y 0).val < 1 at h0
    blk_ext [indexm]
    all_goals (simp only [Pipeline.WinKind.off]; omega)
  have e' : y = ix3 0 (y 1) (y 2) := (eq_ix3 y).trans (congrArg (fun a : Fin 1 => ix3 a (y 1) (y 2)) (Subsingleton.elim (α := Fin 1) (y 0) 0))
  exact ((congrArg X e').trans ((h ((flushm k t).mp hf) (y 1) (y 2)).trans (if_pos rfl).symm)).trans (congrArg (maxG P k A) e.symm)

theorem max_rest (A : S5x64x128.Idx → Elt Ideal .f32) (j : S5x64x128.Idx) (hj : ¬ (calls k).win10.cell j (0 : Fin 3) = k.val) : A j = maxG P k A j :=
  (if_neg fun h0 => hj ((Nat.div_one _).trans h0)).symm

/-- What a call leaves: the model's results at its batch element, the earlier contents at the others. -/
theorem call_results {V V' : Valuation τ sig (Elt Ideal)} (h : Cert.Hand.Chain.After (rdat (calls k) V (track (calls k) P) Z c) V V') :
    (∀ l : Fin 4, codes (calls k) l V' = outG P k l.val (codes (calls k) l V)) ∧ chmax (calls k) V' = maxG P k (chmax (calls k) V) := by
  obtain ⟨after, hl, ha⟩ := RDat.ArrAt.exists_exact_all h.1
  have hl' : ∀ (w : Fin (calls k).cfg.W) (u), held w = true → ((calls k).cfg.win w).flush u = true → (track (calls k) P).rl w u (after w u) :=
    fun w u hw hf => Dat.toRRel_leaves (dat (calls k) V (track (calls k) P) Z c) hw (hl w u u.isLt hf)
  have o0 : ∀ t : Fin grid1.N, ((calls k).wino 0).flush t = true → Out P 0 t.val (after 6 t) := fun t hf => hl' 6 t rfl hf
  have o1 : ∀ t : Fin grid1.N, ((calls k).wino 1).flush t = true → Out P 1 t.val (after 7 t) := fun t hf => hl' 7 t rfl hf
  have o2 : ∀ t : Fin grid1.N, ((calls k).wino 2).flush t = true → Out P 2 t.val (after 8 t) := fun t hf => hl' 8 t rfl hf
  have o3 : ∀ t : Fin grid1.N, ((calls k).wino 3).flush t = true → Out P 3 t.val (after 9 t) := fun t hf => hl' 9 t rfl hf
  have om : ∀ t : Fin grid1.N, (calls k).win10.flush t = true → OutMax P t.val (after 10 t) := fun t hf => hl' 10 t rfl hf
  refine ⟨fun l => ?_, ?_⟩
  · match l with
    | 0 => exact (congrArg (((calls k).out 0).view.read (Elt Ideal)) (ha 6)).trans (read_of_coversWhere ((rdat (calls k) V (track (calls k) P) Z c).withAfter after) 6 (outG P k 0 (codes (calls k) 0 V)) _ (coverso k 0)
        (fun t hf y => out_block (P := P) k 0 t hf (X := after 6 t) (o0 t hf) _ y) fun j hj => out_rest k 0 _ j hj)
    | 1 => exact (congrArg (((calls k).out 1).view.read (Elt Ideal)) (ha 7)).trans (read_of_coversWhere ((rdat (calls k) V (track (calls k) P) Z c).withAfter after) 7 (outG P k 1 (codes (calls k) 1 V)) _ (coverso k 1)
        (fun t hf y => out_block (P := P) k 1 t hf (X := after 7 t) (o1 t hf) _ y) fun j hj => out_rest k 1 _ j hj)
    | 2 => exact (congrArg (((calls k).out 2).view.read (Elt Ideal)) (ha 8)).trans (read_of_coversWhere ((rdat (calls k) V (track (calls k) P) Z c).withAfter after) 8 (outG P k 2 (codes (calls k) 2 V)) _ (coverso k 2)
        (fun t hf y => out_block (P := P) k 2 t hf (X := after 8 t) (o2 t hf) _ y) fun j hj => out_rest k 2 _ j hj)
    | 3 => exact (congrArg (((calls k).out 3).view.read (Elt Ideal)) (ha 9)).trans (read_of_coversWhere ((rdat (calls k) V (track (calls k) P) Z c).withAfter after) 9 (outG P k 3 (codes (calls k) 3 V)) _ (coverso k 3)
        (fun t hf y => out_block (P := P) k 3 t hf (X := after 9 t) (o3 t hf) _ y) fun j hj => out_rest k 3 _ j hj)
  · exact (congrArg ((calls k).mx.view.read (Elt Ideal)) (ha 10)).trans (read_of_coversWhere ((rdat (calls k) V (track (calls k) P) Z c).withAfter after) 10 (maxG P k (chmax (calls k) V)) _ (coversm k)
      (fun t hf y => max_block (P := P) k t hf (X := after 10 t) (om t hf) _ y) fun j hj => max_rest k _ j hj)

end

/-! ### The whole program -/

section
variable (m : (ℓ : Loc nD τ sig) → Buf (Elt Ideal) ℓ) (ρ : Dev nD → PrngReg)

/-- Layer `l`'s codes at every batch element. -/
def outAll (P : Fin 5 → Par) (l : ℕ) : S5x234x64x236.Idx → Elt Ideal .i8 := fun j => (P (j 0)).q l (j 3).val (j 1).val (j 2).val

/-- The channel maxima at every batch element. -/
def maxAll (P : Fin 5 → Par) : S5x64x128.Idx → Elt Ideal .f32 := fun j => cmax (P (j 0)) (j 1).val

/-- The result arrays of `D` hold the model's results at the batch elements below `n`. -/
def Done (P : Fin 5 → Par) (n : ℕ) (D : Call) (V : Valuation τ sig (Elt Ideal)) : Prop :=
  (∀ (l : Fin 4) (j : S5x234x64x236.Idx), (j 0).val < n → codes D l V j = outAll P l.val j) ∧ ∀ j : S5x64x128.Idx, (j 0).val < n → chmax D V j = maxAll P j

theorem done_call {P : Fin 5 → Par} (k : Fin 5) {Z : Asn Ideal} {c : Dev nD} {V V' : Valuation τ sig (Elt Ideal)}
    (h : Cert.Hand.Chain.After (rdat (calls k) V (track (calls k) (P k)) Z c) V V') (hd : Done P k.val (calls k) V) : Done P (k.val + 1) (calls k) V' := by
  obtain ⟨h1, h2⟩ := call_results k Z c h
  refine ⟨fun l j hj => ?_, fun j hj => ?_⟩
  · rw [h1 l]
    unfold outG
    by_cases e : (j 0).val = k.val
    · rw [if_pos e]
      have e' : (j 0 : Fin 5) = k := Fin.ext e
      unfold outAll
      rw [e']
    · rw [if_neg e]
      exact hd.1 l j (by omega)
  · rw [h2]
    unfold maxG
    by_cases e : (j 0).val = k.val
    · rw [if_pos e]
      have e' : (j 0 : Fin 5) = k := Fin.ext e
      unfold maxAll
      rw [e']
    · rw [if_neg e]
      exact hd.2 j (by omega)

theorem done_moved {P : Fin 5 → Par} (k : Fin 4) {n : ℕ} {V : Valuation τ sig (Elt Ideal)} (h : Done P n (calls k.castSucc) V) :
    Done P n (calls k.succ) (hostAfter k.castSucc V) :=
  ⟨fun l j hj => (congrFun (codes_moved V k l) j).trans (h.1 l j hj), fun j hj => (congrFun (chmax_moved V k) j).trans (h.2 j hj)⟩

/-- The call whose arrays hold the results so far. -/
abbrev cur : Fin 6 → Fin 5 := fun | 0 => 0 | 1 => 1 | 2 => 2 | 3 => 3 | 4 => 4 | 5 => 4

theorem cur_castSucc : ∀ k : Fin 5, cur k.castSucc = k := by decide

theorem done_next {P : Fin 5 → Par} {V : Valuation τ sig (Elt Ideal)} : ∀ k : Fin 5, Done P (k.val + 1) (calls k) V → Done P (k.val + 1) (calls (cur k.succ)) (hostAfter k V) := fun
  | 0, h => done_moved 0 h
  | 1, h => done_moved 1 h
  | 2, h => done_moved 2 h
  | 3, h => done_moved 3 h
  | 4, h => h

/-- The buffers before call `n`. -/
def Then (n : Fin 6) (c : Dev nD) (V : Valuation τ sig (Elt Ideal)) : Prop := Same m c V ∧ Done (par m c) n.val (calls (cur n)) V

theorem outs_uc : ∀ b ∈ ([main_v29_0, main_v29_1, main_v29_2, main_v29_3, main_v29_4] : List (Ref sig .tc)), (Proc.devRef .tc b : DevRef τ sig) ∈ Pipeline.ucRefs τ sig := by decide

/-- What the run leaves: the model's results at every batch element. -/
theorem results (hP : ∀ c b, Clear (par m c b)) :
    θ_run defs (onTc main) ⟨m, fun _ => 0, ρ⟩ (fun r => ∀ c : Dev nD,
      r.2.mem ((c : Thread nD τ).loc main_v29_0) = outAll (par m c) 0 ∧
      r.2.mem ((c : Thread nD τ).loc main_v29_1) = outAll (par m c) 1 ∧
      r.2.mem ((c : Thread nD τ).loc main_v29_2) = outAll (par m c) 2 ∧
      r.2.mem ((c : Thread nD τ).loc main_v29_3) = outAll (par m c) 3 ∧
      r.2.mem ((c : Thread nD τ).loc main_v29_4) = maxAll (par m c) ∧
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))) := by
  refine (θ_run defs _ _).mono (fun r h c => ?_) (run m ρ (fun k c => track (calls k) (par m c k)) (Then m)
    (fun c => ⟨same_launch m c, fun _ _ h => absurd h (Nat.not_lt_zero _), fun _ h => absurd h (Nat.not_lt_zero _)⟩)
    (fun _ _ _ _ _ h => absurd h (Nat.lt_irrefl 0))
    (fun k c V h => step k V _ c (hP c k) (blocks m k V c h.1))
    fun k c V V' h ha => ?_)
  · obtain ⟨V, hV, hr⟩ := h.1 c
    have hd : Done (par m c) 5 call4 V := hV.2
    have g : ∀ b ∈ ([main_v29_0, main_v29_1, main_v29_2, main_v29_3, main_v29_4] : List (Ref sig .tc)), r.2.mem (c, Proc.devRef .tc b) = V (Proc.devRef .tc b) :=
      fun b hb => hr _ (outs_uc b hb)
    exact ⟨(g main_v29_0 (by decide)).trans (funext fun j => hd.1 0 j (j 0).isLt), (g main_v29_1 (by decide)).trans (funext fun j => hd.1 1 j (j 0).isLt),
      (g main_v29_2 (by decide)).trans (funext fun j => hd.1 2 j (j 0).isLt), (g main_v29_3 (by decide)).trans (funext fun j => hd.1 3 j (j 0).isLt),
      (g main_v29_4 (by decide)).trans (funext fun j => hd.2 j (j 0).isLt), args_of m r c V hV.1 hr⟩
  · have hd := h.2
    rw [cur_castSucc] at hd
    exact ⟨same_host m c k (same_call m _ k c h.1 ha), done_next k (done_call k ha hd)⟩

end

end Cert.KernelIdeal.Hand

end
-- ==== Proof.Hand.RefVals.lean ====
/-
  Hand-written, untrusted. The reference's result arrays: the model's results at every batch element.
-/
module

public import proofs.«01_k».proof.Proof.Hand.Ref
public import proofs.«01_k».proof.Proof.Hand.KernelIdeal.Value

@[expose] public section

set_option maxRecDepth 16384

noncomputable section

namespace Cert.ReferenceIdeal.Hand

open Cert.ReferenceIdeal Cert.ReferenceIdeal.Value Cert.ReferenceIdeal.Gen Idealize.SL.Sem Idealize.ShloMosaic.StableHlo
open Idealize.ShloMosaic Idealize.ShloMosaic.TcCoe Cert.Hand
open Cert.KernelIdeal.Hand (cmax outAll maxAll)

/-- A result array: the codes, turned. -/
theorem turned (P : Fin 5 → Par) (l : ℕ) (B : IVec S5x236x234x64 8)
    (hB : ∀ (b : Fin 5) (y : Fin 236) (x : Fin 234) (co : Fin 64), B (ix4 b y x co) = (P b).q l y x co) (h) :
    transpose S5x234x64x236 [0, 2, 3, 1] B h = outAll P l := by
  have key : ∀ (b : Fin 5) (x : Fin 234) (co : Fin 64) (y : Fin 236), transpose S5x234x64x236 [0, 2, 3, 1] B h (ix4 b x co y) = (P b).q l y x co := by
    intro b x co y
    pointwise [hB]
  funext j
  exact (congrArg (transpose S5x234x64x236 [0, 2, 3, 1] B h) (eq_ix4 j)).trans (key _ _ _ _)

/-- The channel maxima of one batch element. -/
theorem red_max (V : FVec Ideal S5x236x234x64 .f32) (P : Fin 5 → Par)
    (hV : ∀ (b : Fin 5) (y : Fin 236) (x : Fin 234) (co : Fin 64), V (ix4 b y x co) = (P b).y 3 y x co) (b : Fin 5) (co : Fin 64)
    (hr : S5x236x234x64.ReducesTo [1, 2] S5x64) (hs) :
    Host.reduce FloatOps.maximumf V (constant S_ .f32 0xFF800000#32) hr hs (ix2 b co) = cmax (P b) co := by
  have e : Ideal.ofBits .f32 0xFF800000#32 = ⊥ := by simp [Ideal.ofBits, Ideal.ieee]
  pointwise []
  rw [e]
  show Finset.sup (Finset.univ.filter fun i : S5x236x234x64.Idx => hr.drop i = ix2 b co) V = _
  refine le_antisymm (Finset.sup_le fun i hi => ?_) (Finset.sup_le fun y hy => Finset.sup_le fun x hx => ?_)
  · have h0 : (i 0 : Fin 5) = b := Fin.ext (congrArg (fun k : S5x64.Idx => (k 0).val) (Finset.mem_filter.mp hi).2)
    have h2 : (i 3).val = co.val := congrArg (fun k : S5x64.Idx => (k 1).val) (Finset.mem_filter.mp hi).2
    rw [show V i = (P (i 0)).y 3 (i 1).val (i 2).val (i 3).val from (congrArg V (eq_ix4 i)).trans (hV _ _ _ _), h2, h0]
    exact (Finset.le_sup (f := fun x => (P b).y 3 (i 1).val x co.val) (Finset.mem_range.mpr (i 2).isLt)).trans
      (Finset.le_sup (f := fun y => (Finset.range 234).sup fun x => (P b).y 3 y x co.val) (Finset.mem_range.mpr (i 1).isLt))
  · rw [← hV b ⟨y, Finset.mem_range.mp hy⟩ ⟨x, Finset.mem_range.mp hx⟩ co]
    refine Finset.le_sup (f := V) (Finset.mem_filter.mpr ⟨Finset.mem_univ _, ?_⟩)
    funext a
    match a with
    | ⟨0, _⟩ => rfl
    | ⟨1, _⟩ => rfl

/-- The array of channel maxima. -/
theorem spread (P : Fin 5 → Par) (R : FVec Ideal S5x64 .f32) (hR : ∀ (b : Fin 5) (co : Fin 64), R (ix2 b co) = cmax (P b) co) (h0 h1) :
    broadcastInDim S5x64x128 ![0, 1, 2] h0 (broadcastInDim S5x64x1 ![0, 1] h1 R) = maxAll P := by
  have key : ∀ (b : Fin 5) (co : Fin 64) (z : Fin 128), broadcastInDim S5x64x128 ![0, 1, 2] h0 (broadcastInDim S5x64x1 ![0, 1] h1 R) (ix3 b co z) = cmax (P b) co := by
    intro b co z
    pointwise [hR]
  funext j
  exact (congrArg (broadcastInDim S5x64x128 ![0, 1, 2] h0 (broadcastInDim S5x64x1 ![0, 1] h1 R)) (eq_ix3 j)).trans (key _ _ _)

variable (m : (ℓ : Loc nD τ sig) → Buf (Elt Ideal) ℓ) (ρ : Dev nD → PrngReg)

theorem codes3 (V0 : Valuation τ sig (Elt Ideal)) (b : Fin 5) (y : Fin 236) (x : Fin 234) (co : Fin 64) (k0 k1 k2 k3 k4 k5) :
    (trunci 8 (fptosi 32 (minimumf (broadcastInDim S5x236x234x64 ![] k0 (id (constant S_ .f32 0x42FE0000#32))) (maximumf (broadcastInDim S5x236x234x64 ![] k1 (id (constant S_ .f32 0xC2FE0000#32)))
      (Host.roundeven (Host.divf (res_main_v196 V0) (broadcastInDim S5x236x234x64 ![] k2 (shapeCast S_ (extractStridedSlice S1 ![3] (V0 (Proc.devRef .tc main_arg9) : FVec Ideal S4 .f32) k3) k4)))))))
      k5 : IVec S5x236x234x64 8) (ix4 b y x co) = (par V0 b).q 3 y x co := by
  pointwise []
  refine (trunc_fptosi _).trans ?_
  refine congrArg (fun a => Ideal.fptosi 8 (min _ (max _ (Ideal.liftRound Ideal.roundHalfEven a)))) ?_
  exact congrArg₂ Ideal.div (v196_apply V0 b y x co) (act V0 b 3)

/-- What the run leaves. -/
theorem results :
    θ_run defs (onTc (τ := τ) (main (F := Ideal))) ⟨m, fun _ => 0, ρ⟩ fun r => ∀ c : Dev nD,
      r.2.mem ((c.tc : Thread nD τ).loc main_v75) = outAll (par (launchContents m c)) 0
      ∧ r.2.mem ((c.tc : Thread nD τ).loc main_v119) = outAll (par (launchContents m c)) 1
      ∧ r.2.mem ((c.tc : Thread nD τ).loc main_v163) = outAll (par (launchContents m c)) 2
      ∧ r.2.mem ((c.tc : Thread nD τ).loc main_v207) = outAll (par (launchContents m c)) 3
      ∧ r.2.mem ((c.tc : Thread nD τ).loc main_v210) = maxAll (par (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run (F := Ideal) m ρ)
  obtain ⟨h0, h1, h2, h3, h4, ha⟩ := h c
  exact ⟨h0.trans (turned _ 0 _ (v72_apply (launchContents m c)) _), h1.trans (turned _ 1 _ (v116_apply (launchContents m c)) _),
    h2.trans (turned _ 2 _ (v160_apply (launchContents m c)) _),
    h3.trans (turned _ 3 _ (fun b y x co => codes3 (launchContents m c) b y x co _ _ _ _ _ _) _),
    h4.trans (spread _ _ (fun b co => red_max _ _ (v196_apply (launchContents m c)) b co _ _) _ _), ha⟩

end Cert.ReferenceIdeal.Hand

end
-- ==== Proof.Hand.Alg.lean ====
/-
  Hand-written, untrusted. The kernel's results and the reference's are the same arrays.
-/
module

public import proofs.«01_k».proof.Defs
public import proofs.«01_k».proof.Proof.Gen.Pre_padding_is_zero
public import proofs.«01_k».proof.Proof.Hand.RefVals
public import proofs.«01_k».proof.Proof.Hand.KernelIdeal.Value

@[expose] public section

set_option maxRecDepth 16384

noncomputable section

namespace Cert.Proof

open Idealize.ShloMosaic Idealize.ShloMosaic.TcCoe Idealize.SL.Sem Cert.Hand
open Cert.KernelIdeal.Hand (Clear outAll maxAll)

/-- The word the precondition reads off the canvas of one batch element. -/
theorem padding_word (A : IVec Cert.Pre_padding_is_zero.S3744x8x128 32) (a s l : ℕ) (ha : a % 2 = 1) (hl : 108 ≤ l)
    (hb : a < 3744 ∧ s < 8 ∧ l < 128) (h0) :
    Host.slice Cert.Pre_padding_is_zero.S1872x8x20 ![1, 0, 108] ![2, 1, 1] A h0 (ix3 (⟨a / 2, by omega⟩ : Fin 1872) (⟨s, hb.2.1⟩ : Fin 8) (⟨l - 108, by omega⟩ : Fin 20))
      = A (ix3 ⟨a, hb.1⟩ ⟨s, hb.2.1⟩ ⟨l, hb.2.2⟩) := by
  pointwise []
  have e : (ix3 ⟨1 + 2 * (a / 2), by omega⟩ ⟨s, hb.2.1⟩ ⟨108 + (l - 108), by omega⟩ : Cert.Pre_padding_is_zero.S3744x8x128.Idx) = ix3 ⟨a, hb.1⟩ ⟨s, hb.2.1⟩ ⟨l, hb.2.2⟩ := by
    congr 1 <;> apply Fin.ext <;> simp only [] <;> omega
  exact congrArg A e

theorem eq_zero_of_cmpi {w : BitVec 32} (h : IntOp.cmpi .eq w 0#32 = 1#1) : w = 0#32 := by
  by_contra hw
  have h4 : (w == 0#32) = false := beq_eq_false_iff_ne.mpr hw
  simp only [IntOp.cmpi, h4] at h
  exact absurd h (by decide)

/-- The five slices, laid on each other. -/
theorem stacked (A : Fin 5 → IVec Cert.Pre_padding_is_zero.S1872x8x20 32) (b : Fin 5) (a : Fin 1872) (s : Fin 8) (l : Fin 20) (h0 h1) :
    (concatenate Cert.Pre_padding_is_zero.S5x1872x8x20 0 [⟨Cert.Pre_padding_is_zero.S1x1872x8x20, broadcastInDim Cert.Pre_padding_is_zero.S1x1872x8x20 ![1, 2, 3] h0 (A 0)⟩,
      ⟨Cert.Pre_padding_is_zero.S1x1872x8x20, broadcastInDim Cert.Pre_padding_is_zero.S1x1872x8x20 ![1, 2, 3] h0 (A 1)⟩,
      ⟨Cert.Pre_padding_is_zero.S1x1872x8x20, broadcastInDim Cert.Pre_padding_is_zero.S1x1872x8x20 ![1, 2, 3] h0 (A 2)⟩,
      ⟨Cert.Pre_padding_is_zero.S1x1872x8x20, broadcastInDim Cert.Pre_padding_is_zero.S1x1872x8x20 ![1, 2, 3] h0 (A 3)⟩,
      ⟨Cert.Pre_padding_is_zero.S1x1872x8x20, broadcastInDim Cert.Pre_padding_is_zero.S1x1872x8x20 ![1, 2, 3] h0 (A 4)⟩] h1 : IVec Cert.Pre_padding_is_zero.S5x1872x8x20 32) (ix4 b a s l)
      = A b (ix3 a s l) := by
  pointwise []
  fin_cases b
  all_goals rfl

theorem clear (m : (ℓ : Loc Cert.KernelIdeal.nD Cert.KernelIdeal.τ Cert.KernelIdeal.sig) → Buf (Elt Ideal) ℓ)
    (h : Cert.Pre_KernelIdeal_padding_is_zero m) (c : Dev Cert.KernelIdeal.nD) (b : Fin 5) : Clear (Cert.KernelIdeal.Hand.par m c b) := by
  intro a s l ha hl
  show rd3 0 (Cert.KernelIdeal.Hand.can m c b) a s l = 0#32
  unfold rd3
  split_ifs with hb
  · have h2 : IntOp.cmpi .eq _ 0#32 = 1#1 := congrFun (h c) (ix4 b (⟨a / 2, by omega⟩ : Fin 1872) (⟨s, hb.2.1⟩ : Fin 8) (⟨l - 108, by omega⟩ : Fin 20))
    exact ((padding_word _ a s l ha hl hb _).symm.trans (stacked (fun b => Host.slice Cert.Pre_padding_is_zero.S1872x8x20 ![1, 0, 108] ![2, 1, 1] (Cert.KernelIdeal.Hand.can m c b)
      Cert.Pre_padding_is_zero.Facts.slicesBy_S3744x8x128_S1872x8x20_1s2_0s1_108s1) b _ _ _ _ _).symm).trans (eq_zero_of_cmpi h2)
  · rfl

theorem algebraic : Cert.algebraic_KernelIdeal_ReferenceIdeal_pre_padding_is_zero := by
  intro m g m' g' hp ha
  have hpar : ∀ c : Dev Cert.KernelIdeal.nD, Cert.ReferenceIdeal.Hand.par (StableHlo.launchContents m' c) = Cert.KernelIdeal.Hand.par m c := by
    intro c
    obtain ⟨h0, h1, h2, h3, h4, h5, h6, h7, h8, h9⟩ := ha c
    have hc : ∀ b, Cert.ReferenceIdeal.Hand.can (StableHlo.launchContents m' c) b = Cert.KernelIdeal.Hand.can m c b := fun
      | 0 => h0 | 1 => h1 | 2 => h2 | 3 => h3 | 4 => h4
    funext b
    unfold Cert.ReferenceIdeal.Hand.par Cert.KernelIdeal.Hand.par
    congr 1
    · exact congrArg (rd3 0) (hc b)
    · exact congrArg (rd5 0) h5
    · exact congrArg (rd2 0) h6
    · exact congrArg (rd2 0) h7
    · exact congrArg (rd1 0) h8
    · exact congrArg (rd1 0) h9
  refine ⟨fun c => outAll (Cert.KernelIdeal.Hand.par m c) 0, fun c => outAll (Cert.KernelIdeal.Hand.par m c) 1, fun c => outAll (Cert.KernelIdeal.Hand.par m c) 2,
    fun c => outAll (Cert.KernelIdeal.Hand.par m c) 3, fun c => maxAll (Cert.KernelIdeal.Hand.par m c),
    Cert.KernelIdeal.Hand.results m g (clear m hp), ?_⟩
  refine (θ_run Cert.ReferenceIdeal.defs _ _).mono (fun r h c => ?_) (Cert.ReferenceIdeal.Hand.results m' g')
  have h := h c
  rw [hpar c] at h
  exact h

end Cert.Proof

end
-- ==== Proof.lean ====
module

public import proofs.«01_k».proof.Defs
public import proofs.«01_k».proof.Proof.Hand.Frames
public import proofs.«01_k».proof.Proof.Hand.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_padding_is_zero.Gen.facts,
    frame_kernel, frame_kernelIdeal, fun m g _ => frame_kernelIdeal m g trivial, frame_referenceIdeal, fun m g _ => frame_referenceIdeal m g trivial,
    preserves, algebraic⟩

end Cert.Proof

end
